-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S192x2x2048 Cert.KernelIdeal.S192x1x2048
  ∧ IdealRules.bf16_pack.Statement Cert.KernelIdeal.S8x128
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S192x2x2048 Cert.KernelIdeal.S192x1x2048
  ∧ IdealRules.bf16_pair.Statement Cert.KernelIdeal.S384x2048 Cert.KernelIdeal.S192x2048

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x128 : Shape := ⟨2, ![8, 128]⟩
abbrev S64x256x2 : Shape := ⟨3, ![64, 256, 2]⟩
abbrev S1048576x64 : Shape := ⟨2, ![1048576, 64]⟩
abbrev S_ : Shape := ⟨0, ![]⟩

class Facts : Prop where
  bcast_S_S8x128 : S_.BroadcastsInDim S8x128 (![] : Fin 0 → Fin S8x128.rank)
  bcast_S_S64x256x2 : S_.BroadcastsInDim S64x256x2 (![] : Fin 0 → Fin S64x256x2.rank)

variable [Facts]

def fn {F : FTy → Type} [FloatOps F] (main_arg0 : FVec F S8x128 .bf16) (main_arg1 : FVec F S64x256x2 .f32) (main_arg2 : IVec S1048576x64 8) : IVec S8x128 1 × IVec S64x256x2 1 :=
  let main_v0 : FVec F S8x128 .bf16 := Host.absf main_arg0
  let main_cst : FVec F S_ .bf16 := constant S_ .bf16 0x7F80#16
  let main_v1 : FVec F S8x128 .bf16 := broadcastInDim S8x128 ![] bcast_S_S8x128 main_cst
  let main_v2 : IVec S8x128 1 := cmpf .olt main_v0 main_v1
  let main_v3 : FVec F S64x256x2 .f32 := Host.absf main_arg1
  let main_cst_0 : FVec F S_ .f32 := constant S_ .f32 0x7F800000#32
  let main_v4 : FVec F S64x256x2 .f32 := broadcastInDim S64x256x2 ![] bcast_S_S64x256x2 main_cst_0
  let main_v5 : IVec S64x256x2 1 := cmpf .olt main_v3 main_v4
  (main_v2, main_v5)
-- ==== Kernel.lean ====
abbrev S8x128 : Shape := ⟨2, ![8, 128]⟩
abbrev S64x256x2 : Shape := ⟨3, ![64, 256, 2]⟩
abbrev S1048576x64 : Shape := ⟨2, ![1048576, 64]⟩
abbrev S64x2x128x2 : Shape := ⟨4, ![64, 2, 128, 2]⟩
abbrev S2x2x64x128 : Shape := ⟨4, ![2, 2, 64, 128]⟩
abbrev S8x64x2 : Shape := ⟨3, ![8, 64, 2]⟩
abbrev S64x2x8 : Shape := ⟨3, ![64, 2, 8]⟩
abbrev S64x16 : Shape := ⟨2, ![64, 16]⟩
abbrev S8x2x8x4x2 : Shape := ⟨5, ![8, 2, 8, 4, 2]⟩
abbrev S8x2x4x8x2 : Shape := ⟨5, ![8, 2, 4, 8, 2]⟩
abbrev S_ : Shape := ⟨0, ![]⟩
abbrev S1x8x1x128 : Shape := ⟨4, ![1, 8, 1, 128]⟩
abbrev S1x8x3x128 : Shape := ⟨4, ![1, 8, 3, 128]⟩
abbrev S8x384 : Shape := ⟨2, ![8, 384]⟩
abbrev S64x1048576 : Shape := ⟨2, ![64, 1048576]⟩
abbrev S8x1048576 : Shape := ⟨2, ![8, 1048576]⟩
abbrev S8x64x256 : Shape := ⟨3, ![8, 64, 256]⟩
abbrev S64x32768 : Shape := ⟨2, ![64, 32768]⟩
abbrev S8x32768 : Shape := ⟨2, ![8, 32768]⟩
abbrev S8x4x8x128 : Shape := ⟨4, ![8, 4, 8, 128]⟩
abbrev S192x2048 : Shape := ⟨2, ![192, 2048]⟩
abbrev S8x2048 : Shape := ⟨2, ![8, 2048]⟩
abbrev S1x1x8x128 : Shape := ⟨4, ![1, 1, 8, 128]⟩
abbrev S8 : Shape := ⟨1, ![8]⟩
abbrev S8x1 : Shape := ⟨2, ![8, 1]⟩
abbrev S64x1 : Shape := ⟨2, ![64, 1]⟩
abbrev S1x1x64x128 : Shape := ⟨4, ![1, 1, 64, 128]⟩
abbrev S64x128 : Shape := ⟨2, ![64, 128]⟩
abbrev S1x64x128 : Shape := ⟨3, ![1, 64, 128]⟩
abbrev S32x128 : Shape := ⟨2, ![32, 128]⟩
abbrev S8x128x1 : Shape := ⟨3, ![8, 128, 1]⟩
abbrev S384x2048 : Shape := ⟨2, ![384, 2048]⟩
abbrev S2048 : Shape := ⟨1, ![2048]⟩
abbrev S1x2048 : Shape := ⟨2, ![1, 2048]⟩

abbrev nBuf : Space → Nat
  | .hbm => 22
  | .vmem => 15
  | .smem => 0
  | _ => 0

abbrev bufTy : (tb : Table) → Fin (tcTables nBuf tb) → BufTy
  | .hbm, ⟨0, _⟩ => ⟨S8x128, .bf16⟩
  | .hbm, ⟨1, _⟩ => ⟨S64x256x2, .f32⟩
  | .hbm, ⟨2, _⟩ => ⟨S1048576x64, .i8⟩
  | .hbm, ⟨3, _⟩ => ⟨S64x2x128x2, .f32⟩
  | .hbm, ⟨4, _⟩ => ⟨S2x2x64x128, .f32⟩
  | .hbm, ⟨5, _⟩ => ⟨S8x128, .f32⟩
  | .hbm, ⟨6, _⟩ => ⟨S8x64x2, .f32⟩
  | .hbm, ⟨7, _⟩ => ⟨S64x2x8, .f32⟩
  | .hbm, ⟨8, _⟩ => ⟨S64x16, .f32⟩
  | .hbm, ⟨9, _⟩ => ⟨S8x2x8x4x2, .f32⟩
  | .hbm, ⟨10, _⟩ => ⟨S8x2x4x8x2, .f32⟩
  | .hbm, ⟨11, _⟩ => ⟨S8x128, .f32⟩
  | .hbm, ⟨12, _⟩ => ⟨S_, .f32⟩
  | .hbm, ⟨13, _⟩ => ⟨S8x128, .f32⟩
  | .hbm, ⟨14, _⟩ => ⟨S8x128, .f32⟩
  | .hbm, ⟨15, _⟩ => ⟨S1x8x1x128, .f32⟩
  | .hbm, ⟨16, _⟩ => ⟨S1x8x3x128, .f32⟩
  | .hbm, ⟨17, _⟩ => ⟨S8x384, .f32⟩
  | .hbm, ⟨18, _⟩ => ⟨S8x384, .bf16⟩
  | .hbm, ⟨19, _⟩ => ⟨S64x1048576, .i8⟩
  | .hbm, ⟨20, _⟩ => ⟨S8x1048576, .bf16⟩
  | .hbm, ⟨21, _⟩ => ⟨S8x64x256, .f32⟩
  | .local _ .vmem, ⟨0, _⟩ => ⟨S8x128, .bf16⟩
  | .local _ .vmem, ⟨1, _⟩ => ⟨S8x384, .bf16⟩
  | .local _ .vmem, ⟨2, _⟩ => ⟨S64x16, .f32⟩
  | .local _ .vmem, ⟨3, _⟩ => ⟨S2x2x64x128, .f32⟩
  | .local _ .vmem, ⟨4, _⟩ => ⟨S64x32768, .i8⟩
  | .local _ .vmem, ⟨5, _⟩ => ⟨S64x32768, .i8⟩
  | .local _ .vmem, ⟨6, _⟩ => ⟨S8x32768, .bf16⟩
  | .local _ .vmem, ⟨7, _⟩ => ⟨S8x32768, .bf16⟩
  | .local _ .vmem, ⟨8, _⟩ => ⟨S8x64x256, .f32⟩
  | .local _ .vmem, ⟨9, _⟩ => ⟨S8x4x8x128, .f32⟩
  | .local _ .vmem, ⟨10, _⟩ => ⟨S8x128, .f32⟩
  | .local _ .vmem, ⟨11, _⟩ => ⟨S192x2048, .i32⟩
  | .local _ .vmem, ⟨12, _⟩ => ⟨S192x2048, .i32⟩
  | .local _ .vmem, ⟨13, _⟩ => ⟨S8x2048, .f32⟩
  | .local _ .vmem, ⟨14, _⟩ => ⟨S8x2048, .f32⟩
  | _, _ => ⟨S8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [BitOps F]

abbrev grid0 : Pipeline.Grid := ⟨1, ![32], ![false]⟩

def k0_mult1 : BitVec 32 :=
  let c0_i32_1 : BitVec 32 := 0#32
  c0_i32_1
@[reducible] def k0_t1_loop : Scf.Loop 32 :=
  let c0_i32_2 : BitVec 32 := 0#32
  let c16_i32 : BitVec 32 := 16#32
  let v4 : BitVec 32 := Scalar.addi c0_i32_2 c16_i32
  let c1_i32 : BitVec 32 := 1#32
  ⟨c0_i32_2, v4, c1_i32⟩
def k0_mult2 (k0_t1 : Fin k0_t1_loop.trips) : BitVec 32 :=
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  v42
def k0_mult3 (k0_t1 : Fin k0_t1_loop.trips) : BitVec 32 :=
  let c0_i32_1 : BitVec 32 := 0#32
  let v3 : BitVec 32 := c0_i32_1
  let c0_i32_2 : BitVec 32 := 0#32
  let c1_i32 : BitVec 32 := 1#32
  let arg14 : BitVec 32 := Scf.iv c0_i32_2 c1_i32 k0_t1
  let c128_i32_32 : BitVec 32 := 128#32
  let v44 : BitVec 32 := Scalar.muli arg14 c128_i32_32
  let v45 : BitVec 32 := Scalar.addi v3 v44
  v45
def k0_off1 (k0_t1 : Fin k0_t1_loop.trips) : Fin 2 → Nat :=
  let c0_33 : Index := 0#32
  let c0_i32_1 : BitVec 32 := 0#32
  let v3 : BitVec 32 := c0_i32_1
  let c0_i32_2 : BitVec 32 := 0#32
  let c1_i32 : BitVec 32 := 1#32
  let arg14 : BitVec 32 := Scf.iv c0_i32_2 c1_i32 k0_t1
  let c128_i32_32 : BitVec 32 := 128#32
  let v44 : BitVec 32 := Scalar.muli arg14 c128_i32_32
  let v45 : BitVec 32 := Scalar.addi v3 v44
  let v46 : BitVec 32 := v45
  let v47 : Index := Scalar.indexCast v46
  ![0, v47.toNat]
def k0_off2 (k0_t1 : Fin k0_t1_loop.trips) : Fin 2 → Nat :=
  let c0_63 : Index := 0#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v123 : Index := Scalar.indexCast v43
  ![0, v123.toNat]
def k0_off3 (k0_t1 : Fin k0_t1_loop.trips) : Fin 2 → Nat :=
  let c64 : Index := 64#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v128 : Index := Scalar.indexCast v43
  ![64, v128.toNat]
def k0_off4 (k0_t1 : Fin k0_t1_loop.trips) : Fin 2 → Nat :=
  let c128 : Index := 128#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v133 : Index := Scalar.indexCast v43
  ![128, v133.toNat]
def k0_off5 (k0_t1 : Fin k0_t1_loop.trips) : Fin 2 → Nat :=
  let c8 : Index := 8#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v187 : Index := Scalar.indexCast v43
  ![8, v187.toNat]
def k0_off6 (k0_t1 : Fin k0_t1_loop.trips) : Fin 2 → Nat :=
  let c72 : Index := 72#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v192 : Index := Scalar.indexCast v43
  ![72, v192.toNat]
def k0_off7 (k0_t1 : Fin k0_t1_loop.trips) : Fin 2 → Nat :=
  let c136 : Index := 136#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v197 : Index := Scalar.indexCast v43
  ![136, v197.toNat]
def k0_off8 (k0_t1 : Fin k0_t1_loop.trips) : Fin 2 → Nat :=
  let c16 : Index := 16#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v256 : Index := Scalar.indexCast v43
  ![16, v256.toNat]
def k0_off9 (k0_t1 : Fin k0_t1_loop.trips) : Fin 2 → Nat :=
  let c80 : Index := 80#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v261 : Index := Scalar.indexCast v43
  ![80, v261.toNat]
def k0_off10 (k0_t1 : Fin k0_t1_loop.trips) : Fin 2 → Nat :=
  let c144 : Index := 144#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v266 : Index := Scalar.indexCast v43
  ![144, v266.toNat]
def k0_mult4 (k0_t1 : Fin k0_t1_loop.trips) : BitVec 32 :=
  let c0_i32_1 : BitVec 32 := 0#32
  let v3 : BitVec 32 := c0_i32_1
  let c0_i32_2 : BitVec 32 := 0#32
  let c1_i32 : BitVec 32 := 1#32
  let arg14 : BitVec 32 := Scf.iv c0_i32_2 c1_i32 k0_t1
  let c128_i32_112 : BitVec 32 := 128#32
  let v275 : BitVec 32 := Scalar.muli arg14 c128_i32_112
  let v276 : BitVec 32 := Scalar.addi v3 v275
  v276
def k0_off11 (k0_t1 : Fin k0_t1_loop.trips) : Fin 2 → Nat :=
  let c32 : Index := 32#32
  let c0_i32_1 : BitVec 32 := 0#32
  let v3 : BitVec 32 := c0_i32_1
  let c0_i32_2 : BitVec 32 := 0#32
  let c1_i32 : BitVec 32 := 1#32
  let arg14 : BitVec 32 := Scf.iv c0_i32_2 c1_i32 k0_t1
  let c128_i32_112 : BitVec 32 := 128#32
  let v275 : BitVec 32 := Scalar.muli arg14 c128_i32_112
  let v276 : BitVec 32 := Scalar.addi v3 v275
  let v277 : BitVec 32 := v276
  let v278 : Index := Scalar.indexCast v277
  ![32, v278.toNat]
def k0_off12 (k0_t1 : Fin k0_t1_loop.trips) : Fin 2 → Nat :=
  let c24 : Index := 24#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v337 : Index := Scalar.indexCast v43
  ![24, v337.toNat]
def k0_off13 (k0_t1 : Fin k0_t1_loop.trips) : Fin 2 → Nat :=
  let c88 : Index := 88#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v342 : Index := Scalar.indexCast v43
  ![88, v342.toNat]
def k0_off14 (k0_t1 : Fin k0_t1_loop.trips) : Fin 2 → Nat :=
  let c152 : Index := 152#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v347 : Index := Scalar.indexCast v43
  ![152, v347.toNat]
def k0_off15 (k0_t1 : Fin k0_t1_loop.trips) : Fin 2 → Nat :=
  let c32_155 : Index := 32#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v401 : Index := Scalar.indexCast v43
  ![32, v401.toNat]
def k0_off16 (k0_t1 : Fin k0_t1_loop.trips) : Fin 2 → Nat :=
  let c96 : Index := 96#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v406 : Index := Scalar.indexCast v43
  ![96, v406.toNat]
def k0_off17 (k0_t1 : Fin k0_t1_loop.trips) : Fin 2 → Nat :=
  let c160 : Index := 160#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v411 : Index := Scalar.indexCast v43
  ![160, v411.toNat]
def k0_off18 (k0_t1 : Fin k0_t1_loop.trips) : Fin 2 → Nat :=
  let c40 : Index := 40#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v480 : Index := Scalar.indexCast v43
  ![40, v480.toNat]
def k0_off19 (k0_t1 : Fin k0_t1_loop.trips) : Fin 2 → Nat :=
  let c104 : Index := 104#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v485 : Index := Scalar.indexCast v43
  ![104, v485.toNat]
def k0_off20 (k0_t1 : Fin k0_t1_loop.trips) : Fin 2 → Nat :=
  let c168 : Index := 168#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v490 : Index := Scalar.indexCast v43
  ![168, v490.toNat]
def k0_off21 (k0_t1 : Fin k0_t1_loop.trips) : Fin 2 → Nat :=
  let c48 : Index := 48#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v526 : Index := Scalar.indexCast v43
  ![48, v526.toNat]
def k0_off22 (k0_t1 : Fin k0_t1_loop.trips) : Fin 2 → Nat :=
  let c112 : Index := 112#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v531 : Index := Scalar.indexCast v43
  ![112, v531.toNat]
def k0_off23 (k0_t1 : Fin k0_t1_loop.trips) : Fin 2 → Nat :=
  let c176 : Index := 176#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v536 : Index := Scalar.indexCast v43
  ![176, v536.toNat]
def k0_off24 (k0_t1 : Fin k0_t1_loop.trips) : Fin 2 → Nat :=
  let c56 : Index := 56#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v595 : Index := Scalar.indexCast v43
  ![56, v595.toNat]
def k0_off25 (k0_t1 : Fin k0_t1_loop.trips) : Fin 2 → Nat :=
  let c120 : Index := 120#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v600 : Index := Scalar.indexCast v43
  ![120, v600.toNat]
def k0_off26 (k0_t1 : Fin k0_t1_loop.trips) : Fin 2 → Nat :=
  let c184 : Index := 184#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v605 : Index := Scalar.indexCast v43
  ![184, v605.toNat]
def k0_off27 (k0_t1 : Fin k0_t1_loop.trips) : Fin 2 → Nat :=
  let c0_218 : Index := 0#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v609 : Index := Scalar.indexCast v43
  ![0, v609.toNat]
@[reducible] def k0_t2_loop : Scf.Loop 32 :=
  let c0_i32_4 : BitVec 32 := 0#32
  let c7_i32 : BitVec 32 := 7#32
  let v5 : BitVec 32 := Scalar.addi c0_i32_4 c7_i32
  let c1_i32_5 : BitVec 32 := 1#32
  ⟨c0_i32_4, v5, c1_i32_5⟩
def k0_mult5 (k0_t2 : Fin k0_t2_loop.trips) : BitVec 32 :=
  let c2_i32 : BitVec 32 := 2#32
  let c0_i32_4 : BitVec 32 := 0#32
  let c1_i32_5 : BitVec 32 := 1#32
  let arg14 : BitVec 32 := Scf.iv c0_i32_4 c1_i32_5 k0_t2
  let v42 : BitVec 32 := Scalar.muli c2_i32 arg14
  let c1_i32_32 : BitVec 32 := 1#32
  let v43 : BitVec 32 := Scalar.addi v42 c1_i32_32
  let c2048_i32 : BitVec 32 := 2048#32
  let v44 : BitVec 32 := Scalar.muli v43 c2048_i32
  v44
@[reducible] def k0_t3_loop : Scf.Loop 32 :=
  let c0_i32_33 : BitVec 32 := 0#32
  let c16_i32_34 : BitVec 32 := 16#32
  let v46 : BitVec 32 := Scalar.addi c0_i32_33 c16_i32_34
  let c1_i32_35 : BitVec 32 := 1#32
  ⟨c0_i32_33, v46, c1_i32_35⟩
def k0_mult6 (k0_t3 : Fin k0_t3_loop.trips) : BitVec 32 :=
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  v91
def k0_mult7 (k0_t2 : Fin k0_t2_loop.trips) (k0_t3 : Fin k0_t3_loop.trips) : BitVec 32 :=
  let c2_i32 : BitVec 32 := 2#32
  let c0_i32_4 : BitVec 32 := 0#32
  let c1_i32_5 : BitVec 32 := 1#32
  let arg14 : BitVec 32 := Scf.iv c0_i32_4 c1_i32_5 k0_t2
  let v42 : BitVec 32 := Scalar.muli c2_i32 arg14
  let c1_i32_32 : BitVec 32 := 1#32
  let v43 : BitVec 32 := Scalar.addi v42 c1_i32_32
  let c2048_i32 : BitVec 32 := 2048#32
  let v44 : BitVec 32 := Scalar.muli v43 c2048_i32
  let v45 : BitVec 32 := v44
  let c0_i32_33 : BitVec 32 := 0#32
  let c1_i32_35 : BitVec 32 := 1#32
  let arg15 : BitVec 32 := Scf.iv c0_i32_33 c1_i32_35 k0_t3
  let c128_i32_71 : BitVec 32 := 128#32
  let v93 : BitVec 32 := Scalar.muli arg15 c128_i32_71
  let v94 : BitVec 32 := Scalar.addi v45 v93
  v94
def k0_off28 (k0_t2 : Fin k0_t2_loop.trips) (k0_t3 : Fin k0_t3_loop.trips) : Fin 2 → Nat :=
  let c0_72 : Index := 0#32
  let c2_i32 : BitVec 32 := 2#32
  let c0_i32_4 : BitVec 32 := 0#32
  let c1_i32_5 : BitVec 32 := 1#32
  let arg14 : BitVec 32 := Scf.iv c0_i32_4 c1_i32_5 k0_t2
  let v42 : BitVec 32 := Scalar.muli c2_i32 arg14
  let c1_i32_32 : BitVec 32 := 1#32
  let v43 : BitVec 32 := Scalar.addi v42 c1_i32_32
  let c2048_i32 : BitVec 32 := 2048#32
  let v44 : BitVec 32 := Scalar.muli v43 c2048_i32
  let v45 : BitVec 32 := v44
  let c0_i32_33 : BitVec 32 := 0#32
  let c1_i32_35 : BitVec 32 := 1#32
  let arg15 : BitVec 32 := Scf.iv c0_i32_33 c1_i32_35 k0_t3
  let c128_i32_71 : BitVec 32 := 128#32
  let v93 : BitVec 32 := Scalar.muli arg15 c128_i32_71
  let v94 : BitVec 32 := Scalar.addi v45 v93
  let v95 : BitVec 32 := v94
  let v96 : Index := Scalar.indexCast v95
  ![0, v96.toNat]
def k0_off29 (k0_t3 : Fin k0_t3_loop.trips) : Fin 2 → Nat :=
  let c0_102 : Index := 0#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v172 : Index := Scalar.indexCast v92
  ![0, v172.toNat]
def k0_off30 (k0_t3 : Fin k0_t3_loop.trips) : Fin 2 → Nat :=
  let c64 : Index := 64#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v177 : Index := Scalar.indexCast v92
  ![64, v177.toNat]
def k0_off31 (k0_t3 : Fin k0_t3_loop.trips) : Fin 2 → Nat :=
  let c128 : Index := 128#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v182 : Index := Scalar.indexCast v92
  ![128, v182.toNat]
def k0_off32 (k0_t3 : Fin k0_t3_loop.trips) : Fin 2 → Nat :=
  let c8 : Index := 8#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v236 : Index := Scalar.indexCast v92
  ![8, v236.toNat]
def k0_off33 (k0_t3 : Fin k0_t3_loop.trips) : Fin 2 → Nat :=
  let c72 : Index := 72#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v241 : Index := Scalar.indexCast v92
  ![72, v241.toNat]
def k0_off34 (k0_t3 : Fin k0_t3_loop.trips) : Fin 2 → Nat :=
  let c136 : Index := 136#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v246 : Index := Scalar.indexCast v92
  ![136, v246.toNat]
def k0_off35 (k0_t3 : Fin k0_t3_loop.trips) : Fin 2 → Nat :=
  let c16 : Index := 16#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v305 : Index := Scalar.indexCast v92
  ![16, v305.toNat]
def k0_off36 (k0_t3 : Fin k0_t3_loop.trips) : Fin 2 → Nat :=
  let c80 : Index := 80#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v310 : Index := Scalar.indexCast v92
  ![80, v310.toNat]
def k0_off37 (k0_t3 : Fin k0_t3_loop.trips) : Fin 2 → Nat :=
  let c144 : Index := 144#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v315 : Index := Scalar.indexCast v92
  ![144, v315.toNat]
def k0_mult8 (k0_t2 : Fin k0_t2_loop.trips) (k0_t3 : Fin k0_t3_loop.trips) : BitVec 32 :=
  let c2_i32 : BitVec 32 := 2#32
  let c0_i32_4 : BitVec 32 := 0#32
  let c1_i32_5 : BitVec 32 := 1#32
  let arg14 : BitVec 32 := Scf.iv c0_i32_4 c1_i32_5 k0_t2
  let v42 : BitVec 32 := Scalar.muli c2_i32 arg14
  let c1_i32_32 : BitVec 32 := 1#32
  let v43 : BitVec 32 := Scalar.addi v42 c1_i32_32
  let c2048_i32 : BitVec 32 := 2048#32
  let v44 : BitVec 32 := Scalar.muli v43 c2048_i32
  let v45 : BitVec 32 := v44
  let c0_i32_33 : BitVec 32 := 0#32
  let c1_i32_35 : BitVec 32 := 1#32
  let arg15 : BitVec 32 := Scf.iv c0_i32_33 c1_i32_35 k0_t3
  let c128_i32_151 : BitVec 32 := 128#32
  let v324 : BitVec 32 := Scalar.muli arg15 c128_i32_151
  let v325 : BitVec 32 := Scalar.addi v45 v324
  v325
def k0_off38 (k0_t2 : Fin k0_t2_loop.trips) (k0_t3 : Fin k0_t3_loop.trips) : Fin 2 → Nat :=
  let c32 : Index := 32#32
  let c2_i32 : BitVec 32 := 2#32
  let c0_i32_4 : BitVec 32 := 0#32
  let c1_i32_5 : BitVec 32 := 1#32
  let arg14 : BitVec 32 := Scf.iv c0_i32_4 c1_i32_5 k0_t2
  let v42 : BitVec 32 := Scalar.muli c2_i32 arg14
  let c1_i32_32 : BitVec 32 := 1#32
  let v43 : BitVec 32 := Scalar.addi v42 c1_i32_32
  let c2048_i32 : BitVec 32 := 2048#32
  let v44 : BitVec 32 := Scalar.muli v43 c2048_i32
  let v45 : BitVec 32 := v44
  let c0_i32_33 : BitVec 32 := 0#32
  let c1_i32_35 : BitVec 32 := 1#32
  let arg15 : BitVec 32 := Scf.iv c0_i32_33 c1_i32_35 k0_t3
  let c128_i32_151 : BitVec 32 := 128#32
  let v324 : BitVec 32 := Scalar.muli arg15 c128_i32_151
  let v325 : BitVec 32 := Scalar.addi v45 v324
  let v326 : BitVec 32 := v325
  let v327 : Index := Scalar.indexCast v326
  ![32, v327.toNat]
def k0_off39 (k0_t3 : Fin k0_t3_loop.trips) : Fin 2 → Nat :=
  let c24 : Index := 24#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v386 : Index := Scalar.indexCast v92
  ![24, v386.toNat]
def k0_off40 (k0_t3 : Fin k0_t3_loop.trips) : Fin 2 → Nat :=
  let c88 : Index := 88#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v391 : Index := Scalar.indexCast v92
  ![88, v391.toNat]
def k0_off41 (k0_t3 : Fin k0_t3_loop.trips) : Fin 2 → Nat :=
  let c152 : Index := 152#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v396 : Index := Scalar.indexCast v92
  ![152, v396.toNat]
def k0_off42 (k0_t3 : Fin k0_t3_loop.trips) : Fin 2 → Nat :=
  let c32_194 : Index := 32#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v450 : Index := Scalar.indexCast v92
  ![32, v450.toNat]
def k0_off43 (k0_t3 : Fin k0_t3_loop.trips) : Fin 2 → Nat :=
  let c96 : Index := 96#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v455 : Index := Scalar.indexCast v92
  ![96, v455.toNat]
def k0_off44 (k0_t3 : Fin k0_t3_loop.trips) : Fin 2 → Nat :=
  let c160 : Index := 160#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v460 : Index := Scalar.indexCast v92
  ![160, v460.toNat]
def k0_off45 (k0_t3 : Fin k0_t3_loop.trips) : Fin 2 → Nat :=
  let c40 : Index := 40#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v529 : Index := Scalar.indexCast v92
  ![40, v529.toNat]
def k0_off46 (k0_t3 : Fin k0_t3_loop.trips) : Fin 2 → Nat :=
  let c104 : Index := 104#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v534 : Index := Scalar.indexCast v92
  ![104, v534.toNat]
def k0_off47 (k0_t3 : Fin k0_t3_loop.trips) : Fin 2 → Nat :=
  let c168 : Index := 168#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v539 : Index := Scalar.indexCast v92
  ![168, v539.toNat]
def k0_off48 (k0_t3 : Fin k0_t3_loop.trips) : Fin 2 → Nat :=
  let c48 : Index := 48#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v575 : Index := Scalar.indexCast v92
  ![48, v575.toNat]
def k0_off49 (k0_t3 : Fin k0_t3_loop.trips) : Fin 2 → Nat :=
  let c112 : Index := 112#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v580 : Index := Scalar.indexCast v92
  ![112, v580.toNat]
def k0_off50 (k0_t3 : Fin k0_t3_loop.trips) : Fin 2 → Nat :=
  let c176 : Index := 176#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v585 : Index := Scalar.indexCast v92
  ![176, v585.toNat]
def k0_off51 (k0_t3 : Fin k0_t3_loop.trips) : Fin 2 → Nat :=
  let c56 : Index := 56#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v644 : Index := Scalar.indexCast v92
  ![56, v644.toNat]
def k0_off52 (k0_t3 : Fin k0_t3_loop.trips) : Fin 2 → Nat :=
  let c120 : Index := 120#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v649 : Index := Scalar.indexCast v92
  ![120, v649.toNat]
def k0_off53 (k0_t3 : Fin k0_t3_loop.trips) : Fin 2 → Nat :=
  let c184 : Index := 184#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v654 : Index := Scalar.indexCast v92
  ![184, v654.toNat]
def k0_off54 (k0_t3 : Fin k0_t3_loop.trips) : Fin 2 → Nat :=
  let c0_257 : Index := 0#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v658 : Index := Scalar.indexCast v92
  ![0, v658.toNat]
def k0_mult9 (k0_t2 : Fin k0_t2_loop.trips) : BitVec 32 :=
  let c2_i32_37 : BitVec 32 := 2#32
  let c0_i32_4 : BitVec 32 := 0#32
  let c1_i32_5 : BitVec 32 := 1#32
  let arg14 : BitVec 32 := Scf.iv c0_i32_4 c1_i32_5 k0_t2
  let v47 : BitVec 32 := Scalar.muli c2_i32_37 arg14
  let c2048_i32_38 : BitVec 32 := 2048#32
  let v48 : BitVec 32 := Scalar.muli v47 c2048_i32_38
  v48
def k0_off55 (k0_t2 : Fin k0_t2_loop.trips) : Fin 2 → Nat :=
  let c0_49 : Index := 0#32
  let c2_i32_37 : BitVec 32 := 2#32
  let c0_i32_4 : BitVec 32 := 0#32
  let c1_i32_5 : BitVec 32 := 1#32
  let arg14 : BitVec 32 := Scf.iv c0_i32_4 c1_i32_5 k0_t2
  let v47 : BitVec 32 := Scalar.muli c2_i32_37 arg14
  let c2048_i32_38 : BitVec 32 := 2048#32
  let v48 : BitVec 32 := Scalar.muli v47 c2048_i32_38
  let v49 : BitVec 32 := v48
  let v64 : Index := Scalar.indexCast v49
  ![0, v64.toNat]
def k0_mult10 (k0_t2 : Fin k0_t2_loop.trips) : BitVec 32 :=
  let c2_i32_50 : BitVec 32 := 2#32
  let c0_i32_4 : BitVec 32 := 0#32
  let c1_i32_5 : BitVec 32 := 1#32
  let arg14 : BitVec 32 := Scf.iv c0_i32_4 c1_i32_5 k0_t2
  let v66 : BitVec 32 := Scalar.muli c2_i32_50 arg14
  let c2_i32_51 : BitVec 32 := 2#32
  let v67 : BitVec 32 := Scalar.addi v66 c2_i32_51
  let c2048_i32_52 : BitVec 32 := 2048#32
  let v68 : BitVec 32 := Scalar.muli v67 c2048_i32_52
  v68
@[reducible] def k0_t4_loop : Scf.Loop 32 :=
  let c0_i32_53 : BitVec 32 := 0#32
  let c16_i32_54 : BitVec 32 := 16#32
  let v70 : BitVec 32 := Scalar.addi c0_i32_53 c16_i32_54
  let c1_i32_55 : BitVec 32 := 1#32
  ⟨c0_i32_53, v70, c1_i32_55⟩
def k0_mult11 (k0_t4 : Fin k0_t4_loop.trips) : BitVec 32 :=
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  v91
def k0_mult12 (k0_t2 : Fin k0_t2_loop.trips) (k0_t4 : Fin k0_t4_loop.trips) : BitVec 32 :=
  let c2_i32_50 : BitVec 32 := 2#32
  let c0_i32_4 : BitVec 32 := 0#32
  let c1_i32_5 : BitVec 32 := 1#32
  let arg14 : BitVec 32 := Scf.iv c0_i32_4 c1_i32_5 k0_t2
  let v66 : BitVec 32 := Scalar.muli c2_i32_50 arg14
  let c2_i32_51 : BitVec 32 := 2#32
  let v67 : BitVec 32 := Scalar.addi v66 c2_i32_51
  let c2048_i32_52 : BitVec 32 := 2048#32
  let v68 : BitVec 32 := Scalar.muli v67 c2048_i32_52
  let v69 : BitVec 32 := v68
  let c0_i32_53 : BitVec 32 := 0#32
  let c1_i32_55 : BitVec 32 := 1#32
  let arg15 : BitVec 32 := Scf.iv c0_i32_53 c1_i32_55 k0_t4
  let c128_i32_71 : BitVec 32 := 128#32
  let v93 : BitVec 32 := Scalar.muli arg15 c128_i32_71
  let v94 : BitVec 32 := Scalar.addi v69 v93
  v94
def k0_off56 (k0_t2 : Fin k0_t2_loop.trips) (k0_t4 : Fin k0_t4_loop.trips) : Fin 2 → Nat :=
  let c0_72 : Index := 0#32
  let c2_i32_50 : BitVec 32 := 2#32
  let c0_i32_4 : BitVec 32 := 0#32
  let c1_i32_5 : BitVec 32 := 1#32
  let arg14 : BitVec 32 := Scf.iv c0_i32_4 c1_i32_5 k0_t2
  let v66 : BitVec 32 := Scalar.muli c2_i32_50 arg14
  let c2_i32_51 : BitVec 32 := 2#32
  let v67 : BitVec 32 := Scalar.addi v66 c2_i32_51
  let c2048_i32_52 : BitVec 32 := 2048#32
  let v68 : BitVec 32 := Scalar.muli v67 c2048_i32_52
  let v69 : BitVec 32 := v68
  let c0_i32_53 : BitVec 32 := 0#32
  let c1_i32_55 : BitVec 32 := 1#32
  let arg15 : BitVec 32 := Scf.iv c0_i32_53 c1_i32_55 k0_t4
  let c128_i32_71 : BitVec 32 := 128#32
  let v93 : BitVec 32 := Scalar.muli arg15 c128_i32_71
  let v94 : BitVec 32 := Scalar.addi v69 v93
  let v95 : BitVec 32 := v94
  let v96 : Index := Scalar.indexCast v95
  ![0, v96.toNat]
def k0_off57 (k0_t4 : Fin k0_t4_loop.trips) : Fin 2 → Nat :=
  let c0_102 : Index := 0#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v172 : Index := Scalar.indexCast v92
  ![0, v172.toNat]
def k0_off58 (k0_t4 : Fin k0_t4_loop.trips) : Fin 2 → Nat :=
  let c64 : Index := 64#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v177 : Index := Scalar.indexCast v92
  ![64, v177.toNat]
def k0_off59 (k0_t4 : Fin k0_t4_loop.trips) : Fin 2 → Nat :=
  let c128 : Index := 128#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v182 : Index := Scalar.indexCast v92
  ![128, v182.toNat]
def k0_off60 (k0_t4 : Fin k0_t4_loop.trips) : Fin 2 → Nat :=
  let c8 : Index := 8#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v236 : Index := Scalar.indexCast v92
  ![8, v236.toNat]
def k0_off61 (k0_t4 : Fin k0_t4_loop.trips) : Fin 2 → Nat :=
  let c72 : Index := 72#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v241 : Index := Scalar.indexCast v92
  ![72, v241.toNat]
def k0_off62 (k0_t4 : Fin k0_t4_loop.trips) : Fin 2 → Nat :=
  let c136 : Index := 136#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v246 : Index := Scalar.indexCast v92
  ![136, v246.toNat]
def k0_off63 (k0_t4 : Fin k0_t4_loop.trips) : Fin 2 → Nat :=
  let c16 : Index := 16#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v305 : Index := Scalar.indexCast v92
  ![16, v305.toNat]
def k0_off64 (k0_t4 : Fin k0_t4_loop.trips) : Fin 2 → Nat :=
  let c80 : Index := 80#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v310 : Index := Scalar.indexCast v92
  ![80, v310.toNat]
def k0_off65 (k0_t4 : Fin k0_t4_loop.trips) : Fin 2 → Nat :=
  let c144 : Index := 144#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v315 : Index := Scalar.indexCast v92
  ![144, v315.toNat]
def k0_mult13 (k0_t2 : Fin k0_t2_loop.trips) (k0_t4 : Fin k0_t4_loop.trips) : BitVec 32 :=
  let c2_i32_50 : BitVec 32 := 2#32
  let c0_i32_4 : BitVec 32 := 0#32
  let c1_i32_5 : BitVec 32 := 1#32
  let arg14 : BitVec 32 := Scf.iv c0_i32_4 c1_i32_5 k0_t2
  let v66 : BitVec 32 := Scalar.muli c2_i32_50 arg14
  let c2_i32_51 : BitVec 32 := 2#32
  let v67 : BitVec 32 := Scalar.addi v66 c2_i32_51
  let c2048_i32_52 : BitVec 32 := 2048#32
  let v68 : BitVec 32 := Scalar.muli v67 c2048_i32_52
  let v69 : BitVec 32 := v68
  let c0_i32_53 : BitVec 32 := 0#32
  let c1_i32_55 : BitVec 32 := 1#32
  let arg15 : BitVec 32 := Scf.iv c0_i32_53 c1_i32_55 k0_t4
  let c128_i32_151 : BitVec 32 := 128#32
  let v324 : BitVec 32 := Scalar.muli arg15 c128_i32_151
  let v325 : BitVec 32 := Scalar.addi v69 v324
  v325
def k0_off66 (k0_t2 : Fin k0_t2_loop.trips) (k0_t4 : Fin k0_t4_loop.trips) : Fin 2 → Nat :=
  let c32 : Index := 32#32
  let c2_i32_50 : BitVec 32 := 2#32
  let c0_i32_4 : BitVec 32 := 0#32
  let c1_i32_5 : BitVec 32 := 1#32
  let arg14 : BitVec 32 := Scf.iv c0_i32_4 c1_i32_5 k0_t2
  let v66 : BitVec 32 := Scalar.muli c2_i32_50 arg14
  let c2_i32_51 : BitVec 32 := 2#32
  let v67 : BitVec 32 := Scalar.addi v66 c2_i32_51
  let c2048_i32_52 : BitVec 32 := 2048#32
  let v68 : BitVec 32 := Scalar.muli v67 c2048_i32_52
  let v69 : BitVec 32 := v68
  let c0_i32_53 : BitVec 32 := 0#32
  let c1_i32_55 : BitVec 32 := 1#32
  let arg15 : BitVec 32 := Scf.iv c0_i32_53 c1_i32_55 k0_t4
  let c128_i32_151 : BitVec 32 := 128#32
  let v324 : BitVec 32 := Scalar.muli arg15 c128_i32_151
  let v325 : BitVec 32 := Scalar.addi v69 v324
  let v326 : BitVec 32 := v325
  let v327 : Index := Scalar.indexCast v326
  ![32, v327.toNat]
def k0_off67 (k0_t4 : Fin k0_t4_loop.trips) : Fin 2 → Nat :=
  let c24 : Index := 24#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v386 : Index := Scalar.indexCast v92
  ![24, v386.toNat]
def k0_off68 (k0_t4 : Fin k0_t4_loop.trips) : Fin 2 → Nat :=
  let c88 : Index := 88#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v391 : Index := Scalar.indexCast v92
  ![88, v391.toNat]
def k0_off69 (k0_t4 : Fin k0_t4_loop.trips) : Fin 2 → Nat :=
  let c152 : Index := 152#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v396 : Index := Scalar.indexCast v92
  ![152, v396.toNat]
def k0_off70 (k0_t4 : Fin k0_t4_loop.trips) : Fin 2 → Nat :=
  let c32_194 : Index := 32#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v450 : Index := Scalar.indexCast v92
  ![32, v450.toNat]
def k0_off71 (k0_t4 : Fin k0_t4_loop.trips) : Fin 2 → Nat :=
  let c96 : Index := 96#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v455 : Index := Scalar.indexCast v92
  ![96, v455.toNat]
def k0_off72 (k0_t4 : Fin k0_t4_loop.trips) : Fin 2 → Nat :=
  let c160 : Index := 160#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v460 : Index := Scalar.indexCast v92
  ![160, v460.toNat]
def k0_off73 (k0_t4 : Fin k0_t4_loop.trips) : Fin 2 → Nat :=
  let c40 : Index := 40#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v529 : Index := Scalar.indexCast v92
  ![40, v529.toNat]
def k0_off74 (k0_t4 : Fin k0_t4_loop.trips) : Fin 2 → Nat :=
  let c104 : Index := 104#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v534 : Index := Scalar.indexCast v92
  ![104, v534.toNat]
def k0_off75 (k0_t4 : Fin k0_t4_loop.trips) : Fin 2 → Nat :=
  let c168 : Index := 168#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v539 : Index := Scalar.indexCast v92
  ![168, v539.toNat]
def k0_off76 (k0_t4 : Fin k0_t4_loop.trips) : Fin 2 → Nat :=
  let c48 : Index := 48#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v575 : Index := Scalar.indexCast v92
  ![48, v575.toNat]
def k0_off77 (k0_t4 : Fin k0_t4_loop.trips) : Fin 2 → Nat :=
  let c112 : Index := 112#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v580 : Index := Scalar.indexCast v92
  ![112, v580.toNat]
def k0_off78 (k0_t4 : Fin k0_t4_loop.trips) : Fin 2 → Nat :=
  let c176 : Index := 176#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v585 : Index := Scalar.indexCast v92
  ![176, v585.toNat]
def k0_off79 (k0_t4 : Fin k0_t4_loop.trips) : Fin 2 → Nat :=
  let c56 : Index := 56#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v644 : Index := Scalar.indexCast v92
  ![56, v644.toNat]
def k0_off80 (k0_t4 : Fin k0_t4_loop.trips) : Fin 2 → Nat :=
  let c120 : Index := 120#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v649 : Index := Scalar.indexCast v92
  ![120, v649.toNat]
def k0_off81 (k0_t4 : Fin k0_t4_loop.trips) : Fin 2 → Nat :=
  let c184 : Index := 184#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v654 : Index := Scalar.indexCast v92
  ![184, v654.toNat]
def k0_off82 (k0_t4 : Fin k0_t4_loop.trips) : Fin 2 → Nat :=
  let c0_257 : Index := 0#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v658 : Index := Scalar.indexCast v92
  ![0, v658.toNat]
def k0_mult14 (k0_t2 : Fin k0_t2_loop.trips) : BitVec 32 :=
  let c2_i32_57 : BitVec 32 := 2#32
  let c0_i32_4 : BitVec 32 := 0#32
  let c1_i32_5 : BitVec 32 := 1#32
  let arg14 : BitVec 32 := Scf.iv c0_i32_4 c1_i32_5 k0_t2
  let v71 : BitVec 32 := Scalar.muli c2_i32_57 arg14
  let c1_i32_58 : BitVec 32 := 1#32
  let v72 : BitVec 32 := Scalar.addi v71 c1_i32_58
  let c2048_i32_59 : BitVec 32 := 2048#32
  let v73 : BitVec 32 := Scalar.muli v72 c2048_i32_59
  v73
def k0_off83 (k0_t2 : Fin k0_t2_loop.trips) : Fin 2 → Nat :=
  let c0_70 : Index := 0#32
  let c2_i32_57 : BitVec 32 := 2#32
  let c0_i32_4 : BitVec 32 := 0#32
  let c1_i32_5 : BitVec 32 := 1#32
  let arg14 : BitVec 32 := Scf.iv c0_i32_4 c1_i32_5 k0_t2
  let v71 : BitVec 32 := Scalar.muli c2_i32_57 arg14
  let c1_i32_58 : BitVec 32 := 1#32
  let v72 : BitVec 32 := Scalar.addi v71 c1_i32_58
  let c2048_i32_59 : BitVec 32 := 2048#32
  let v73 : BitVec 32 := Scalar.muli v72 c2048_i32_59
  let v74 : BitVec 32 := v73
  let v89 : Index := Scalar.indexCast v74
  ![0, v89.toNat]
def k0_mult15 : BitVec 32 :=
  let c30720_i32 : BitVec 32 := 30720#32
  c30720_i32
@[reducible] def k0_t5_loop : Scf.Loop 32 :=
  let c0_i32_7 : BitVec 32 := 0#32
  let c16_i32_8 : BitVec 32 := 16#32
  let v7 : BitVec 32 := Scalar.addi c0_i32_7 c16_i32_8
  let c1_i32_9 : BitVec 32 := 1#32
  ⟨c0_i32_7, v7, c1_i32_9⟩
def k0_mult16 (k0_t5 : Fin k0_t5_loop.trips) : BitVec 32 :=
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  v42
def k0_mult17 (k0_t5 : Fin k0_t5_loop.trips) : BitVec 32 :=
  let c30720_i32 : BitVec 32 := 30720#32
  let v6 : BitVec 32 := c30720_i32
  let c0_i32_7 : BitVec 32 := 0#32
  let c1_i32_9 : BitVec 32 := 1#32
  let arg14 : BitVec 32 := Scf.iv c0_i32_7 c1_i32_9 k0_t5
  let c128_i32_32 : BitVec 32 := 128#32
  let v44 : BitVec 32 := Scalar.muli arg14 c128_i32_32
  let v45 : BitVec 32 := Scalar.addi v6 v44
  v45
def k0_off84 (k0_t5 : Fin k0_t5_loop.trips) : Fin 2 → Nat :=
  let c0_33 : Index := 0#32
  let c30720_i32 : BitVec 32 := 30720#32
  let v6 : BitVec 32 := c30720_i32
  let c0_i32_7 : BitVec 32 := 0#32
  let c1_i32_9 : BitVec 32 := 1#32
  let arg14 : BitVec 32 := Scf.iv c0_i32_7 c1_i32_9 k0_t5
  let c128_i32_32 : BitVec 32 := 128#32
  let v44 : BitVec 32 := Scalar.muli arg14 c128_i32_32
  let v45 : BitVec 32 := Scalar.addi v6 v44
  let v46 : BitVec 32 := v45
  let v47 : Index := Scalar.indexCast v46
  ![0, v47.toNat]
def k0_off85 (k0_t5 : Fin k0_t5_loop.trips) : Fin 2 → Nat :=
  let c0_63 : Index := 0#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v123 : Index := Scalar.indexCast v43
  ![0, v123.toNat]
def k0_off86 (k0_t5 : Fin k0_t5_loop.trips) : Fin 2 → Nat :=
  let c64 : Index := 64#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v128 : Index := Scalar.indexCast v43
  ![64, v128.toNat]
def k0_off87 (k0_t5 : Fin k0_t5_loop.trips) : Fin 2 → Nat :=
  let c128 : Index := 128#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v133 : Index := Scalar.indexCast v43
  ![128, v133.toNat]
def k0_off88 (k0_t5 : Fin k0_t5_loop.trips) : Fin 2 → Nat :=
  let c8 : Index := 8#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v187 : Index := Scalar.indexCast v43
  ![8, v187.toNat]
def k0_off89 (k0_t5 : Fin k0_t5_loop.trips) : Fin 2 → Nat :=
  let c72 : Index := 72#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v192 : Index := Scalar.indexCast v43
  ![72, v192.toNat]
def k0_off90 (k0_t5 : Fin k0_t5_loop.trips) : Fin 2 → Nat :=
  let c136 : Index := 136#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v197 : Index := Scalar.indexCast v43
  ![136, v197.toNat]
def k0_off91 (k0_t5 : Fin k0_t5_loop.trips) : Fin 2 → Nat :=
  let c16 : Index := 16#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v256 : Index := Scalar.indexCast v43
  ![16, v256.toNat]
def k0_off92 (k0_t5 : Fin k0_t5_loop.trips) : Fin 2 → Nat :=
  let c80 : Index := 80#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v261 : Index := Scalar.indexCast v43
  ![80, v261.toNat]
def k0_off93 (k0_t5 : Fin k0_t5_loop.trips) : Fin 2 → Nat :=
  let c144 : Index := 144#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v266 : Index := Scalar.indexCast v43
  ![144, v266.toNat]
def k0_mult18 (k0_t5 : Fin k0_t5_loop.trips) : BitVec 32 :=
  let c30720_i32 : BitVec 32 := 30720#32
  let v6 : BitVec 32 := c30720_i32
  let c0_i32_7 : BitVec 32 := 0#32
  let c1_i32_9 : BitVec 32 := 1#32
  let arg14 : BitVec 32 := Scf.iv c0_i32_7 c1_i32_9 k0_t5
  let c128_i32_112 : BitVec 32 := 128#32
  let v275 : BitVec 32 := Scalar.muli arg14 c128_i32_112
  let v276 : BitVec 32 := Scalar.addi v6 v275
  v276
def k0_off94 (k0_t5 : Fin k0_t5_loop.trips) : Fin 2 → Nat :=
  let c32 : Index := 32#32
  let c30720_i32 : BitVec 32 := 30720#32
  let v6 : BitVec 32 := c30720_i32
  let c0_i32_7 : BitVec 32 := 0#32
  let c1_i32_9 : BitVec 32 := 1#32
  let arg14 : BitVec 32 := Scf.iv c0_i32_7 c1_i32_9 k0_t5
  let c128_i32_112 : BitVec 32 := 128#32
  let v275 : BitVec 32 := Scalar.muli arg14 c128_i32_112
  let v276 : BitVec 32 := Scalar.addi v6 v275
  let v277 : BitVec 32 := v276
  let v278 : Index := Scalar.indexCast v277
  ![32, v278.toNat]
def k0_off95 (k0_t5 : Fin k0_t5_loop.trips) : Fin 2 → Nat :=
  let c24 : Index := 24#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v337 : Index := Scalar.indexCast v43
  ![24, v337.toNat]
def k0_off96 (k0_t5 : Fin k0_t5_loop.trips) : Fin 2 → Nat :=
  let c88 : Index := 88#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v342 : Index := Scalar.indexCast v43
  ![88, v342.toNat]
def k0_off97 (k0_t5 : Fin k0_t5_loop.trips) : Fin 2 → Nat :=
  let c152 : Index := 152#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v347 : Index := Scalar.indexCast v43
  ![152, v347.toNat]
def k0_off98 (k0_t5 : Fin k0_t5_loop.trips) : Fin 2 → Nat :=
  let c32_155 : Index := 32#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v401 : Index := Scalar.indexCast v43
  ![32, v401.toNat]
def k0_off99 (k0_t5 : Fin k0_t5_loop.trips) : Fin 2 → Nat :=
  let c96 : Index := 96#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v406 : Index := Scalar.indexCast v43
  ![96, v406.toNat]
def k0_off100 (k0_t5 : Fin k0_t5_loop.trips) : Fin 2 → Nat :=
  let c160 : Index := 160#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v411 : Index := Scalar.indexCast v43
  ![160, v411.toNat]
def k0_off101 (k0_t5 : Fin k0_t5_loop.trips) : Fin 2 → Nat :=
  let c40 : Index := 40#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v480 : Index := Scalar.indexCast v43
  ![40, v480.toNat]
def k0_off102 (k0_t5 : Fin k0_t5_loop.trips) : Fin 2 → Nat :=
  let c104 : Index := 104#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v485 : Index := Scalar.indexCast v43
  ![104, v485.toNat]
def k0_off103 (k0_t5 : Fin k0_t5_loop.trips) : Fin 2 → Nat :=
  let c168 : Index := 168#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v490 : Index := Scalar.indexCast v43
  ![168, v490.toNat]
def k0_off104 (k0_t5 : Fin k0_t5_loop.trips) : Fin 2 → Nat :=
  let c48 : Index := 48#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v526 : Index := Scalar.indexCast v43
  ![48, v526.toNat]
def k0_off105 (k0_t5 : Fin k0_t5_loop.trips) : Fin 2 → Nat :=
  let c112 : Index := 112#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v531 : Index := Scalar.indexCast v43
  ![112, v531.toNat]
def k0_off106 (k0_t5 : Fin k0_t5_loop.trips) : Fin 2 → Nat :=
  let c176 : Index := 176#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v536 : Index := Scalar.indexCast v43
  ![176, v536.toNat]
def k0_off107 (k0_t5 : Fin k0_t5_loop.trips) : Fin 2 → Nat :=
  let c56 : Index := 56#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v595 : Index := Scalar.indexCast v43
  ![56, v595.toNat]
def k0_off108 (k0_t5 : Fin k0_t5_loop.trips) : Fin 2 → Nat :=
  let c120 : Index := 120#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v600 : Index := Scalar.indexCast v43
  ![120, v600.toNat]
def k0_off109 (k0_t5 : Fin k0_t5_loop.trips) : Fin 2 → Nat :=
  let c184 : Index := 184#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v605 : Index := Scalar.indexCast v43
  ![184, v605.toNat]
def k0_off110 (k0_t5 : Fin k0_t5_loop.trips) : Fin 2 → Nat :=
  let c0_218 : Index := 0#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v609 : Index := Scalar.indexCast v43
  ![0, v609.toNat]
def k0_mult19 : BitVec 32 :=
  let c28672_i32 : BitVec 32 := 28672#32
  c28672_i32
def k0_mult20 : BitVec 32 :=
  let c30720_i32_20 : BitVec 32 := 30720#32
  c30720_i32_20
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x32768 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
abbrev S8x128 : Shape := ⟨2, ![8, 128]⟩
abbrev S64x256x2 : Shape := ⟨3, ![64, 256, 2]⟩
abbrev S1048576x64 : Shape := ⟨2, ![1048576, 64]⟩
abbrev S64x2x128x2 : Shape := ⟨4, ![64, 2, 128, 2]⟩
abbrev S2x2x64x128 : Shape := ⟨4, ![2, 2, 64, 128]⟩
abbrev S8x64x2 : Shape := ⟨3, ![8, 64, 2]⟩
abbrev S64x2x8 : Shape := ⟨3, ![64, 2, 8]⟩
abbrev S64x16 : Shape := ⟨2, ![64, 16]⟩
abbrev S8x2x8x4x2 : Shape := ⟨5, ![8, 2, 8, 4, 2]⟩
abbrev S8x2x4x8x2 : Shape := ⟨5, ![8, 2, 4, 8, 2]⟩
abbrev S_ : Shape := ⟨0, ![]⟩
abbrev S1x8x1x128 : Shape := ⟨4, ![1, 8, 1, 128]⟩
abbrev S1x8x3x128 : Shape := ⟨4, ![1, 8, 3, 128]⟩
abbrev S8x384 : Shape := ⟨2, ![8, 384]⟩
abbrev S64x1048576 : Shape := ⟨2, ![64, 1048576]⟩
abbrev S8x1048576 : Shape := ⟨2, ![8, 1048576]⟩
abbrev S8x64x256 : Shape := ⟨3, ![8, 64, 256]⟩
abbrev S64x32768 : Shape := ⟨2, ![64, 32768]⟩
abbrev S8x32768 : Shape := ⟨2, ![8, 32768]⟩
abbrev S8x4x8x128 : Shape := ⟨4, ![8, 4, 8, 128]⟩
abbrev S192x2048 : Shape := ⟨2, ![192, 2048]⟩
abbrev S192x2x2048 : Shape := ⟨3, ![192, 2, 2048]⟩
abbrev S192x1x2048 : Shape := ⟨3, ![192, 1, 2048]⟩
abbrev S8x2048 : Shape := ⟨2, ![8, 2048]⟩
abbrev S1x1x8x128 : Shape := ⟨4, ![1, 1, 8, 128]⟩
abbrev S8 : Shape := ⟨1, ![8]⟩
abbrev S8x1 : Shape := ⟨2, ![8, 1]⟩
abbrev S64x1 : Shape := ⟨2, ![64, 1]⟩
abbrev S1x1x64x128 : Shape := ⟨4, ![1, 1, 64, 128]⟩
abbrev S64x128 : Shape := ⟨2, ![64, 128]⟩
abbrev S1x64x128 : Shape := ⟨3, ![1, 64, 128]⟩
abbrev S32x128 : Shape := ⟨2, ![32, 128]⟩
abbrev S8x128x1 : Shape := ⟨3, ![8, 128, 1]⟩
abbrev S8x2x128 : Shape := ⟨3, ![8, 2, 128]⟩
abbrev S8x1x128 : Shape := ⟨3, ![8, 1, 128]⟩
abbrev S384x2048 : Shape := ⟨2, ![384, 2048]⟩
abbrev S2048 : Shape := ⟨1, ![2048]⟩
abbrev S1x2048 : Shape := ⟨2, ![1, 2048]⟩

abbrev nBuf : Space → Nat
  | .hbm => 22
  | .vmem => 15
  | .smem => 0
  | _ => 0

abbrev bufTy : (tb : Table) → Fin (tcTables nBuf tb) → BufTy
  | .hbm, ⟨0, _⟩ => ⟨S8x128, .bf16⟩
  | .hbm, ⟨1, _⟩ => ⟨S64x256x2, .f32⟩
  | .hbm, ⟨2, _⟩ => ⟨S1048576x64, .i8⟩
  | .hbm, ⟨3, _⟩ => ⟨S64x2x128x2, .f32⟩
  | .hbm, ⟨4, _⟩ => ⟨S2x2x64x128, .f32⟩
  | .hbm, ⟨5, _⟩ => ⟨S8x128, .f32⟩
  | .hbm, ⟨6, _⟩ => ⟨S8x64x2, .f32⟩
  | .hbm, ⟨7, _⟩ => ⟨S64x2x8, .f32⟩
  | .hbm, ⟨8, _⟩ => ⟨S64x16, .f32⟩
  | .hbm, ⟨9, _⟩ => ⟨S8x2x8x4x2, .f32⟩
  | .hbm, ⟨10, _⟩ => ⟨S8x2x4x8x2, .f32⟩
  | .hbm, ⟨11, _⟩ => ⟨S8x128, .f32⟩
  | .hbm, ⟨12, _⟩ => ⟨S_, .f32⟩
  | .hbm, ⟨13, _⟩ => ⟨S8x128, .f32⟩
  | .hbm, ⟨14, _⟩ => ⟨S8x128, .f32⟩
  | .hbm, ⟨15, _⟩ => ⟨S1x8x1x128, .f32⟩
  | .hbm, ⟨16, _⟩ => ⟨S1x8x3x128, .f32⟩
  | .hbm, ⟨17, _⟩ => ⟨S8x384, .f32⟩
  | .hbm, ⟨18, _⟩ => ⟨S8x384, .bf16⟩
  | .hbm, ⟨19, _⟩ => ⟨S64x1048576, .i8⟩
  | .hbm, ⟨20, _⟩ => ⟨S8x1048576, .bf16⟩
  | .hbm, ⟨21, _⟩ => ⟨S8x64x256, .f32⟩
  | .local _ .vmem, ⟨0, _⟩ => ⟨S8x128, .bf16⟩
  | .local _ .vmem, ⟨1, _⟩ => ⟨S8x384, .bf16⟩
  | .local _ .vmem, ⟨2, _⟩ => ⟨S64x16, .f32⟩
  | .local _ .vmem, ⟨3, _⟩ => ⟨S2x2x64x128, .f32⟩
  | .local _ .vmem, ⟨4, _⟩ => ⟨S64x32768, .i8⟩
  | .local _ .vmem, ⟨5, _⟩ => ⟨S64x32768, .i8⟩
  | .local _ .vmem, ⟨6, _⟩ => ⟨S8x32768, .bf16⟩
  | .local _ .vmem, ⟨7, _⟩ => ⟨S8x32768, .bf16⟩
  | .local _ .vmem, ⟨8, _⟩ => ⟨S8x64x256, .f32⟩
  | .local _ .vmem, ⟨9, _⟩ => ⟨S8x4x8x128, .f32⟩
  | .local _ .vmem, ⟨10, _⟩ => ⟨S8x128, .f32⟩
  | .local _ .vmem, ⟨11, _⟩ => ⟨S192x2x2048, .bf16⟩
  | .local _ .vmem, ⟨12, _⟩ => ⟨S192x2x2048, .bf16⟩
  | .local _ .vmem, ⟨13, _⟩ => ⟨S8x2048, .f32⟩
  | .local _ .vmem, ⟨14, _⟩ => ⟨S8x2048, .f32⟩
  | _, _ => ⟨S8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![32], ![false]⟩

def k0_mult1 : BitVec 32 :=
  let c0_i32_1 : BitVec 32 := 0#32
  c0_i32_1
@[reducible] def k0_t1_loop : Scf.Loop 32 :=
  let c0_i32_2 : BitVec 32 := 0#32
  let c16_i32 : BitVec 32 := 16#32
  let v4 : BitVec 32 := Scalar.addi c0_i32_2 c16_i32
  let c1_i32 : BitVec 32 := 1#32
  ⟨c0_i32_2, v4, c1_i32⟩
def k0_mult2 (k0_t1 : Fin k0_t1_loop.trips) : BitVec 32 :=
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  v42
def k0_mult3 (k0_t1 : Fin k0_t1_loop.trips) : BitVec 32 :=
  let c0_i32_1 : BitVec 32 := 0#32
  let v3 : BitVec 32 := c0_i32_1
  let c0_i32_2 : BitVec 32 := 0#32
  let c1_i32 : BitVec 32 := 1#32
  let arg14 : BitVec 32 := Scf.iv c0_i32_2 c1_i32 k0_t1
  let c128_i32_32 : BitVec 32 := 128#32
  let v44 : BitVec 32 := Scalar.muli arg14 c128_i32_32
  let v45 : BitVec 32 := Scalar.addi v3 v44
  v45
def k0_off1 (k0_t1 : Fin k0_t1_loop.trips) : Fin 2 → Nat :=
  let c0_33 : Index := 0#32
  let c0_i32_1 : BitVec 32 := 0#32
  let v3 : BitVec 32 := c0_i32_1
  let c0_i32_2 : BitVec 32 := 0#32
  let c1_i32 : BitVec 32 := 1#32
  let arg14 : BitVec 32 := Scf.iv c0_i32_2 c1_i32 k0_t1
  let c128_i32_32 : BitVec 32 := 128#32
  let v44 : BitVec 32 := Scalar.muli arg14 c128_i32_32
  let v45 : BitVec 32 := Scalar.addi v3 v44
  let v46 : BitVec 32 := v45
  let v47 : Index := Scalar.indexCast v46
  ![0, v47.toNat]
def k0_off2 (k0_t1 : Fin k0_t1_loop.trips) : Fin 3 → Nat :=
  let c0_63 : Index := 0#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v123 : Index := Scalar.indexCast v43
  ![0, 0, v123.toNat]
def k0_off3 (k0_t1 : Fin k0_t1_loop.trips) : Fin 3 → Nat :=
  let c64 : Index := 64#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v128 : Index := Scalar.indexCast v43
  ![64, 0, v128.toNat]
def k0_off4 (k0_t1 : Fin k0_t1_loop.trips) : Fin 3 → Nat :=
  let c128 : Index := 128#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v133 : Index := Scalar.indexCast v43
  ![128, 0, v133.toNat]
def k0_off5 (k0_t1 : Fin k0_t1_loop.trips) : Fin 3 → Nat :=
  let c8 : Index := 8#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v187 : Index := Scalar.indexCast v43
  ![8, 0, v187.toNat]
def k0_off6 (k0_t1 : Fin k0_t1_loop.trips) : Fin 3 → Nat :=
  let c72 : Index := 72#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v192 : Index := Scalar.indexCast v43
  ![72, 0, v192.toNat]
def k0_off7 (k0_t1 : Fin k0_t1_loop.trips) : Fin 3 → Nat :=
  let c136 : Index := 136#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v197 : Index := Scalar.indexCast v43
  ![136, 0, v197.toNat]
def k0_off8 (k0_t1 : Fin k0_t1_loop.trips) : Fin 3 → Nat :=
  let c16 : Index := 16#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v256 : Index := Scalar.indexCast v43
  ![16, 0, v256.toNat]
def k0_off9 (k0_t1 : Fin k0_t1_loop.trips) : Fin 3 → Nat :=
  let c80 : Index := 80#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v261 : Index := Scalar.indexCast v43
  ![80, 0, v261.toNat]
def k0_off10 (k0_t1 : Fin k0_t1_loop.trips) : Fin 3 → Nat :=
  let c144 : Index := 144#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v266 : Index := Scalar.indexCast v43
  ![144, 0, v266.toNat]
def k0_mult4 (k0_t1 : Fin k0_t1_loop.trips) : BitVec 32 :=
  let c0_i32_1 : BitVec 32 := 0#32
  let v3 : BitVec 32 := c0_i32_1
  let c0_i32_2 : BitVec 32 := 0#32
  let c1_i32 : BitVec 32 := 1#32
  let arg14 : BitVec 32 := Scf.iv c0_i32_2 c1_i32 k0_t1
  let c128_i32_112 : BitVec 32 := 128#32
  let v275 : BitVec 32 := Scalar.muli arg14 c128_i32_112
  let v276 : BitVec 32 := Scalar.addi v3 v275
  v276
def k0_off11 (k0_t1 : Fin k0_t1_loop.trips) : Fin 2 → Nat :=
  let c32 : Index := 32#32
  let c0_i32_1 : BitVec 32 := 0#32
  let v3 : BitVec 32 := c0_i32_1
  let c0_i32_2 : BitVec 32 := 0#32
  let c1_i32 : BitVec 32 := 1#32
  let arg14 : BitVec 32 := Scf.iv c0_i32_2 c1_i32 k0_t1
  let c128_i32_112 : BitVec 32 := 128#32
  let v275 : BitVec 32 := Scalar.muli arg14 c128_i32_112
  let v276 : BitVec 32 := Scalar.addi v3 v275
  let v277 : BitVec 32 := v276
  let v278 : Index := Scalar.indexCast v277
  ![32, v278.toNat]
def k0_off12 (k0_t1 : Fin k0_t1_loop.trips) : Fin 3 → Nat :=
  let c24 : Index := 24#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v337 : Index := Scalar.indexCast v43
  ![24, 0, v337.toNat]
def k0_off13 (k0_t1 : Fin k0_t1_loop.trips) : Fin 3 → Nat :=
  let c88 : Index := 88#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v342 : Index := Scalar.indexCast v43
  ![88, 0, v342.toNat]
def k0_off14 (k0_t1 : Fin k0_t1_loop.trips) : Fin 3 → Nat :=
  let c152 : Index := 152#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v347 : Index := Scalar.indexCast v43
  ![152, 0, v347.toNat]
def k0_off15 (k0_t1 : Fin k0_t1_loop.trips) : Fin 3 → Nat :=
  let c32_155 : Index := 32#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v401 : Index := Scalar.indexCast v43
  ![32, 0, v401.toNat]
def k0_off16 (k0_t1 : Fin k0_t1_loop.trips) : Fin 3 → Nat :=
  let c96 : Index := 96#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v406 : Index := Scalar.indexCast v43
  ![96, 0, v406.toNat]
def k0_off17 (k0_t1 : Fin k0_t1_loop.trips) : Fin 3 → Nat :=
  let c160 : Index := 160#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v411 : Index := Scalar.indexCast v43
  ![160, 0, v411.toNat]
def k0_off18 (k0_t1 : Fin k0_t1_loop.trips) : Fin 3 → Nat :=
  let c40 : Index := 40#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v480 : Index := Scalar.indexCast v43
  ![40, 0, v480.toNat]
def k0_off19 (k0_t1 : Fin k0_t1_loop.trips) : Fin 3 → Nat :=
  let c104 : Index := 104#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v485 : Index := Scalar.indexCast v43
  ![104, 0, v485.toNat]
def k0_off20 (k0_t1 : Fin k0_t1_loop.trips) : Fin 3 → Nat :=
  let c168 : Index := 168#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v490 : Index := Scalar.indexCast v43
  ![168, 0, v490.toNat]
def k0_off21 (k0_t1 : Fin k0_t1_loop.trips) : Fin 3 → Nat :=
  let c48 : Index := 48#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v526 : Index := Scalar.indexCast v43
  ![48, 0, v526.toNat]
def k0_off22 (k0_t1 : Fin k0_t1_loop.trips) : Fin 3 → Nat :=
  let c112 : Index := 112#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v531 : Index := Scalar.indexCast v43
  ![112, 0, v531.toNat]
def k0_off23 (k0_t1 : Fin k0_t1_loop.trips) : Fin 3 → Nat :=
  let c176 : Index := 176#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v536 : Index := Scalar.indexCast v43
  ![176, 0, v536.toNat]
def k0_off24 (k0_t1 : Fin k0_t1_loop.trips) : Fin 3 → Nat :=
  let c56 : Index := 56#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v595 : Index := Scalar.indexCast v43
  ![56, 0, v595.toNat]
def k0_off25 (k0_t1 : Fin k0_t1_loop.trips) : Fin 3 → Nat :=
  let c120 : Index := 120#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v600 : Index := Scalar.indexCast v43
  ![120, 0, v600.toNat]
def k0_off26 (k0_t1 : Fin k0_t1_loop.trips) : Fin 3 → Nat :=
  let c184 : Index := 184#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v605 : Index := Scalar.indexCast v43
  ![184, 0, v605.toNat]
def k0_off27 (k0_t1 : Fin k0_t1_loop.trips) : Fin 2 → Nat :=
  let c0_218 : Index := 0#32
  let c0_i32_2 : BitVec 32 := 0#32
  let c1_i32 : BitVec 32 := 1#32
  let arg14 : BitVec 32 := Scf.iv c0_i32_2 c1_i32 k0_t1
  let c128_i32 : BitVec 32 := 128#32
  let v42 : BitVec 32 := Scalar.muli arg14 c128_i32
  let v43 : BitVec 32 := v42
  let v609 : Index := Scalar.indexCast v43
  ![0, v609.toNat]
@[reducible] def k0_t2_loop : Scf.Loop 32 :=
  let c0_i32_4 : BitVec 32 := 0#32
  let c7_i32 : BitVec 32 := 7#32
  let v5 : BitVec 32 := Scalar.addi c0_i32_4 c7_i32
  let c1_i32_5 : BitVec 32 := 1#32
  ⟨c0_i32_4, v5, c1_i32_5⟩
def k0_mult5 (k0_t2 : Fin k0_t2_loop.trips) : BitVec 32 :=
  let c2_i32 : BitVec 32 := 2#32
  let c0_i32_4 : BitVec 32 := 0#32
  let c1_i32_5 : BitVec 32 := 1#32
  let arg14 : BitVec 32 := Scf.iv c0_i32_4 c1_i32_5 k0_t2
  let v42 : BitVec 32 := Scalar.muli c2_i32 arg14
  let c1_i32_32 : BitVec 32 := 1#32
  let v43 : BitVec 32 := Scalar.addi v42 c1_i32_32
  let c2048_i32 : BitVec 32 := 2048#32
  let v44 : BitVec 32 := Scalar.muli v43 c2048_i32
  v44
@[reducible] def k0_t3_loop : Scf.Loop 32 :=
  let c0_i32_33 : BitVec 32 := 0#32
  let c16_i32_34 : BitVec 32 := 16#32
  let v46 : BitVec 32 := Scalar.addi c0_i32_33 c16_i32_34
  let c1_i32_35 : BitVec 32 := 1#32
  ⟨c0_i32_33, v46, c1_i32_35⟩
def k0_mult6 (k0_t3 : Fin k0_t3_loop.trips) : BitVec 32 :=
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  v91
def k0_mult7 (k0_t2 : Fin k0_t2_loop.trips) (k0_t3 : Fin k0_t3_loop.trips) : BitVec 32 :=
  let c2_i32 : BitVec 32 := 2#32
  let c0_i32_4 : BitVec 32 := 0#32
  let c1_i32_5 : BitVec 32 := 1#32
  let arg14 : BitVec 32 := Scf.iv c0_i32_4 c1_i32_5 k0_t2
  let v42 : BitVec 32 := Scalar.muli c2_i32 arg14
  let c1_i32_32 : BitVec 32 := 1#32
  let v43 : BitVec 32 := Scalar.addi v42 c1_i32_32
  let c2048_i32 : BitVec 32 := 2048#32
  let v44 : BitVec 32 := Scalar.muli v43 c2048_i32
  let v45 : BitVec 32 := v44
  let c0_i32_33 : BitVec 32 := 0#32
  let c1_i32_35 : BitVec 32 := 1#32
  let arg15 : BitVec 32 := Scf.iv c0_i32_33 c1_i32_35 k0_t3
  let c128_i32_71 : BitVec 32 := 128#32
  let v93 : BitVec 32 := Scalar.muli arg15 c128_i32_71
  let v94 : BitVec 32 := Scalar.addi v45 v93
  v94
def k0_off28 (k0_t2 : Fin k0_t2_loop.trips) (k0_t3 : Fin k0_t3_loop.trips) : Fin 2 → Nat :=
  let c0_72 : Index := 0#32
  let c2_i32 : BitVec 32 := 2#32
  let c0_i32_4 : BitVec 32 := 0#32
  let c1_i32_5 : BitVec 32 := 1#32
  let arg14 : BitVec 32 := Scf.iv c0_i32_4 c1_i32_5 k0_t2
  let v42 : BitVec 32 := Scalar.muli c2_i32 arg14
  let c1_i32_32 : BitVec 32 := 1#32
  let v43 : BitVec 32 := Scalar.addi v42 c1_i32_32
  let c2048_i32 : BitVec 32 := 2048#32
  let v44 : BitVec 32 := Scalar.muli v43 c2048_i32
  let v45 : BitVec 32 := v44
  let c0_i32_33 : BitVec 32 := 0#32
  let c1_i32_35 : BitVec 32 := 1#32
  let arg15 : BitVec 32 := Scf.iv c0_i32_33 c1_i32_35 k0_t3
  let c128_i32_71 : BitVec 32 := 128#32
  let v93 : BitVec 32 := Scalar.muli arg15 c128_i32_71
  let v94 : BitVec 32 := Scalar.addi v45 v93
  let v95 : BitVec 32 := v94
  let v96 : Index := Scalar.indexCast v95
  ![0, v96.toNat]
def k0_off29 (k0_t3 : Fin k0_t3_loop.trips) : Fin 3 → Nat :=
  let c0_102 : Index := 0#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v172 : Index := Scalar.indexCast v92
  ![0, 0, v172.toNat]
def k0_off30 (k0_t3 : Fin k0_t3_loop.trips) : Fin 3 → Nat :=
  let c64 : Index := 64#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v177 : Index := Scalar.indexCast v92
  ![64, 0, v177.toNat]
def k0_off31 (k0_t3 : Fin k0_t3_loop.trips) : Fin 3 → Nat :=
  let c128 : Index := 128#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v182 : Index := Scalar.indexCast v92
  ![128, 0, v182.toNat]
def k0_off32 (k0_t3 : Fin k0_t3_loop.trips) : Fin 3 → Nat :=
  let c8 : Index := 8#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v236 : Index := Scalar.indexCast v92
  ![8, 0, v236.toNat]
def k0_off33 (k0_t3 : Fin k0_t3_loop.trips) : Fin 3 → Nat :=
  let c72 : Index := 72#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v241 : Index := Scalar.indexCast v92
  ![72, 0, v241.toNat]
def k0_off34 (k0_t3 : Fin k0_t3_loop.trips) : Fin 3 → Nat :=
  let c136 : Index := 136#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v246 : Index := Scalar.indexCast v92
  ![136, 0, v246.toNat]
def k0_off35 (k0_t3 : Fin k0_t3_loop.trips) : Fin 3 → Nat :=
  let c16 : Index := 16#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v305 : Index := Scalar.indexCast v92
  ![16, 0, v305.toNat]
def k0_off36 (k0_t3 : Fin k0_t3_loop.trips) : Fin 3 → Nat :=
  let c80 : Index := 80#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v310 : Index := Scalar.indexCast v92
  ![80, 0, v310.toNat]
def k0_off37 (k0_t3 : Fin k0_t3_loop.trips) : Fin 3 → Nat :=
  let c144 : Index := 144#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v315 : Index := Scalar.indexCast v92
  ![144, 0, v315.toNat]
def k0_mult8 (k0_t2 : Fin k0_t2_loop.trips) (k0_t3 : Fin k0_t3_loop.trips) : BitVec 32 :=
  let c2_i32 : BitVec 32 := 2#32
  let c0_i32_4 : BitVec 32 := 0#32
  let c1_i32_5 : BitVec 32 := 1#32
  let arg14 : BitVec 32 := Scf.iv c0_i32_4 c1_i32_5 k0_t2
  let v42 : BitVec 32 := Scalar.muli c2_i32 arg14
  let c1_i32_32 : BitVec 32 := 1#32
  let v43 : BitVec 32 := Scalar.addi v42 c1_i32_32
  let c2048_i32 : BitVec 32 := 2048#32
  let v44 : BitVec 32 := Scalar.muli v43 c2048_i32
  let v45 : BitVec 32 := v44
  let c0_i32_33 : BitVec 32 := 0#32
  let c1_i32_35 : BitVec 32 := 1#32
  let arg15 : BitVec 32 := Scf.iv c0_i32_33 c1_i32_35 k0_t3
  let c128_i32_151 : BitVec 32 := 128#32
  let v324 : BitVec 32 := Scalar.muli arg15 c128_i32_151
  let v325 : BitVec 32 := Scalar.addi v45 v324
  v325
def k0_off38 (k0_t2 : Fin k0_t2_loop.trips) (k0_t3 : Fin k0_t3_loop.trips) : Fin 2 → Nat :=
  let c32 : Index := 32#32
  let c2_i32 : BitVec 32 := 2#32
  let c0_i32_4 : BitVec 32 := 0#32
  let c1_i32_5 : BitVec 32 := 1#32
  let arg14 : BitVec 32 := Scf.iv c0_i32_4 c1_i32_5 k0_t2
  let v42 : BitVec 32 := Scalar.muli c2_i32 arg14
  let c1_i32_32 : BitVec 32 := 1#32
  let v43 : BitVec 32 := Scalar.addi v42 c1_i32_32
  let c2048_i32 : BitVec 32 := 2048#32
  let v44 : BitVec 32 := Scalar.muli v43 c2048_i32
  let v45 : BitVec 32 := v44
  let c0_i32_33 : BitVec 32 := 0#32
  let c1_i32_35 : BitVec 32 := 1#32
  let arg15 : BitVec 32 := Scf.iv c0_i32_33 c1_i32_35 k0_t3
  let c128_i32_151 : BitVec 32 := 128#32
  let v324 : BitVec 32 := Scalar.muli arg15 c128_i32_151
  let v325 : BitVec 32 := Scalar.addi v45 v324
  let v326 : BitVec 32 := v325
  let v327 : Index := Scalar.indexCast v326
  ![32, v327.toNat]
def k0_off39 (k0_t3 : Fin k0_t3_loop.trips) : Fin 3 → Nat :=
  let c24 : Index := 24#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v386 : Index := Scalar.indexCast v92
  ![24, 0, v386.toNat]
def k0_off40 (k0_t3 : Fin k0_t3_loop.trips) : Fin 3 → Nat :=
  let c88 : Index := 88#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v391 : Index := Scalar.indexCast v92
  ![88, 0, v391.toNat]
def k0_off41 (k0_t3 : Fin k0_t3_loop.trips) : Fin 3 → Nat :=
  let c152 : Index := 152#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v396 : Index := Scalar.indexCast v92
  ![152, 0, v396.toNat]
def k0_off42 (k0_t3 : Fin k0_t3_loop.trips) : Fin 3 → Nat :=
  let c32_194 : Index := 32#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v450 : Index := Scalar.indexCast v92
  ![32, 0, v450.toNat]
def k0_off43 (k0_t3 : Fin k0_t3_loop.trips) : Fin 3 → Nat :=
  let c96 : Index := 96#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v455 : Index := Scalar.indexCast v92
  ![96, 0, v455.toNat]
def k0_off44 (k0_t3 : Fin k0_t3_loop.trips) : Fin 3 → Nat :=
  let c160 : Index := 160#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v460 : Index := Scalar.indexCast v92
  ![160, 0, v460.toNat]
def k0_off45 (k0_t3 : Fin k0_t3_loop.trips) : Fin 3 → Nat :=
  let c40 : Index := 40#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v529 : Index := Scalar.indexCast v92
  ![40, 0, v529.toNat]
def k0_off46 (k0_t3 : Fin k0_t3_loop.trips) : Fin 3 → Nat :=
  let c104 : Index := 104#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v534 : Index := Scalar.indexCast v92
  ![104, 0, v534.toNat]
def k0_off47 (k0_t3 : Fin k0_t3_loop.trips) : Fin 3 → Nat :=
  let c168 : Index := 168#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v539 : Index := Scalar.indexCast v92
  ![168, 0, v539.toNat]
def k0_off48 (k0_t3 : Fin k0_t3_loop.trips) : Fin 3 → Nat :=
  let c48 : Index := 48#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v575 : Index := Scalar.indexCast v92
  ![48, 0, v575.toNat]
def k0_off49 (k0_t3 : Fin k0_t3_loop.trips) : Fin 3 → Nat :=
  let c112 : Index := 112#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v580 : Index := Scalar.indexCast v92
  ![112, 0, v580.toNat]
def k0_off50 (k0_t3 : Fin k0_t3_loop.trips) : Fin 3 → Nat :=
  let c176 : Index := 176#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v585 : Index := Scalar.indexCast v92
  ![176, 0, v585.toNat]
def k0_off51 (k0_t3 : Fin k0_t3_loop.trips) : Fin 3 → Nat :=
  let c56 : Index := 56#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v644 : Index := Scalar.indexCast v92
  ![56, 0, v644.toNat]
def k0_off52 (k0_t3 : Fin k0_t3_loop.trips) : Fin 3 → Nat :=
  let c120 : Index := 120#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v649 : Index := Scalar.indexCast v92
  ![120, 0, v649.toNat]
def k0_off53 (k0_t3 : Fin k0_t3_loop.trips) : Fin 3 → Nat :=
  let c184 : Index := 184#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v654 : Index := Scalar.indexCast v92
  ![184, 0, v654.toNat]
def k0_off54 (k0_t3 : Fin k0_t3_loop.trips) : Fin 2 → Nat :=
  let c0_257 : Index := 0#32
  let c0_i32_33 : BitVec 32 := 0#32
  let c1_i32_35 : BitVec 32 := 1#32
  let arg15 : BitVec 32 := Scf.iv c0_i32_33 c1_i32_35 k0_t3
  let c128_i32 : BitVec 32 := 128#32
  let v91 : BitVec 32 := Scalar.muli arg15 c128_i32
  let v92 : BitVec 32 := v91
  let v658 : Index := Scalar.indexCast v92
  ![0, v658.toNat]
def k0_mult9 (k0_t2 : Fin k0_t2_loop.trips) : BitVec 32 :=
  let c2_i32_37 : BitVec 32 := 2#32
  let c0_i32_4 : BitVec 32 := 0#32
  let c1_i32_5 : BitVec 32 := 1#32
  let arg14 : BitVec 32 := Scf.iv c0_i32_4 c1_i32_5 k0_t2
  let v47 : BitVec 32 := Scalar.muli c2_i32_37 arg14
  let c2048_i32_38 : BitVec 32 := 2048#32
  let v48 : BitVec 32 := Scalar.muli v47 c2048_i32_38
  v48
def k0_off55 (k0_t2 : Fin k0_t2_loop.trips) : Fin 2 → Nat :=
  let c0_49 : Index := 0#32
  let c2_i32_37 : BitVec 32 := 2#32
  let c0_i32_4 : BitVec 32 := 0#32
  let c1_i32_5 : BitVec 32 := 1#32
  let arg14 : BitVec 32 := Scf.iv c0_i32_4 c1_i32_5 k0_t2
  let v47 : BitVec 32 := Scalar.muli c2_i32_37 arg14
  let c2048_i32_38 : BitVec 32 := 2048#32
  let v48 : BitVec 32 := Scalar.muli v47 c2048_i32_38
  let v49 : BitVec 32 := v48
  let v64 : Index := Scalar.indexCast v49
  ![0, v64.toNat]
def k0_mult10 (k0_t2 : Fin k0_t2_loop.trips) : BitVec 32 :=
  let c2_i32_50 : BitVec 32 := 2#32
  let c0_i32_4 : BitVec 32 := 0#32
  let c1_i32_5 : BitVec 32 := 1#32
  let arg14 : BitVec 32 := Scf.iv c0_i32_4 c1_i32_5 k0_t2
  let v66 : BitVec 32 := Scalar.muli c2_i32_50 arg14
  let c2_i32_51 : BitVec 32 := 2#32
  let v67 : BitVec 32 := Scalar.addi v66 c2_i32_51
  let c2048_i32_52 : BitVec 32 := 2048#32
  let v68 : BitVec 32 := Scalar.muli v67 c2048_i32_52
  v68
@[reducible] def k0_t4_loop : Scf.Loop 32 :=
  let c0_i32_53 : BitVec 32 := 0#32
  let c16_i32_54 : BitVec 32 := 16#32
  let v70 : BitVec 32 := Scalar.addi c0_i32_53 c16_i32_54
  let c1_i32_55 : BitVec 32 := 1#32
  ⟨c0_i32_53, v70, c1_i32_55⟩
def k0_mult11 (k0_t4 : Fin k0_t4_loop.trips) : BitVec 32 :=
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  v91
def k0_mult12 (k0_t2 : Fin k0_t2_loop.trips) (k0_t4 : Fin k0_t4_loop.trips) : BitVec 32 :=
  let c2_i32_50 : BitVec 32 := 2#32
  let c0_i32_4 : BitVec 32 := 0#32
  let c1_i32_5 : BitVec 32 := 1#32
  let arg14 : BitVec 32 := Scf.iv c0_i32_4 c1_i32_5 k0_t2
  let v66 : BitVec 32 := Scalar.muli c2_i32_50 arg14
  let c2_i32_51 : BitVec 32 := 2#32
  let v67 : BitVec 32 := Scalar.addi v66 c2_i32_51
  let c2048_i32_52 : BitVec 32 := 2048#32
  let v68 : BitVec 32 := Scalar.muli v67 c2048_i32_52
  let v69 : BitVec 32 := v68
  let c0_i32_53 : BitVec 32 := 0#32
  let c1_i32_55 : BitVec 32 := 1#32
  let arg15 : BitVec 32 := Scf.iv c0_i32_53 c1_i32_55 k0_t4
  let c128_i32_71 : BitVec 32 := 128#32
  let v93 : BitVec 32 := Scalar.muli arg15 c128_i32_71
  let v94 : BitVec 32 := Scalar.addi v69 v93
  v94
def k0_off56 (k0_t2 : Fin k0_t2_loop.trips) (k0_t4 : Fin k0_t4_loop.trips) : Fin 2 → Nat :=
  let c0_72 : Index := 0#32
  let c2_i32_50 : BitVec 32 := 2#32
  let c0_i32_4 : BitVec 32 := 0#32
  let c1_i32_5 : BitVec 32 := 1#32
  let arg14 : BitVec 32 := Scf.iv c0_i32_4 c1_i32_5 k0_t2
  let v66 : BitVec 32 := Scalar.muli c2_i32_50 arg14
  let c2_i32_51 : BitVec 32 := 2#32
  let v67 : BitVec 32 := Scalar.addi v66 c2_i32_51
  let c2048_i32_52 : BitVec 32 := 2048#32
  let v68 : BitVec 32 := Scalar.muli v67 c2048_i32_52
  let v69 : BitVec 32 := v68
  let c0_i32_53 : BitVec 32 := 0#32
  let c1_i32_55 : BitVec 32 := 1#32
  let arg15 : BitVec 32 := Scf.iv c0_i32_53 c1_i32_55 k0_t4
  let c128_i32_71 : BitVec 32 := 128#32
  let v93 : BitVec 32 := Scalar.muli arg15 c128_i32_71
  let v94 : BitVec 32 := Scalar.addi v69 v93
  let v95 : BitVec 32 := v94
  let v96 : Index := Scalar.indexCast v95
  ![0, v96.toNat]
def k0_off57 (k0_t4 : Fin k0_t4_loop.trips) : Fin 3 → Nat :=
  let c0_102 : Index := 0#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v172 : Index := Scalar.indexCast v92
  ![0, 0, v172.toNat]
def k0_off58 (k0_t4 : Fin k0_t4_loop.trips) : Fin 3 → Nat :=
  let c64 : Index := 64#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v177 : Index := Scalar.indexCast v92
  ![64, 0, v177.toNat]
def k0_off59 (k0_t4 : Fin k0_t4_loop.trips) : Fin 3 → Nat :=
  let c128 : Index := 128#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v182 : Index := Scalar.indexCast v92
  ![128, 0, v182.toNat]
def k0_off60 (k0_t4 : Fin k0_t4_loop.trips) : Fin 3 → Nat :=
  let c8 : Index := 8#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v236 : Index := Scalar.indexCast v92
  ![8, 0, v236.toNat]
def k0_off61 (k0_t4 : Fin k0_t4_loop.trips) : Fin 3 → Nat :=
  let c72 : Index := 72#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v241 : Index := Scalar.indexCast v92
  ![72, 0, v241.toNat]
def k0_off62 (k0_t4 : Fin k0_t4_loop.trips) : Fin 3 → Nat :=
  let c136 : Index := 136#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v246 : Index := Scalar.indexCast v92
  ![136, 0, v246.toNat]
def k0_off63 (k0_t4 : Fin k0_t4_loop.trips) : Fin 3 → Nat :=
  let c16 : Index := 16#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v305 : Index := Scalar.indexCast v92
  ![16, 0, v305.toNat]
def k0_off64 (k0_t4 : Fin k0_t4_loop.trips) : Fin 3 → Nat :=
  let c80 : Index := 80#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v310 : Index := Scalar.indexCast v92
  ![80, 0, v310.toNat]
def k0_off65 (k0_t4 : Fin k0_t4_loop.trips) : Fin 3 → Nat :=
  let c144 : Index := 144#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v315 : Index := Scalar.indexCast v92
  ![144, 0, v315.toNat]
def k0_mult13 (k0_t2 : Fin k0_t2_loop.trips) (k0_t4 : Fin k0_t4_loop.trips) : BitVec 32 :=
  let c2_i32_50 : BitVec 32 := 2#32
  let c0_i32_4 : BitVec 32 := 0#32
  let c1_i32_5 : BitVec 32 := 1#32
  let arg14 : BitVec 32 := Scf.iv c0_i32_4 c1_i32_5 k0_t2
  let v66 : BitVec 32 := Scalar.muli c2_i32_50 arg14
  let c2_i32_51 : BitVec 32 := 2#32
  let v67 : BitVec 32 := Scalar.addi v66 c2_i32_51
  let c2048_i32_52 : BitVec 32 := 2048#32
  let v68 : BitVec 32 := Scalar.muli v67 c2048_i32_52
  let v69 : BitVec 32 := v68
  let c0_i32_53 : BitVec 32 := 0#32
  let c1_i32_55 : BitVec 32 := 1#32
  let arg15 : BitVec 32 := Scf.iv c0_i32_53 c1_i32_55 k0_t4
  let c128_i32_151 : BitVec 32 := 128#32
  let v324 : BitVec 32 := Scalar.muli arg15 c128_i32_151
  let v325 : BitVec 32 := Scalar.addi v69 v324
  v325
def k0_off66 (k0_t2 : Fin k0_t2_loop.trips) (k0_t4 : Fin k0_t4_loop.trips) : Fin 2 → Nat :=
  let c32 : Index := 32#32
  let c2_i32_50 : BitVec 32 := 2#32
  let c0_i32_4 : BitVec 32 := 0#32
  let c1_i32_5 : BitVec 32 := 1#32
  let arg14 : BitVec 32 := Scf.iv c0_i32_4 c1_i32_5 k0_t2
  let v66 : BitVec 32 := Scalar.muli c2_i32_50 arg14
  let c2_i32_51 : BitVec 32 := 2#32
  let v67 : BitVec 32 := Scalar.addi v66 c2_i32_51
  let c2048_i32_52 : BitVec 32 := 2048#32
  let v68 : BitVec 32 := Scalar.muli v67 c2048_i32_52
  let v69 : BitVec 32 := v68
  let c0_i32_53 : BitVec 32 := 0#32
  let c1_i32_55 : BitVec 32 := 1#32
  let arg15 : BitVec 32 := Scf.iv c0_i32_53 c1_i32_55 k0_t4
  let c128_i32_151 : BitVec 32 := 128#32
  let v324 : BitVec 32 := Scalar.muli arg15 c128_i32_151
  let v325 : BitVec 32 := Scalar.addi v69 v324
  let v326 : BitVec 32 := v325
  let v327 : Index := Scalar.indexCast v326
  ![32, v327.toNat]
def k0_off67 (k0_t4 : Fin k0_t4_loop.trips) : Fin 3 → Nat :=
  let c24 : Index := 24#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v386 : Index := Scalar.indexCast v92
  ![24, 0, v386.toNat]
def k0_off68 (k0_t4 : Fin k0_t4_loop.trips) : Fin 3 → Nat :=
  let c88 : Index := 88#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v391 : Index := Scalar.indexCast v92
  ![88, 0, v391.toNat]
def k0_off69 (k0_t4 : Fin k0_t4_loop.trips) : Fin 3 → Nat :=
  let c152 : Index := 152#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v396 : Index := Scalar.indexCast v92
  ![152, 0, v396.toNat]
def k0_off70 (k0_t4 : Fin k0_t4_loop.trips) : Fin 3 → Nat :=
  let c32_194 : Index := 32#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v450 : Index := Scalar.indexCast v92
  ![32, 0, v450.toNat]
def k0_off71 (k0_t4 : Fin k0_t4_loop.trips) : Fin 3 → Nat :=
  let c96 : Index := 96#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v455 : Index := Scalar.indexCast v92
  ![96, 0, v455.toNat]
def k0_off72 (k0_t4 : Fin k0_t4_loop.trips) : Fin 3 → Nat :=
  let c160 : Index := 160#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v460 : Index := Scalar.indexCast v92
  ![160, 0, v460.toNat]
def k0_off73 (k0_t4 : Fin k0_t4_loop.trips) : Fin 3 → Nat :=
  let c40 : Index := 40#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v529 : Index := Scalar.indexCast v92
  ![40, 0, v529.toNat]
def k0_off74 (k0_t4 : Fin k0_t4_loop.trips) : Fin 3 → Nat :=
  let c104 : Index := 104#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v534 : Index := Scalar.indexCast v92
  ![104, 0, v534.toNat]
def k0_off75 (k0_t4 : Fin k0_t4_loop.trips) : Fin 3 → Nat :=
  let c168 : Index := 168#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v539 : Index := Scalar.indexCast v92
  ![168, 0, v539.toNat]
def k0_off76 (k0_t4 : Fin k0_t4_loop.trips) : Fin 3 → Nat :=
  let c48 : Index := 48#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v575 : Index := Scalar.indexCast v92
  ![48, 0, v575.toNat]
def k0_off77 (k0_t4 : Fin k0_t4_loop.trips) : Fin 3 → Nat :=
  let c112 : Index := 112#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v580 : Index := Scalar.indexCast v92
  ![112, 0, v580.toNat]
def k0_off78 (k0_t4 : Fin k0_t4_loop.trips) : Fin 3 → Nat :=
  let c176 : Index := 176#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v585 : Index := Scalar.indexCast v92
  ![176, 0, v585.toNat]
def k0_off79 (k0_t4 : Fin k0_t4_loop.trips) : Fin 3 → Nat :=
  let c56 : Index := 56#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v644 : Index := Scalar.indexCast v92
  ![56, 0, v644.toNat]
def k0_off80 (k0_t4 : Fin k0_t4_loop.trips) : Fin 3 → Nat :=
  let c120 : Index := 120#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v649 : Index := Scalar.indexCast v92
  ![120, 0, v649.toNat]
def k0_off81 (k0_t4 : Fin k0_t4_loop.trips) : Fin 3 → Nat :=
  let c184 : Index := 184#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v654 : Index := Scalar.indexCast v92
  ![184, 0, v654.toNat]
def k0_off82 (k0_t4 : Fin k0_t4_loop.trips) : Fin 2 → Nat :=
  let c0_257 : Index := 0#32
  let c0_i32_53 : BitVec 32 := 0#32
  let c1_i32_55 : BitVec 32 := 1#32
  let arg15 : BitVec 32 := Scf.iv c0_i32_53 c1_i32_55 k0_t4
  let c128_i32 : BitVec 32 := 128#32
  let v91 : BitVec 32 := Scalar.muli arg15 c128_i32
  let v92 : BitVec 32 := v91
  let v658 : Index := Scalar.indexCast v92
  ![0, v658.toNat]
def k0_mult14 (k0_t2 : Fin k0_t2_loop.trips) : BitVec 32 :=
  let c2_i32_57 : BitVec 32 := 2#32
  let c0_i32_4 : BitVec 32 := 0#32
  let c1_i32_5 : BitVec 32 := 1#32
  let arg14 : BitVec 32 := Scf.iv c0_i32_4 c1_i32_5 k0_t2
  let v71 : BitVec 32 := Scalar.muli c2_i32_57 arg14
  let c1_i32_58 : BitVec 32 := 1#32
  let v72 : BitVec 32 := Scalar.addi v71 c1_i32_58
  let c2048_i32_59 : BitVec 32 := 2048#32
  let v73 : BitVec 32 := Scalar.muli v72 c2048_i32_59
  v73
def k0_off83 (k0_t2 : Fin k0_t2_loop.trips) : Fin 2 → Nat :=
  let c0_70 : Index := 0#32
  let c2_i32_57 : BitVec 32 := 2#32
  let c0_i32_4 : BitVec 32 := 0#32
  let c1_i32_5 : BitVec 32 := 1#32
  let arg14 : BitVec 32 := Scf.iv c0_i32_4 c1_i32_5 k0_t2
  let v71 : BitVec 32 := Scalar.muli c2_i32_57 arg14
  let c1_i32_58 : BitVec 32 := 1#32
  let v72 : BitVec 32 := Scalar.addi v71 c1_i32_58
  let c2048_i32_59 : BitVec 32 := 2048#32
  let v73 : BitVec 32 := Scalar.muli v72 c2048_i32_59
  let v74 : BitVec 32 := v73
  let v89 : Index := Scalar.indexCast v74
  ![0, v89.toNat]
def k0_mult15 : BitVec 32 :=
  let c30720_i32 : BitVec 32 := 30720#32
  c30720_i32
@[reducible] def k0_t5_loop : Scf.Loop 32 :=
  let c0_i32_7 : BitVec 32 := 0#32
  let c16_i32_8 : BitVec 32 := 16#32
  let v7 : BitVec 32 := Scalar.addi c0_i32_7 c16_i32_8
  let c1_i32_9 : BitVec 32 := 1#32
  ⟨c0_i32_7, v7, c1_i32_9⟩
def k0_mult16 (k0_t5 : Fin k0_t5_loop.trips) : BitVec 32 :=
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  v42
def k0_mult17 (k0_t5 : Fin k0_t5_loop.trips) : BitVec 32 :=
  let c30720_i32 : BitVec 32 := 30720#32
  let v6 : BitVec 32 := c30720_i32
  let c0_i32_7 : BitVec 32 := 0#32
  let c1_i32_9 : BitVec 32 := 1#32
  let arg14 : BitVec 32 := Scf.iv c0_i32_7 c1_i32_9 k0_t5
  let c128_i32_32 : BitVec 32 := 128#32
  let v44 : BitVec 32 := Scalar.muli arg14 c128_i32_32
  let v45 : BitVec 32 := Scalar.addi v6 v44
  v45
def k0_off84 (k0_t5 : Fin k0_t5_loop.trips) : Fin 2 → Nat :=
  let c0_33 : Index := 0#32
  let c30720_i32 : BitVec 32 := 30720#32
  let v6 : BitVec 32 := c30720_i32
  let c0_i32_7 : BitVec 32 := 0#32
  let c1_i32_9 : BitVec 32 := 1#32
  let arg14 : BitVec 32 := Scf.iv c0_i32_7 c1_i32_9 k0_t5
  let c128_i32_32 : BitVec 32 := 128#32
  let v44 : BitVec 32 := Scalar.muli arg14 c128_i32_32
  let v45 : BitVec 32 := Scalar.addi v6 v44
  let v46 : BitVec 32 := v45
  let v47 : Index := Scalar.indexCast v46
  ![0, v47.toNat]
def k0_off85 (k0_t5 : Fin k0_t5_loop.trips) : Fin 3 → Nat :=
  let c0_63 : Index := 0#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v123 : Index := Scalar.indexCast v43
  ![0, 0, v123.toNat]
def k0_off86 (k0_t5 : Fin k0_t5_loop.trips) : Fin 3 → Nat :=
  let c64 : Index := 64#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v128 : Index := Scalar.indexCast v43
  ![64, 0, v128.toNat]
def k0_off87 (k0_t5 : Fin k0_t5_loop.trips) : Fin 3 → Nat :=
  let c128 : Index := 128#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v133 : Index := Scalar.indexCast v43
  ![128, 0, v133.toNat]
def k0_off88 (k0_t5 : Fin k0_t5_loop.trips) : Fin 3 → Nat :=
  let c8 : Index := 8#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v187 : Index := Scalar.indexCast v43
  ![8, 0, v187.toNat]
def k0_off89 (k0_t5 : Fin k0_t5_loop.trips) : Fin 3 → Nat :=
  let c72 : Index := 72#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v192 : Index := Scalar.indexCast v43
  ![72, 0, v192.toNat]
def k0_off90 (k0_t5 : Fin k0_t5_loop.trips) : Fin 3 → Nat :=
  let c136 : Index := 136#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v197 : Index := Scalar.indexCast v43
  ![136, 0, v197.toNat]
def k0_off91 (k0_t5 : Fin k0_t5_loop.trips) : Fin 3 → Nat :=
  let c16 : Index := 16#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v256 : Index := Scalar.indexCast v43
  ![16, 0, v256.toNat]
def k0_off92 (k0_t5 : Fin k0_t5_loop.trips) : Fin 3 → Nat :=
  let c80 : Index := 80#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v261 : Index := Scalar.indexCast v43
  ![80, 0, v261.toNat]
def k0_off93 (k0_t5 : Fin k0_t5_loop.trips) : Fin 3 → Nat :=
  let c144 : Index := 144#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v266 : Index := Scalar.indexCast v43
  ![144, 0, v266.toNat]
def k0_mult18 (k0_t5 : Fin k0_t5_loop.trips) : BitVec 32 :=
  let c30720_i32 : BitVec 32 := 30720#32
  let v6 : BitVec 32 := c30720_i32
  let c0_i32_7 : BitVec 32 := 0#32
  let c1_i32_9 : BitVec 32 := 1#32
  let arg14 : BitVec 32 := Scf.iv c0_i32_7 c1_i32_9 k0_t5
  let c128_i32_112 : BitVec 32 := 128#32
  let v275 : BitVec 32 := Scalar.muli arg14 c128_i32_112
  let v276 : BitVec 32 := Scalar.addi v6 v275
  v276
def k0_off94 (k0_t5 : Fin k0_t5_loop.trips) : Fin 2 → Nat :=
  let c32 : Index := 32#32
  let c30720_i32 : BitVec 32 := 30720#32
  let v6 : BitVec 32 := c30720_i32
  let c0_i32_7 : BitVec 32 := 0#32
  let c1_i32_9 : BitVec 32 := 1#32
  let arg14 : BitVec 32 := Scf.iv c0_i32_7 c1_i32_9 k0_t5
  let c128_i32_112 : BitVec 32 := 128#32
  let v275 : BitVec 32 := Scalar.muli arg14 c128_i32_112
  let v276 : BitVec 32 := Scalar.addi v6 v275
  let v277 : BitVec 32 := v276
  let v278 : Index := Scalar.indexCast v277
  ![32, v278.toNat]
def k0_off95 (k0_t5 : Fin k0_t5_loop.trips) : Fin 3 → Nat :=
  let c24 : Index := 24#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v337 : Index := Scalar.indexCast v43
  ![24, 0, v337.toNat]
def k0_off96 (k0_t5 : Fin k0_t5_loop.trips) : Fin 3 → Nat :=
  let c88 : Index := 88#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v342 : Index := Scalar.indexCast v43
  ![88, 0, v342.toNat]
def k0_off97 (k0_t5 : Fin k0_t5_loop.trips) : Fin 3 → Nat :=
  let c152 : Index := 152#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v347 : Index := Scalar.indexCast v43
  ![152, 0, v347.toNat]
def k0_off98 (k0_t5 : Fin k0_t5_loop.trips) : Fin 3 → Nat :=
  let c32_155 : Index := 32#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v401 : Index := Scalar.indexCast v43
  ![32, 0, v401.toNat]
def k0_off99 (k0_t5 : Fin k0_t5_loop.trips) : Fin 3 → Nat :=
  let c96 : Index := 96#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v406 : Index := Scalar.indexCast v43
  ![96, 0, v406.toNat]
def k0_off100 (k0_t5 : Fin k0_t5_loop.trips) : Fin 3 → Nat :=
  let c160 : Index := 160#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v411 : Index := Scalar.indexCast v43
  ![160, 0, v411.toNat]
def k0_off101 (k0_t5 : Fin k0_t5_loop.trips) : Fin 3 → Nat :=
  let c40 : Index := 40#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v480 : Index := Scalar.indexCast v43
  ![40, 0, v480.toNat]
def k0_off102 (k0_t5 : Fin k0_t5_loop.trips) : Fin 3 → Nat :=
  let c104 : Index := 104#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v485 : Index := Scalar.indexCast v43
  ![104, 0, v485.toNat]
def k0_off103 (k0_t5 : Fin k0_t5_loop.trips) : Fin 3 → Nat :=
  let c168 : Index := 168#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v490 : Index := Scalar.indexCast v43
  ![168, 0, v490.toNat]
def k0_off104 (k0_t5 : Fin k0_t5_loop.trips) : Fin 3 → Nat :=
  let c48 : Index := 48#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v526 : Index := Scalar.indexCast v43
  ![48, 0, v526.toNat]
def k0_off105 (k0_t5 : Fin k0_t5_loop.trips) : Fin 3 → Nat :=
  let c112 : Index := 112#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v531 : Index := Scalar.indexCast v43
  ![112, 0, v531.toNat]
def k0_off106 (k0_t5 : Fin k0_t5_loop.trips) : Fin 3 → Nat :=
  let c176 : Index := 176#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v536 : Index := Scalar.indexCast v43
  ![176, 0, v536.toNat]
def k0_off107 (k0_t5 : Fin k0_t5_loop.trips) : Fin 3 → Nat :=
  let c56 : Index := 56#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v595 : Index := Scalar.indexCast v43
  ![56, 0, v595.toNat]
def k0_off108 (k0_t5 : Fin k0_t5_loop.trips) : Fin 3 → Nat :=
  let c120 : Index := 120#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v600 : Index := Scalar.indexCast v43
  ![120, 0, v600.toNat]
def k0_off109 (k0_t5 : Fin k0_t5_loop.trips) : Fin 3 → Nat :=
  let c184 : Index := 184#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v605 : Index := Scalar.indexCast v43
  ![184, 0, v605.toNat]
def k0_off110 (k0_t5 : Fin k0_t5_loop.trips) : Fin 2 → Nat :=
  let c0_218 : Index := 0#32
  let c0_i32_7 : BitVec 32 := 0#32
  let c1_i32_9 : BitVec 32 := 1#32
  let arg14 : BitVec 32 := Scf.iv c0_i32_7 c1_i32_9 k0_t5
  let c128_i32 : BitVec 32 := 128#32
  let v42 : BitVec 32 := Scalar.muli arg14 c128_i32
  let v43 : BitVec 32 := v42
  let v609 : Index := Scalar.indexCast v43
  ![0, v609.toNat]
def k0_mult19 : BitVec 32 :=
  let c28672_i32 : BitVec 32 := 28672#32
  c28672_i32
def k0_mult20 : BitVec 32 :=
  let c30720_i32_20 : BitVec 32 := 30720#32
  c30720_i32_20
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x32768 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x128 : Shape := ⟨2, ![8, 128]⟩
abbrev S64x256x2 : Shape := ⟨3, ![64, 256, 2]⟩
abbrev S1048576x64 : Shape := ⟨2, ![1048576, 64]⟩
abbrev S8x64x2 : Shape := ⟨3, ![8, 64, 2]⟩
abbrev S8x64x1x2 : Shape := ⟨4, ![8, 64, 1, 2]⟩
abbrev S1x64x256x2 : Shape := ⟨4, ![1, 64, 256, 2]⟩
abbrev S8x64x256x2 : Shape := ⟨4, ![8, 64, 256, 2]⟩
abbrev S_ : Shape := ⟨0, ![]⟩
abbrev S8x64x256 : Shape := ⟨3, ![8, 64, 256]⟩
abbrev S64 : Shape := ⟨1, ![64]⟩
abbrev S1x64 : Shape := ⟨2, ![1, 64]⟩
abbrev S1048576x64x1 : Shape := ⟨3, ![1048576, 64, 1]⟩
abbrev S1048576x64x2 : Shape := ⟨3, ![1048576, 64, 2]⟩
abbrev S8x1048576x64 : Shape := ⟨3, ![8, 1048576, 64]⟩
abbrev S8x1048576 : Shape := ⟨2, ![8, 1048576]⟩

abbrev nBuf : Space → Nat
  | .hbm => 38
  | .vmem => 0
  | .smem => 0
  | _ => 0

abbrev bufTy : (tb : Table) → Fin (tcTables nBuf tb) → BufTy
  | .hbm, ⟨0, _⟩ => ⟨S8x128, .bf16⟩
  | .hbm, ⟨1, _⟩ => ⟨S64x256x2, .f32⟩
  | .hbm, ⟨2, _⟩ => ⟨S1048576x64, .i8⟩
  | .hbm, ⟨3, _⟩ => ⟨S8x128, .f32⟩
  | .hbm, ⟨4, _⟩ => ⟨S8x64x2, .f32⟩
  | .hbm, ⟨5, _⟩ => ⟨S8x64x1x2, .f32⟩
  | .hbm, ⟨6, _⟩ => ⟨S1x64x256x2, .f32⟩
  | .hbm, ⟨7, _⟩ => ⟨S8x64x256x2, .f32⟩
  | .hbm, ⟨8, _⟩ => ⟨S8x64x256x2, .f32⟩
  | .hbm, ⟨9, _⟩ => ⟨S8x64x256x2, .f32⟩
  | .hbm, ⟨10, _⟩ => ⟨S8x64x256x2, .f32⟩
  | .hbm, ⟨11, _⟩ => ⟨S_, .f32⟩
  | .hbm, ⟨12, _⟩ => ⟨S8x64x256, .f32⟩
  | .hbm, ⟨13, _⟩ => ⟨S1048576x64, .i32⟩
  | .hbm, ⟨14, _⟩ => ⟨S64, .i32⟩
  | .hbm, ⟨15, _⟩ => ⟨S1x64, .i32⟩
  | .hbm, ⟨16, _⟩ => ⟨S_, .i32⟩
  | .hbm, ⟨17, _⟩ => ⟨S1x64, .i32⟩
  | .hbm, ⟨18, _⟩ => ⟨S1x64, .i1⟩
  | .hbm, ⟨19, _⟩ => ⟨S_, .i32⟩
  | .hbm, ⟨20, _⟩ => ⟨S1x64, .i32⟩
  | .hbm, ⟨21, _⟩ => ⟨S1x64, .i32⟩
  | .hbm, ⟨22, _⟩ => ⟨S1x64, .i32⟩
  | .hbm, ⟨23, _⟩ => ⟨S_, .i32⟩
  | .hbm, ⟨24, _⟩ => ⟨S1048576x64, .i32⟩
  | .hbm, ⟨25, _⟩ => ⟨S1048576x64, .i1⟩
  | .hbm, ⟨26, _⟩ => ⟨S_, .i32⟩
  | .hbm, ⟨27, _⟩ => ⟨S1048576x64, .i32⟩
  | .hbm, ⟨28, _⟩ => ⟨S1048576x64, .i32⟩
  | .hbm, ⟨29, _⟩ => ⟨S1048576x64, .i32⟩
  | .hbm, ⟨30, _⟩ => ⟨S1048576x64, .i32⟩
  | .hbm, ⟨31, _⟩ => ⟨S1048576x64x1, .i32⟩
  | .hbm, ⟨32, _⟩ => ⟨S1048576x64x1, .i32⟩
  | .hbm, ⟨33, _⟩ => ⟨S1048576x64x2, .i32⟩
  | .hbm, ⟨34, _⟩ => ⟨S8x1048576x64, .f32⟩
  | .hbm, ⟨35, _⟩ => ⟨S_, .f32⟩
  | .hbm, ⟨36, _⟩ => ⟨S8x1048576, .f32⟩
  | .hbm, ⟨37, _⟩ => ⟨S8x1048576, .bf16⟩
  | _, _ => ⟨S8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.KernelBody.lean ====
module

public import proofs.«01_k».proof.Proof.Gen.Kernel.Frame
public import proofs.«01_k».proof.Proof.Gen.Kernel.Loops
public import proofs.«01_k».proof.Proof.Gen.Kernel.Skeleton
public import Idealize.ShloMosaic.Lib.Pipeline.Frame
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-- What the loop over the pairs of column chunks holds before any of its trips: the operands it reads at their
    contents, the buffers it writes at some contents. -/
abbrev pairInv (c : Dev nD)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2048 .i32) (harg10 : arg10.IsWhole)
    (arg11 : Memref sig .tc .vmem S192x2048 .i32) (harg11 : arg11.IsWhole)
    (arg12 : Memref sig .tc .vmem S8x2048 .f32) (harg12 : arg12.IsWhole)
    (arg13 : Memref sig .tc .vmem S8x2048 .f32) (harg13 : arg13.IsWhole)
    (X2 : BufTy.Contents (Elt F) arg2.view.ty) (X5 : BufTy.Contents (Elt F) arg5.view.ty) (X8 : BufTy.Contents (Elt F) arg8.view.ty) (X9 : BufTy.Contents (Elt F) arg9.view.ty) : sProp 𝕄 :=
  iprop((arg2.view.loc (c : Thread nD τ) ↦[arg2.view.set]{fullShare} X2)
      ∗ (arg5.view.loc (c : Thread nD τ) ↦[arg5.view.set]{fullShare} X5)
      ∗ (arg8.view.loc (c : Thread nD τ) ↦[arg8.view.set]{fullShare} X8)
      ∗ (arg9.view.loc (c : Thread nD τ) ↦[arg9.view.set]{fullShare} X9)
      ∗ (∃ f, (arg6.view.loc (c : Thread nD τ) ↦[arg6.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f)))

set_option warn.classDefReducibility false in
/-- The loop over the pairs of column chunks by that invariant: one trip, at any trip number, gives it back. -/
@[sl_loop] def loopInv_k0_t2 (c : Dev nD) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2048 .i32) (harg10 : arg10.IsWhole)
    (arg11 : Memref sig .tc .vmem S192x2048 .i32) (harg11 : arg11.IsWhole)
    (arg12 : Memref sig .tc .vmem S8x2048 .f32) (harg12 : arg12.IsWhole)
    (arg13 : Memref sig .tc .vmem S8x2048 .f32) (harg13 : arg13.IsWhole)
    (X2 : BufTy.Contents (Elt F) arg2.view.ty) (X5 : BufTy.Contents (Elt F) arg5.view.ty) (X8 : BufTy.Contents (Elt F) arg8.view.ty) (X9 : BufTy.Contents (Elt F) arg9.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 where
  inv := fun _ _ => pairInv c arg1 harg1 arg2 harg2 arg3 harg3 arg4 harg4 arg5 harg5 arg6 harg6 arg7 harg7 arg8 harg8 arg9 harg9 arg10 harg10 arg11 harg11 arg12 harg12 arg13 harg13 X2 X5 X8 X9
  step := fun k acc => by
    have hk : k.val < 7 := Nat.lt_of_lt_of_le k.isLt k0_t2_abs.2.1
    unfold k0_t2_body
    iintro ⟨Harg2, Harg5, Harg8, Harg9, ⟨%f_arg6, Harg6⟩, ⟨%f_arg10, Harg10⟩, ⟨%f_arg11, Harg11⟩, ⟨%f_arg12, Harg12⟩, ⟨%f_arg13, Harg13⟩⟩
    sl_exec
    sl_step
    isplitl [Harg2]; · iexact Harg2
    isplitl [Harg5]; · iexact Harg5
    isplitl [Harg8]; · iexact Harg8
    isplitl [Harg9]; · iexact Harg9
    isplitl [Harg6]; · iexists _; iexact Harg6
    isplitl [Harg10]; · iexists _; iexact Harg10
    isplitl [Harg11]; · iexists _; iexact Harg11
    isplitl [Harg12]; · iexists _; iexact Harg12
    iexists _; iexact Harg13

/-- The body at any grid point, for any continuation: the operands held at any contents come back as they were, the
    results' blocks and the scratch buffers, whatever they held, come back at some contents. -/
theorem kernelRun (c : Dev nD) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2048 .i32) (harg10 : arg10.IsWhole)
    (arg11 : Memref sig .tc .vmem S192x2048 .i32) (harg11 : arg11.IsWhole)
    (arg12 : Memref sig .tc .vmem S8x2048 .f32) (harg12 : arg12.IsWhole)
    (arg13 : Memref sig .tc .vmem S8x2048 .f32) (harg13 : arg13.IsWhole)
    (d1 : S8x128.Idx → Elt F .bf16) (d2 : S8x384.Idx → Elt F .bf16) (d3 : S64x16.Idx → Elt F .f32) (d4 : S2x2x64x128.Idx → Elt F .f32) (d5 : S64x32768.Idx → Elt F .i8) (Q : PUnit → sProp 𝕄) :
    iprop(owns (c : Thread nD τ) arg1 fullShare d1
        ∗ owns (c : Thread nD τ) arg2 fullShare d2
        ∗ owns (c : Thread nD τ) arg3 fullShare d3
        ∗ owns (c : Thread nD τ) arg4 fullShare d4
        ∗ owns (c : Thread nD τ) arg5 fullShare d5
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg1 fullShare d1
        ∗ owns (c : Thread nD τ) arg2 fullShare d2
        ∗ owns (c : Thread nD τ) arg3 fullShare d3
        ∗ owns (c : Thread nD τ) arg4 fullShare d4
        ∗ owns (c : Thread nD τ) arg5 fullShare d5
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)) -∗ Q ⟨⟩))
      ⊢ wp frame (wpE (defs₀ (F := F)) Variants.none (c : Thread nD τ) none) Set.univ
          (cc0_pq_adc_l2 (F := F) i arg1 harg1 arg2 harg2 arg3 harg3 arg4 harg4 arg5 harg5 arg6 harg6 arg7 harg7 arg8 harg8 arg9 harg9 arg10 harg10 arg11 harg11 arg12 harg12 arg13 harg13) Q := by
  unfold owns
  iintro ⟨⟨%f_arg1, %h_arg1, Harg1⟩, ⟨%f_arg2, %h_arg2, Harg2⟩, ⟨%f_arg3, %h_arg3, Harg3⟩, ⟨%f_arg4, %h_arg4, Harg4⟩, ⟨%f_arg5, %h_arg5, Harg5⟩, ⟨%d_arg6, %f_arg6, -, Harg6⟩, ⟨%d_arg7, %f_arg7, -, Harg7⟩, ⟨%d_arg8, %f_arg8, -, Harg8⟩, ⟨%d_arg9, %f_arg9, -, Harg9⟩, ⟨%d_arg10, %f_arg10, -, Harg10⟩, ⟨%d_arg11, %f_arg11, -, Harg11⟩, ⟨%d_arg12, %f_arg12, -, Harg12⟩, ⟨%d_arg13, %f_arg13, -, Harg13⟩, Hk⟩
  by_cases hi : k0_cond1 i = 1#1
  all_goals
    simp only [cc0_pq_adc_l2_eq_skeleton]; unfold cc0_pq_adc_l2_skel
    sl_exec
    sl_step
    iapply Hk
    isplitl [Harg1]
    · iexists _; isplitr; swap; · iexact Harg1
      ipureintro; exact h_arg1
    isplitl [Harg2]
    · iexists _; isplitr; swap; · iexact Harg2
      ipureintro; exact h_arg2
    isplitl [Harg3]
    · iexists _; isplitr; swap; · iexact Harg3
      ipureintro; exact h_arg3
    isplitl [Harg4]
    · iexists _; isplitr; swap; · iexact Harg4
      ipureintro; exact h_arg4
    isplitl [Harg5]
    · iexists _; isplitr; swap; · iexact Harg5
      ipureintro; exact h_arg5
    isplitl [Harg6]
    · iexists _, _; isplitr; swap; · iexact Harg6
      ipureintro; rfl
    isplitl [Harg7]
    · iexists _, _; isplitr; swap; · iexact Harg7
      ipureintro; rfl
    isplitl [Harg8]
    · iexists _, _; isplitr; swap; · iexact Harg8
      ipureintro; rfl
    isplitl [Harg9]
    · iexists _, _; isplitr; swap; · iexact Harg9
      ipureintro; rfl
    isplitl [Harg10]
    · iexists _, _; isplitr; swap; · iexact Harg10
      ipureintro; rfl
    isplitl [Harg11]
    · iexists _, _; isplitr; swap; · iexact Harg11
      ipureintro; rfl
    isplitl [Harg12]
    · iexists _, _; isplitr; swap; · iexact Harg12
      ipureintro; rfl
    iexists _, _; isplitr; swap; · iexact Harg13
    ipureintro; rfl

end Cert.Proof.Kernel

end
-- ==== Proof.KernelRun.lean ====
module

public import proofs.«01_k».proof.Proof.KernelBody
public import Idealize.ShloMosaic.Lib.Pipeline.FrameBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What the region's body holds between two points: the scratch buffers at some contents each and the generator
    register at some state. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA
  rw [scopedRest0_eq]; simp only [owns_whole]; try rfl

/-- Both outputs are forgotten here: this run says nothing of what they hold at the end. -/
def forgets : Fin 7 → Bool := ![false, false, false, false, false, true, true]

/-- The proof data of the pipeline: the arrays as the region finds them, an input's staging buffer left at its block,
    the outputs' contents unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨n + 5, h⟩ => Pipeline.Dat.unnamed (cfg := cfg0) ⟨n + 5, h⟩ t
  Φ _ := Pipeline.ΦA spec0 c
  q _ := fullShare
  owed _ := 0

/-- The array of a window, as the pipeline finds it. -/
theorem A_eq (c : Dev nD) (w : Fin cfg0.W) : (dats m 0 c).A w = V m c (Pipeline.arrRef spec0 w) := by dsimp only [dats]
/-- Window 0 after a point: its block, as it was. -/
theorem after_0 (c : Dev nD) (t : Fin cfg0.N) : (dats m 0 c).after 0 t = iblk m c 0 t := rfl
/-- Window 0 before a point: its block. -/
theorem before_0 (c : Dev nD) (t : Fin cfg0.N) (d) : (dats m 0 c).before 0 t d = iblk m c 0 t :=
  before0_0_of m (dats m 0 c) (A_eq m c 0) (after_0 m c) t d
/-- Window 1 after a point: its block, as it was. -/
theorem after_1 (c : Dev nD) (t : Fin cfg0.N) : (dats m 0 c).after 1 t = iblk m c 1 t := rfl
/-- Window 1 before a point: its block. -/
theorem before_1 (c : Dev nD) (t : Fin cfg0.N) (d) : (dats m 0 c).before 1 t d = iblk m c 1 t :=
  before0_1_of m (dats m 0 c) (A_eq m c 1) (after_1 m c) t d
/-- Window 2 after a point: its block, as it was. -/
theorem after_2 (c : Dev nD) (t : Fin cfg0.N) : (dats m 0 c).after 2 t = iblk m c 2 t := rfl
/-- Window 2 before a point: its block. -/
theorem before_2 (c : Dev nD) (t : Fin cfg0.N) (d) : (dats m 0 c).before 2 t d = iblk m c 2 t :=
  before0_2_of m (dats m 0 c) (A_eq m c 2) (after_2 m c) t d
/-- Window 3 after a point: its block, as it was. -/
theorem after_3 (c : Dev nD) (t : Fin cfg0.N) : (dats m 0 c).after 3 t = iblk m c 3 t := rfl
/-- Window 3 before a point: its block. -/
theorem before_3 (c : Dev nD) (t : Fin cfg0.N) (d) : (dats m 0 c).before 3 t d = iblk m c 3 t :=
  before0_3_of m (dats m 0 c) (A_eq m c 3) (after_3 m c) t d
/-- Window 4 after a point: its block, as it was. -/
theorem after_4 (c : Dev nD) (t : Fin cfg0.N) : (dats m 0 c).after 4 t = iblk m c 4 t := rfl
/-- Window 4 before a point: its block. -/
theorem before_4 (c : Dev nD) (t : Fin cfg0.N) (d) : (dats m 0 c).before 4 t d = iblk m c 4 t :=
  before0_4_of m (dats m 0 c) (A_eq m c 4) (after_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare d)
    ∗ (∃ d, owns (c : Thread nD τ) (win0_6.stage (cfg0.slots t 6)) fullShare d))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (∃ d, owns (c : Thread nD τ) (win0_5.stage (cfg0.slots t 5)) fullShare d)
    ∗ (∃ d, owns (c : Thread nD τ) (win0_6.stage (cfg0.slots t 6)) fullShare d))

/-- The body at a point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before_0, before_1, before_2, before_3, before_4, after_0, after_1, after_2, after_3, after_4]
  iintro ⟨⟨⟨HS0, HS1, HS2, HS3, HS4, HS5⟩, Hg⟩, HO, ⟨%d0, H0⟩, ⟨%d1, H1⟩, ⟨%d2, H2⟩, ⟨%d3, H3⟩, ⟨%d4, H4⟩, H5, H6⟩
  iapply (kernelRun c (grid0.coords t) _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitr [Hg]; swap; · iexact Hg
    isplitl [HS0]; · iexact HS0
    isplitl [HS1]; · iexact HS1
    isplitl [HS2]; · iexact HS2
    isplitl [HS3]; · iexact HS3
    isplitl [HS4]; · iexact HS4
    iexact HS5
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation of the pipeline, the outputs forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The program runs to its end from any memory with zero counters, and at the end every array no window writes holds
    what it held, and every counter is zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: the arguments end unchanged and every semaphore counter reads zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Proof.Kernel

end
-- ==== Proof.KernelIdealBody.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- What the loop over the pairs of column chunks holds before any of its trips: the operands it reads at their
    contents, the buffers it writes at some contents. -/
abbrev pairInv (c : Dev nD)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (X2 : BufTy.Contents (Elt F) arg2.view.ty) (X5 : BufTy.Contents (Elt F) arg5.view.ty) (X8 : BufTy.Contents (Elt F) arg8.view.ty) (X9 : BufTy.Contents (Elt F) arg9.view.ty) : sProp 𝕄 :=
  iprop((arg2.view.loc (c : Thread nD τ) ↦[arg2.view.set]{fullShare} X2)
      ∗ (arg5.view.loc (c : Thread nD τ) ↦[arg5.view.set]{fullShare} X5)
      ∗ (arg8.view.loc (c : Thread nD τ) ↦[arg8.view.set]{fullShare} X8)
      ∗ (arg9.view.loc (c : Thread nD τ) ↦[arg9.view.set]{fullShare} X9)
      ∗ (∃ f, (arg6.view.loc (c : Thread nD τ) ↦[arg6.view.set]{fullShare} f))
      ∗ (∃ f, (arg10.view.loc (c : Thread nD τ) ↦[arg10.view.set]{fullShare} f))
      ∗ (∃ f, (arg11.view.loc (c : Thread nD τ) ↦[arg11.view.set]{fullShare} f))
      ∗ (∃ f, (arg12.view.loc (c : Thread nD τ) ↦[arg12.view.set]{fullShare} f))
      ∗ (∃ f, (arg13.view.loc (c : Thread nD τ) ↦[arg13.view.set]{fullShare} f)))

set_option warn.classDefReducibility false in
/-- The loop over the pairs of column chunks by that invariant: one trip, at any trip number, gives it back. -/
@[sl_loop] def loopInv_k0_t2 (c : Dev nD) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (X2 : BufTy.Contents (Elt F) arg2.view.ty) (X5 : BufTy.Contents (Elt F) arg5.view.ty) (X8 : BufTy.Contents (Elt F) arg8.view.ty) (X9 : BufTy.Contents (Elt F) arg9.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 where
  inv := fun _ _ => pairInv c arg1 harg1 arg2 harg2 arg3 harg3 arg4 harg4 arg5 harg5 arg6 harg6 arg7 harg7 arg8 harg8 arg9 harg9 arg10 harg10 arg11 harg11 arg12 harg12 arg13 harg13 X2 X5 X8 X9
  step := fun k acc => by
    have hk : k.val < 7 := Nat.lt_of_lt_of_le k.isLt k0_t2_abs.2.1
    unfold k0_t2_body
    iintro ⟨Harg2, Harg5, Harg8, Harg9, ⟨%f_arg6, Harg6⟩, ⟨%f_arg10, Harg10⟩, ⟨%f_arg11, Harg11⟩, ⟨%f_arg12, Harg12⟩, ⟨%f_arg13, Harg13⟩⟩
    sl_exec
    sl_step
    isplitl [Harg2]; · iexact Harg2
    isplitl [Harg5]; · iexact Harg5
    isplitl [Harg8]; · iexact Harg8
    isplitl [Harg9]; · iexact Harg9
    isplitl [Harg6]; · iexists _; iexact Harg6
    isplitl [Harg10]; · iexists _; iexact Harg10
    isplitl [Harg11]; · iexists _; iexact Harg11
    isplitl [Harg12]; · iexists _; iexact Harg12
    iexists _; iexact Harg13

/-- The body at any grid point, for any continuation: the operands held at any contents come back as they were, the
    results' blocks and the scratch buffers, whatever they held, come back at some contents. -/
theorem kernelRun (c : Dev nD) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (d1 : S8x128.Idx → Elt F .bf16) (d2 : S8x384.Idx → Elt F .bf16) (d3 : S64x16.Idx → Elt F .f32) (d4 : S2x2x64x128.Idx → Elt F .f32) (d5 : S64x32768.Idx → Elt F .i8) (Q : PUnit → sProp 𝕄) :
    iprop(owns (c : Thread nD τ) arg1 fullShare d1
        ∗ owns (c : Thread nD τ) arg2 fullShare d2
        ∗ owns (c : Thread nD τ) arg3 fullShare d3
        ∗ owns (c : Thread nD τ) arg4 fullShare d4
        ∗ owns (c : Thread nD τ) arg5 fullShare d5
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg1 fullShare d1
        ∗ owns (c : Thread nD τ) arg2 fullShare d2
        ∗ owns (c : Thread nD τ) arg3 fullShare d3
        ∗ owns (c : Thread nD τ) arg4 fullShare d4
        ∗ owns (c : Thread nD τ) arg5 fullShare d5
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)) -∗ Q ⟨⟩))
      ⊢ wp frame (wpE (defs₀ (F := F)) Variants.none (c : Thread nD τ) none) Set.univ
          (cc0_pq_adc_l2 (F := F) i arg1 harg1 arg2 harg2 arg3 harg3 arg4 harg4 arg5 harg5 arg6 harg6 arg7 harg7 arg8 harg8 arg9 harg9 arg10 harg10 arg11 harg11 arg12 harg12 arg13 harg13) Q := by
  unfold owns
  iintro ⟨⟨%f_arg1, %h_arg1, Harg1⟩, ⟨%f_arg2, %h_arg2, Harg2⟩, ⟨%f_arg3, %h_arg3, Harg3⟩, ⟨%f_arg4, %h_arg4, Harg4⟩, ⟨%f_arg5, %h_arg5, Harg5⟩, ⟨%d_arg6, %f_arg6, -, Harg6⟩, ⟨%d_arg7, %f_arg7, -, Harg7⟩, ⟨%d_arg8, %f_arg8, -, Harg8⟩, ⟨%d_arg9, %f_arg9, -, Harg9⟩, ⟨%d_arg10, %f_arg10, -, Harg10⟩, ⟨%d_arg11, %f_arg11, -, Harg11⟩, ⟨%d_arg12, %f_arg12, -, Harg12⟩, ⟨%d_arg13, %f_arg13, -, Harg13⟩, Hk⟩
  by_cases hi : k0_cond1 i = 1#1
  all_goals
    simp only [cc0_pq_adc_l2_eq_skeleton]; unfold cc0_pq_adc_l2_skel
    sl_exec
    sl_step
    iapply Hk
    isplitl [Harg1]
    · iexists _; isplitr; swap; · iexact Harg1
      ipureintro; exact h_arg1
    isplitl [Harg2]
    · iexists _; isplitr; swap; · iexact Harg2
      ipureintro; exact h_arg2
    isplitl [Harg3]
    · iexists _; isplitr; swap; · iexact Harg3
      ipureintro; exact h_arg3
    isplitl [Harg4]
    · iexists _; isplitr; swap; · iexact Harg4
      ipureintro; exact h_arg4
    isplitl [Harg5]
    · iexists _; isplitr; swap; · iexact Harg5
      ipureintro; exact h_arg5
    isplitl [Harg6]
    · iexists _, _; isplitr; swap; · iexact Harg6
      ipureintro; rfl
    isplitl [Harg7]
    · iexists _, _; isplitr; swap; · iexact Harg7
      ipureintro; rfl
    isplitl [Harg8]
    · iexists _, _; isplitr; swap; · iexact Harg8
      ipureintro; rfl
    isplitl [Harg9]
    · iexists _, _; isplitr; swap; · iexact Harg9
      ipureintro; rfl
    isplitl [Harg10]
    · iexists _, _; isplitr; swap; · iexact Harg10
      ipureintro; rfl
    isplitl [Harg11]
    · iexists _, _; isplitr; swap; · iexact Harg11
      ipureintro; rfl
    isplitl [Harg12]
    · iexists _, _; isplitr; swap; · iexact Harg12
      ipureintro; rfl
    iexists _, _; isplitr; swap; · iexact Harg13
    ipureintro; rfl

end Cert.Proof.KernelIdeal

end
-- ==== Proof.KernelIdealRun.lean ====
module

public import proofs.«01_k».proof.Proof.KernelIdealBody
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What the region's body holds between two points: the scratch buffers at some contents each and the generator
    register at some state. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA
  rw [scopedRest0_eq]; simp only [owns_whole]; try rfl

/-- Both outputs are forgotten here: this run says nothing of what they hold at the end. -/
def forgets : Fin 7 → Bool := ![false, false, false, false, false, true, true]

/-- The proof data of the pipeline: the arrays as the region finds them, an input's staging buffer left at its block,
    the outputs' contents unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨n + 5, h⟩ => Pipeline.Dat.unnamed (cfg := cfg0) ⟨n + 5, h⟩ t
  Φ _ := Pipeline.ΦA spec0 c
  q _ := fullShare
  owed _ := 0

/-- The array of a window, as the pipeline finds it. -/
theorem A_eq (c : Dev nD) (w : Fin cfg0.W) : (dats m 0 c).A w = V m c (Pipeline.arrRef spec0 w) := by dsimp only [dats]
/-- Window 0 after a point: its block, as it was. -/
theorem after_0 (c : Dev nD) (t : Fin cfg0.N) : (dats m 0 c).after 0 t = iblk m c 0 t := rfl
/-- Window 0 before a point: its block. -/
theorem before_0 (c : Dev nD) (t : Fin cfg0.N) (d) : (dats m 0 c).before 0 t d = iblk m c 0 t :=
  before0_0_of m (dats m 0 c) (A_eq m c 0) (after_0 m c) t d
/-- Window 1 after a point: its block, as it was. -/
theorem after_1 (c : Dev nD) (t : Fin cfg0.N) : (dats m 0 c).after 1 t = iblk m c 1 t := rfl
/-- Window 1 before a point: its block. -/
theorem before_1 (c : Dev nD) (t : Fin cfg0.N) (d) : (dats m 0 c).before 1 t d = iblk m c 1 t :=
  before0_1_of m (dats m 0 c) (A_eq m c 1) (after_1 m c) t d
/-- Window 2 after a point: its block, as it was. -/
theorem after_2 (c : Dev nD) (t : Fin cfg0.N) : (dats m 0 c).after 2 t = iblk m c 2 t := rfl
/-- Window 2 before a point: its block. -/
theorem before_2 (c : Dev nD) (t : Fin cfg0.N) (d) : (dats m 0 c).before 2 t d = iblk m c 2 t :=
  before0_2_of m (dats m 0 c) (A_eq m c 2) (after_2 m c) t d
/-- Window 3 after a point: its block, as it was. -/
theorem after_3 (c : Dev nD) (t : Fin cfg0.N) : (dats m 0 c).after 3 t = iblk m c 3 t := rfl
/-- Window 3 before a point: its block. -/
theorem before_3 (c : Dev nD) (t : Fin cfg0.N) (d) : (dats m 0 c).before 3 t d = iblk m c 3 t :=
  before0_3_of m (dats m 0 c) (A_eq m c 3) (after_3 m c) t d
/-- Window 4 after a point: its block, as it was. -/
theorem after_4 (c : Dev nD) (t : Fin cfg0.N) : (dats m 0 c).after 4 t = iblk m c 4 t := rfl
/-- Window 4 before a point: its block. -/
theorem before_4 (c : Dev nD) (t : Fin cfg0.N) (d) : (dats m 0 c).before 4 t d = iblk m c 4 t :=
  before0_4_of m (dats m 0 c) (A_eq m c 4) (after_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare d)
    ∗ (∃ d, owns (c : Thread nD τ) (win0_6.stage (cfg0.slots t 6)) fullShare d))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ (∃ d, owns (c : Thread nD τ) (win0_5.stage (cfg0.slots t 5)) fullShare d)
    ∗ (∃ d, owns (c : Thread nD τ) (win0_6.stage (cfg0.slots t 6)) fullShare d))

/-- The body at a point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before_0, before_1, before_2, before_3, before_4, after_0, after_1, after_2, after_3, after_4]
  iintro ⟨⟨⟨HS0, HS1, HS2, HS3, HS4, HS5⟩, Hg⟩, HO, ⟨%d0, H0⟩, ⟨%d1, H1⟩, ⟨%d2, H2⟩, ⟨%d3, H3⟩, ⟨%d4, H4⟩, H5, H6⟩
  iapply (kernelRun c (grid0.coords t) _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitr [Hg]; swap; · iexact Hg
    isplitl [HS0]; · iexact HS0
    isplitl [HS1]; · iexact HS1
    isplitl [HS2]; · iexact HS2
    isplitl [HS3]; · iexact HS3
    isplitl [HS4]; · iexact HS4
    iexact HS5
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation of the pipeline, the outputs forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The program runs to its end from any memory with zero counters, and at the end every array no window writes holds
    what it held, and every counter is zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: the arguments end unchanged and every semaphore counter reads zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Proof.KernelIdeal

end
-- ==== Proof.Claims.lean ====
module

public import proofs.«01_k».proof.Defs
public import proofs.«01_k».proof.Proof.KernelRun
public import proofs.«01_k».proof.Proof.KernelIdealRun
public import proofs.«01_k».proof.Proof.Gen.ReferenceIdeal
public import proofs.«01_k».proof.Proof.Gen.ReferenceIdeal.Run
public import Idealize.ShloMosaic.Lib.Quiescent
public import Idealize.ShloMosaic.Lib.Bf16PairInverse

@[expose] public section

noncomputable section

namespace Cert.Proof

open Idealize.ShloMosaic Idealize.ShloMosaic.TcCoe Idealize.SL.Sem

local instance instKernelFacts : Cert.Kernel.Facts := Cert.Kernel.Gen.facts
local instance instKernelIdealFacts : Cert.KernelIdeal.Facts := Cert.KernelIdeal.Gen.facts
local instance instReferenceIdealFacts : Cert.ReferenceIdeal.Facts := Cert.ReferenceIdeal.Gen.facts

/-- The kernel, on bits: it runs to its end, its arguments end unchanged and every counter at zero. -/
theorem frameKernel : Cert.quiescent_Kernel (hKernel := Cert.Kernel.Gen.facts) :=
  fun m g _ => Cert.Proof.Kernel.frame m g

/-- The idealized kernel: it runs to its end, its arguments end unchanged and every counter at zero. -/
theorem frameKernelIdeal : Cert.quiescent_KernelIdeal (hKernelIdeal := Cert.KernelIdeal.Gen.facts) :=
  fun m g _ => Cert.Proof.KernelIdeal.frame m g

/-- The idealized reference: it runs to its end, its arguments end unchanged; it has no counter. -/
theorem frameReferenceIdeal : Cert.quiescent_ReferenceIdeal (hReferenceIdeal := Cert.ReferenceIdeal.Gen.facts) :=
  fun m g _ => (θ_run _ _ _).mono
    (fun r h => ⟨fun c => ⟨(h c).2.2.1, (h c).2.2.2.1, (h c).2.2.2.2⟩, sem_eq_zero_of_no_sems (by decide) _⟩)
    (Cert.ReferenceIdeal.Value.run m g)

/-- Every rewrite that makes the idealized kernel of the kernel is one of the sanctioned rules. -/
theorem preserves : Cert.preserves_Kernel_KernelIdeal :=
  ⟨IdealRules.bf16_pair.bufferStatement _ _, IdealRules.bf16_pack.statement _, IdealRules.bf16_pair.packStatement _,
    IdealRules.bf16_pair.statement _ _, IdealRules.bf16_pair.statement _ _, IdealRules.bf16_pair.statement _ _⟩

end Cert.Proof

end
-- ==== Proof.Words.lean ====
module

public import Idealize.ShloMosaic.Lib.Pointwise
public import Idealize.ShloMosaic.Lib.BitcastFour

@[expose] public section

namespace Cert.Proof

open Idealize.ShloMosaic

/-- A byte whose bits are byte `j` of a word is that byte of the word. -/
theorem byte_eq (W : BitVec 32) (b : BitVec 8) (j : Fin 4) (h : ∀ q, q < 8 → W.getLsbD (8 * j.val + q) = b.getLsbD q) :
    b.toNat = W.toNat / 2 ^ (8 * j.val) % 256 := by
  have e : b = BitVec.extractLsb' (8 * j.val) 8 W := by
    apply BitVec.eq_of_getLsbD_eq
    intro q hq
    rw [← h q hq, BitVec.getLsbD_extractLsb']
    simp [hq]
  rw [e, BitVec.extractLsb'_toNat, Nat.shiftRight_eq_div_pow]

/-- The low seven bits of byte `j` of a word, as a number, when the byte is `b`. -/
theorem word_low (W : BitVec 32) (b : BitVec 8) (j : Fin 4) (h : ∀ q, q < 8 → W.getLsbD (8 * j.val + q) = b.getLsbD q) :
    (IntOp.andi (IntOp.shrui .vector W (BitVec.ofNat 32 (8 * j.val))) 127#32).toNat % 128 = b.toNat % 128 := by
  rw [byte_eq W b j h]
  have e : (IntOp.shrui .vector W (BitVec.ofNat 32 (8 * j.val))).toNat = W.toNat / 2 ^ (8 * j.val) := by
    fin_cases j <;> simp [IntOp.shrui, Nat.shiftRight_eq_div_pow]
  have e2 : ∀ u : BitVec 32, (IntOp.andi u 127#32).toNat = u.toNat % 128 := by
    intro u
    show (u &&& 127#32).toNat = _
    rw [BitVec.toNat_and]
    exact Nat.and_two_pow_sub_one_eq_mod u.toNat 7
  rw [e2, e]
  omega

/-- Byte `j` of a word, shifted to the top, is negative exactly when the byte `b` is at least 128. -/
theorem word_top (W : BitVec 32) (b : BitVec 8) (j : Fin 4) (h : ∀ q, q < 8 → W.getLsbD (8 * j.val + q) = b.getLsbD q) :
    IntOp.cmpi .slt (IntOp.shli .vector W (BitVec.ofNat 32 (24 - 8 * j.val))) 0#32 = BitVec.ofBool (decide (128 ≤ b.toNat)) := by
  have hb := byte_eq W b j h
  have e : (IntOp.shli .vector W (BitVec.ofNat 32 (24 - 8 * j.val))).toNat = W.toNat * 2 ^ (24 - 8 * j.val) % 2 ^ 32 := by
    fin_cases j <;> simp [IntOp.shli, Nat.shiftLeft_eq] <;> omega
  have e2 : ∀ u : BitVec 32, u.slt 0#32 = decide (2 ^ 31 ≤ u.toNat) := by
    intro u
    rw [BitVec.slt_zero_eq_msb, BitVec.msb_eq_decide]
  show BitVec.ofBool (BitVec.slt _ 0#32) = _
  rw [e2, e, hb]
  congr 1
  have := W.isLt
  fin_cases j <;> simp <;> omega

end Cert.Proof
-- ==== Proof.DecodeSpec.lean ====
module

public import proofs.«01_k».proof.Proof.Gen.KernelIdeal.Loops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable {F : FTy → Type} [FloatOps F]

/-! # What one trip of a decode stores, as vectors

A decode walks a chunk of 2048 columns sixteen lane tiles at a time. One trip loads two blocks of 32 rows of codes, reads
each as words of four codes, looks the 8 groups of 8 subspaces up in the table, and stores per group the three parts of
the two coordinates found (their `bf16` rounding, the rounding of what is left, the rest) and, last, the sum of squares. -/

/-- The coordinates one group of subspaces finds: byte `j` of each word of codes picks the lane (its low seven bits) of
    the lower table `T0` or, its top bit set, of the upper table `T1`; `sr` is `8 j` and `sl` is `24 - 8 j`. -/
def yVec (sr sl : BitVec 32) (V : Vec F S32x128 .i8) (T0 T1 : Vec F S1x1x8x128 .f32) : FVec F S8x128 .f32 :=
  let W : IVec S8x128 32 := bitcast S8x128 32 (shapeCast S32x128 V shapeCasts_S32x128_S32x128) bitcasts_S32x128_w8_S8x128_w32
  let idx : IVec S8x128 32 := shapeCast S8x128 (shapeCast S8x128x1 (andi (shrui W (broadcast S8x128 sr)) (broadcast S8x128 127#32))
    shapeCasts_S8x128_S8x128x1) shapeCasts_S8x128x1_S8x128
  select (cmpi .slt (shli W (broadcast S8x128 sl)) (broadcast S8x128 0#32))
    (dynamicGather 1 (shapeCast S8x128 T1 shapeCasts_S1x1x8x128_S8x128) idx)
    (dynamicGather 1 (shapeCast S8x128 T0 shapeCasts_S1x1x8x128_S8x128) idx)

/-- The two coordinates of the eight groups, out of the two blocks of codes and the table's rows. -/
def yAll (V : Fin 2 → Vec F S32x128 .i8) (T : Fin 8 → Fin 4 → Vec F S1x1x8x128 .f32) (g : Fin 8) (d : Fin 2) : FVec F S8x128 .f32 :=
  yVec (BitVec.ofNat 32 (8 * (g.val % 4))) (BitVec.ofNat 32 (24 - 8 * (g.val % 4))) (V ⟨g.val / 4, by omega⟩)
    (T g ⟨2 * d.val, by omega⟩) (T g ⟨2 * d.val + 1, by omega⟩)

/-- A coordinate rounded to `bf16`, at the wide type. -/
def hiPart (y : FVec F S8x128 .f32) : FVec F S8x128 .f32 := extf .f32 (truncf .bf16 y bitsLt_bf16_f32) bitsLt_bf16_f32

/-- Two vectors, rounded to `bf16`, as the low and the high rows of a block of row pairs. -/
def packRows (a b : FVec F S8x128 .f32) : Vec F S8x2x128 .bf16 :=
  interleaveRows S8x2x128 (shapeCast S8x1x128 (truncf .bf16 a bitsLt_bf16_f32) shapeCasts_S8x128_S8x1x128)
    (shapeCast S8x1x128 (truncf .bf16 b bitsLt_bf16_f32) shapeCasts_S8x128_S8x1x128) bitcasts_S8x2x128_w16_S8x1x128_w32

/-- The three parts of a coordinate, by number: its rounding, the rounding of what is left, the rest. -/
def part (p : Fin 3) (y : FVec F S8x128 .f32) : FVec F S8x128 .f32 :=
  match p with
  | 0 => hiPart y
  | 1 => hiPart (subf y (hiPart y))
  | 2 => subf (subf y (hiPart y)) (hiPart (subf y (hiPart y)))

/-- The square of a group's two coordinates, summed. -/
def sqVec (Y : Fin 8 → Fin 2 → FVec F S8x128 .f32) (g : Fin 8) : FVec F S8x128 .f32 :=
  addf (mulf (Y g 0) (Y g 0)) (mulf (Y g 1) (Y g 1))

/-- The sum of squares over the eight groups, in the order the kernel adds them. -/
def normVec (Y : Fin 8 → Fin 2 → FVec F S8x128 .f32) : FVec F S8x128 .f32 :=
  addf (addf (addf (addf (addf (addf (addf (sqVec Y 0) (sqVec Y 1)) (sqVec Y 2)) (sqVec Y 3)) (sqVec Y 4)) (sqVec Y 5)) (sqVec Y 6)) (sqVec Y 7)

/-- The piece of part `p` of group `g`, in the rows of word row `64 p + 8 g` on, stored at `off`. -/
def partPiece (off : Fin 3 → ℕ) (inb : ∀ a, off a + S8x2x128.size a ≤ S192x2x2048.size a) (p : Fin 3)
    (y0 y1 : FVec F S8x128 .f32) : View.Piece (Elt F) S192x2x2048 .bf16 :=
  ⟨Rect.unit (s := S192x2x2048) off S8x2x128.size inb, packRows (part p y0) (part p y1)⟩

/-- The piece of the norms, stored at `off`. -/
def normPiece (off : Fin 2 → ℕ) (inb : ∀ a, off a + S8x128.size a ≤ S8x2048.size a) (v : FVec F S8x128 .f32) :
    View.Piece (Elt F) S8x2048 .f32 :=
  ⟨Rect.unit (s := S8x2048) off S8x128.size inb, shapeCast S8x128 v shapeCasts_S8x128_S8x128⟩

/-- The table's rows as a decode loads them, one group and one quarter at a time. -/
def tabRows (arg8 : Memref sig .tc .vmem S8x4x8x128 .f32) (X8 : BufTy.Contents (Elt F) arg8.view.ty) (g : Fin 8) (h : Fin 4) :
    Vec F S1x1x8x128 .f32 :=
  View.readAt (Elt F) arg8.view (Rect.unit (s := S8x4x8x128) ![g.val, h.val, 0, 0] S1x1x8x128.size
    (by intro a; have := g.isLt; have := h.isLt; fin_cases a <;> simp [S1x1x8x128, S8x4x8x128] <;> omega)).toLoadRect X8

/-- The two blocks of codes one trip loads, at offsets `o0` and `o1`. -/
def codeRows (arg5 : Memref sig .tc .vmem S64x32768 .i8) (X5 : BufTy.Contents (Elt F) arg5.view.ty) (o : Fin 2 → Fin 2 → ℕ)
    (inb : ∀ t a, o t a + S32x128.size a ≤ S64x32768.size a) (t : Fin 2) : Vec F S32x128 .i8 :=
  View.readAt (Elt F) arg5.view (Rect.unit (s := S64x32768) (o t) S32x128.size (inb t)).toLoadRect X5

end Cert.Proof.KernelIdeal

end
-- ==== Proof.DecodeValue.lean ====
module

public import proofs.«01_k».proof.Proof.Words
public import proofs.«01_k».proof.Proof.DecodeSpec
public import Idealize.ShloMosaic.Lib.Writes

@[expose] public section

set_option maxRecDepth 16384

noncomputable section

namespace Cert.Proof.KernelIdeal

open Cert.KernelIdeal Cert.KernelIdeal.Gen
open Idealize.ShloMosaic

/-! # What a decode leaves in its buffers, as functions of the table and the codes

Over the extended reals. A table row `tab g (2 d + h) r lane` is coordinate `d` of centroid `128 h + lane` of the
subspace that group `g` has at row `r`; that subspace is number `32 (g / 4) + 4 r + g % 4`. -/

/-- The subspace group `g` has at row `r`. -/
def subOf (g r : Fin 8) : Fin 64 := ⟨32 * (g.val / 4) + 4 * r.val + g.val % 4, by omega⟩

/-- Coordinate `d` of the centroid with code `b`, in the table. -/
def cell (tab : S8x4x8x128.Idx → EReal) (g : Fin 8) (d : Fin 2) (r : Fin 8) (b : BitVec 8) : EReal :=
  if 128 ≤ b.toNat then tab (ix4 g ⟨2 * d.val + 1, by omega⟩ r ⟨b.toNat % 128, Nat.mod_lt _ (by decide)⟩)
  else tab (ix4 g ⟨2 * d.val, by omega⟩ r ⟨b.toNat % 128, Nat.mod_lt _ (by decide)⟩)

/-- The three parts of a number over the extended reals: itself, what is left, what is left of that. -/
def partE (p : ℕ) (y : EReal) : EReal := if p = 0 then y else if p = 1 then y - y else (y - y) - (y - y)

/-- A row of the block of codes: row `a` of tile `t`. -/
def rowOf (t : Fin 2) (a : Fin 32) : Fin 64 := ⟨32 * t.val + a.val, by omega⟩

/-- A column of the block of codes. -/
def colOf (c : ℕ) : Fin 32768 := ⟨c % 32768, Nat.mod_lt _ (by decide)⟩

/-- The parts a decode of the chunk of columns from `base` on leaves. -/
def PARTS (tab : S8x4x8x128.Idx → EReal) (codes : S64x32768.Idx → BitVec 8) (base : ℕ) (y : S192x2x2048.Idx) : EReal :=
  let g : Fin 8 := ⟨(y 0).val % 64 / 8, by have := Nat.mod_lt (y 0).val (show 64 > 0 by decide); omega⟩
  let r : Fin 8 := ⟨(y 0).val % 8, Nat.mod_lt _ (by decide)⟩
  partE ((y 0).val / 64) (cell tab g ⟨(y 1).val, (y 1).isLt⟩ r (codes (ix2 (subOf g r) (colOf (base + (y 2).val)))))

/-- The squared length of what group `g` finds at row `r` of column `c`. -/
def sqE (tab : S8x4x8x128.Idx → EReal) (codes : S64x32768.Idx → BitVec 8) (r : Fin 8) (c : ℕ) (g : Fin 8) : EReal :=
  cell tab g 0 r (codes (ix2 (subOf g r) (colOf c))) * cell tab g 0 r (codes (ix2 (subOf g r) (colOf c)))
    + cell tab g 1 r (codes (ix2 (subOf g r) (colOf c))) * cell tab g 1 r (codes (ix2 (subOf g r) (colOf c)))

/-- The norms a decode of the chunk of columns from `base` on leaves. -/
def NORM (tab : S8x4x8x128.Idx → EReal) (codes : S64x32768.Idx → BitVec 8) (base : ℕ) (y : S8x2048.Idx) : EReal :=
  ∑ g : Fin 8, sqE tab codes ⟨(y 0).val, (y 0).isLt⟩ (base + (y 1).val) g

/-- A list's entry at a position is in the list. -/
theorem mem_at {α : Type} (L : List α) (n : ℕ) (h : n < L.length) : L[n] ∈ L := List.getElem_mem h

/-- The buffer after the trips of a decode: where every piece of every trip agrees with `G` and the trips cover the columns,
    it reads `G`. -/
theorem read_of_trips {sig : RefSig} {κ : Kind} {sp : Space} {s : Shape} {e : EltTy} {Val : EltTy → Type} (v : View sig κ sp s e)
    (f : v.ty.Contents Val) (G : s.Idx → Val e) (col : s.Idx → ℕ) (n : ℕ) (hcol : ∀ y, col y < 128 * n)
    (pb : ℕ → List (View.Piece Val s e)) (trip : Fin n → List (View.Piece Val s e)) (h0 : pb 0 = [])
    (hs : ∀ k : Fin n, pb (k.val + 1) = trip k ++ pb k.val) (hG : ∀ k, ∀ p ∈ trip k, ∀ x : p.1.shape.Idx, p.2 x = G (p.1.emb x))
    (hcov : ∀ (k : Fin n) y, 128 * k.val ≤ col y → col y < 128 * k.val + 128 → ∃ p ∈ trip k, y ∈ p.1.set) :
    v.read Val (v.writes Val f (pb n)) = G := by
  have key : ∀ k, k ≤ n → (∀ p ∈ pb k, ∀ x : p.1.shape.Idx, p.2 x = G (p.1.emb x)) ∧ (∀ y, col y < 128 * k → ∃ p ∈ pb k, y ∈ p.1.set) := by
    intro k
    induction k with
    | zero => intro _; rw [h0]; exact ⟨fun p hp => absurd hp List.not_mem_nil, fun y hy => absurd hy (by omega)⟩
    | succ k ih =>
      intro hk
      obtain ⟨i1, i2⟩ := ih (by omega)
      rw [hs ⟨k, hk⟩]
      refine ⟨fun p hp => ?_, fun y hy => ?_⟩
      · rcases List.mem_append.1 hp with h | h
        · exact hG _ p h
        · exact i1 p h
      · by_cases hlt : col y < 128 * k
        · obtain ⟨p, hp, hy⟩ := i2 y hlt
          exact ⟨p, List.mem_append_right _ hp, hy⟩
        · obtain ⟨p, hp, hy⟩ := hcov ⟨k, hk⟩ y (by show 128 * k ≤ _; omega) (by show _ < 128 * k + 128; omega)
          exact ⟨p, List.mem_append_left _ hp, hy⟩
  obtain ⟨k1, k2⟩ := key n le_rfl
  funext y
  exact View.read_writes_apply_of_pieces v f G (pb n) k1 y (k2 y (hcol y))

/-! ## One trip's vectors at an index -/

/-- A group's coordinate at an index: the table's entry at the byte of codes there. -/
theorem yVec_apply (j : Fin 4) (V : Vec Ideal S32x128 .i8) (T0 T1 : Vec Ideal S1x1x8x128 .f32) (r : Fin 8) (l : Fin 128) :
    yVec (F := Ideal) (BitVec.ofNat 32 (8 * j.val)) (BitVec.ofNat 32 (24 - 8 * j.val)) V T0 T1 (ix2 r l)
      = if 128 ≤ (V (ix2 ⟨4 * r.val + j.val, by omega⟩ l)).toNat
        then T1 (ix4 0 0 r ⟨(V (ix2 ⟨4 * r.val + j.val, by omega⟩ l)).toNat % 128, Nat.mod_lt _ (by decide)⟩)
        else T0 (ix4 0 0 r ⟨(V (ix2 ⟨4 * r.val + j.val, by omega⟩ l)).toNat % 128, Nat.mod_lt _ (by decide)⟩) := by
  pointwise [yVec]
  have hbit : ∀ q, q < 8 → (bitcast S8x128 32 V bitcasts_S32x128_w8_S8x128_w32 (ix2 r l)).getLsbD (8 * j.val + q)
      = (V (ix2 ⟨4 * r.val + j.val, by omega⟩ l)).getLsbD q := by
    intro q hq
    rw [ix2_eq_valueIdx, ix2_eq_valueIdx]
    rw [bitcast_8_32_getLsbD_ix2 V bitcasts_S32x128_w8_S8x128_w32 r l (8 * j.val + q) (by omega) ⟨4 * r.val + j.val, by omega⟩
      (by show 4 * r.val + j.val = _; omega)]
    congr 1
    omega
  simp only [word_low _ _ j hbit, word_top _ _ j hbit]
  by_cases h : 128 ≤ (V (ix2 ⟨4 * r.val + j.val, by omega⟩ l)).toNat
  · rw [if_pos h, decide_eq_true h]; rfl
  · rw [if_neg h, decide_eq_false h]; rfl

/-- A part at an index. -/
theorem part_apply (y : FVec Ideal S8x128 .f32) (p : Fin 3) (r : Fin 8) (l : Fin 128) :
    part p y (ix2 r l) = partE p.val (y (ix2 r l)) := by
  fin_cases p <;> pointwise [part, hiPart, partE]

/-- A block of row pairs at an index: the low vector's row or the high one's. -/
theorem packRows_apply (a b : FVec Ideal S8x128 .f32) (r : Fin 8) (h : Fin 2) (l : Fin 128) :
    packRows a b (ix3 r h l) = if h.val = 0 then a (ix2 r l) else b (ix2 r l) := by
  pointwise [packRows]
  have : h.val % 2 = h.val := Nat.mod_eq_of_lt h.isLt
  rw [this]

section Trip

variable (tab : S8x4x8x128.Idx → EReal) (codes : S64x32768.Idx → BitVec 8) (V : Fin 2 → Vec Ideal S32x128 .i8)
  (T : Fin 8 → Fin 4 → Vec Ideal S1x1x8x128 .f32) (c : ℕ)
  (hV : ∀ (t : Fin 2) (a : Fin 32) (l : Fin 128), V t (ix2 a l) = codes (ix2 (rowOf t a) (colOf (c + l.val))))
  (hT : ∀ (g : Fin 8) (h : Fin 4) (r : Fin 8) (l : Fin 128), T g h (ix4 0 0 r l) = tab (ix4 g h r l))

include hV hT in
/-- A group's coordinate at an index, the trip's blocks of codes and table rows read. -/
theorem yAll_apply (g : Fin 8) (d : Fin 2) (r : Fin 8) (l : Fin 128) :
    yAll (F := Ideal) V T g d (ix2 r l) = cell tab g d r (codes (ix2 (subOf g r) (colOf (c + l.val)))) := by
  unfold yAll
  rw [yVec_apply ⟨g.val % 4, Nat.mod_lt _ (by decide)⟩]
  simp only [hV, hT]
  have e : rowOf ⟨g.val / 4, by omega⟩ ⟨4 * r.val + g.val % 4, by omega⟩ = subOf g r :=
    Fin.ext (by show 32 * (g.val / 4) + (4 * r.val + g.val % 4) = 32 * (g.val / 4) + 4 * r.val + g.val % 4; omega)
  simp only [e]
  rfl

include hV hT in
/-- A piece of parts agrees with what the decode leaves. -/
theorem partPiece_agrees (base o : ℕ) (hc : c = base + o) (off : Fin 3 → ℕ) (inb) (p : Fin 3) (g : Fin 8)
    (hoff : off = ![64 * p.val + 8 * g.val, 0, o]) :
    ∀ x : (partPiece (F := Ideal) off inb p (yAll V T g 0) (yAll V T g 1)).1.shape.Idx,
      (partPiece (F := Ideal) off inb p (yAll V T g 0) (yAll V T g 1)).2 x
        = PARTS tab codes base ((partPiece (F := Ideal) off inb p (yAll V T g 0) (yAll V T g 1)).1.emb x) := by
  subst hoff hc
  intro x
  obtain ⟨r, h, l, rfl⟩ : ∃ (r : Fin 8) (h : Fin 2) (l : Fin 128), x = ix3 r h l := ⟨x 0, x 1, x 2, by funext a; fin_cases a <;> rfl⟩
  show packRows _ _ (ix3 r h l) = _
  rw [packRows_apply, part_apply, part_apply, yAll_apply tab codes V T _ hV hT, yAll_apply tab codes V T _ hV hT]
  have e0 : (((Rect.unit (s := S192x2x2048) ![64 * p.val + 8 * g.val, 0, o] S8x2x128.size inb).emb (ix3 r h l)) 0).val = 64 * p.val + 8 * g.val + r.val := by
    show 64 * p.val + 8 * g.val + 1 * r.val = _; omega
  have e1 : (((Rect.unit (s := S192x2x2048) ![64 * p.val + 8 * g.val, 0, o] S8x2x128.size inb).emb (ix3 r h l)) 1).val = h.val := by
    show 0 + 1 * h.val = _; omega
  have e2 : (((Rect.unit (s := S192x2x2048) ![64 * p.val + 8 * g.val, 0, o] S8x2x128.size inb).emb (ix3 r h l)) 2).val = o + l.val := by
    show o + 1 * l.val = _; omega
  show _ = PARTS tab codes base ((Rect.unit (s := S192x2x2048) ![64 * p.val + 8 * g.val, 0, o] S8x2x128.size inb).emb (ix3 r h l))
  unfold PARTS
  simp only [e0, e1, e2]
  have q0 : (64 * p.val + 8 * g.val + r.val) / 64 = p.val := by omega
  have q1 : (64 * p.val + 8 * g.val + r.val) % 64 / 8 = g.val := by omega
  have q2 : (64 * p.val + 8 * g.val + r.val) % 8 = r.val := by omega
  simp only [q0, q1, q2, ← Nat.add_assoc]
  fin_cases h <;> rfl

include hV hT in
/-- The piece of norms agrees with what the decode leaves. -/
theorem normPiece_agrees (base o : ℕ) (hc : c = base + o) (off : Fin 2 → ℕ) (inb) (hoff : off = ![0, o]) :
    ∀ x : (normPiece (F := Ideal) off inb (normVec (yAll V T))).1.shape.Idx,
      (normPiece (F := Ideal) off inb (normVec (yAll V T))).2 x
        = NORM tab codes base ((normPiece (F := Ideal) off inb (normVec (yAll V T))).1.emb x) := by
  subst hoff hc
  intro x
  obtain ⟨r, l, rfl⟩ : ∃ (r : Fin 8) (l : Fin 128), x = ix2 r l := ⟨x 0, x 1, by funext a; fin_cases a <;> rfl⟩
  have e0 : (((Rect.unit (s := S8x2048) ![0, o] S8x128.size inb).emb (ix2 r l)) 0).val = r.val := by
    show 0 + 1 * r.val = _; omega
  have e1 : (((Rect.unit (s := S8x2048) ![0, o] S8x128.size inb).emb (ix2 r l)) 1).val = o + l.val := by
    show o + 1 * l.val = _; omega
  show shapeCast S8x128 (normVec (yAll V T)) shapeCasts_S8x128_S8x128 (ix2 r l)
    = NORM tab codes base ((Rect.unit (s := S8x2048) ![0, o] S8x128.size inb).emb (ix2 r l))
  unfold NORM
  simp only [e0, e1]
  pointwise [normVec, sqVec]
  simp only [yAll_apply tab codes V T _ hV hT]
  simp only [Fin.sum_univ_eight, sqE, Nat.add_assoc]

end Trip

/-- Part `p` of group `g` covers its rows of its lane tile. -/
theorem partPiece_covers (off : Fin 3 → ℕ) (inb) (p : Fin 3) (y0 y1 : FVec Ideal S8x128 .f32) (w o : ℕ) (hoff : off = ![8 * w, 0, o])
    (y : S192x2x2048.Idx) (hw : (y 0).val / 8 = w) (h0 : o ≤ (y 2).val) (h1 : (y 2).val < o + 128) :
    y ∈ (partPiece (F := Ideal) off inb p y0 y1).1.set := by
  subst hoff
  show y ∈ (Rect.unit (s := S192x2x2048) ![8 * w, 0, o] S8x2x128.size inb).set
  rw [Rect.mem_set_unit]
  have hy1 : (y 1).val < 2 := (y 1).isLt
  intro a
  fin_cases a
  · exact ⟨by show 8 * w ≤ (y 0).val; omega, by show (y 0).val < 8 * w + 8; omega⟩
  · exact ⟨Nat.zero_le _, by show (y 1).val < 0 + 2; omega⟩
  · exact ⟨h0, h1⟩

/-- The norms cover their lane tile. -/
theorem normPiece_covers (off : Fin 2 → ℕ) (inb) (v : FVec Ideal S8x128 .f32) (o : ℕ) (hoff : off = ![0, o])
    (y : S8x2048.Idx) (h0 : o ≤ (y 1).val) (h1 : (y 1).val < o + 128) :
    y ∈ (normPiece (F := Ideal) off inb v).1.set := by
  subst hoff
  show y ∈ (Rect.unit (s := S8x2048) ![0, o] S8x128.size inb).set
  rw [Rect.mem_set_unit]
  have hy0 : (y 0).val < 8 := (y 0).isLt
  intro a
  fin_cases a
  · exact ⟨Nat.zero_le _, by show (y 0).val < 0 + 8; omega⟩
  · exact ⟨h0, h1⟩

/-- A loaded block of codes at an index. -/
theorem codeRows_apply (arg5 : Memref sig .tc .vmem S64x32768 .i8) (X5 : BufTy.Contents (Elt Ideal) arg5.view.ty) (o : Fin 2 → Fin 2 → ℕ)
    (inb) (c : ℕ) (h0 : o 0 = ![0, c]) (h1 : o 1 = ![32, c]) (hc : c + 128 ≤ 32768) (t : Fin 2) (a : Fin 32) (l : Fin 128) :
    codeRows (F := Ideal) arg5 X5 o inb t (ix2 a l) = arg5.view.read (Elt Ideal) X5 (ix2 (rowOf t a) (colOf (c + l.val))) := by
  have hl := l.isLt
  show arg5.view.read (Elt Ideal) X5 _ = _
  congr 1
  funext b
  apply Fin.ext
  have e : (colOf (c + l.val)).val = c + l.val := Nat.mod_eq_of_lt (by omega)
  fin_cases t <;> fin_cases b
  · show o 0 0 + 1 * a.val = 32 * 0 + a.val
    rw [h0]; show 0 + 1 * a.val = _; omega
  · show o 0 1 + 1 * l.val = (colOf (c + l.val)).val
    rw [h0, e]; show c + 1 * l.val = _; omega
  · show o 1 0 + 1 * a.val = 32 * 1 + a.val
    rw [h1]; show 32 + 1 * a.val = _; omega
  · show o 1 1 + 1 * l.val = (colOf (c + l.val)).val
    rw [h1, e]; show c + 1 * l.val = _; omega

/-- A loaded table row at an index. -/
theorem tabRows_apply (arg8 : Memref sig .tc .vmem S8x4x8x128 .f32) (X8 : BufTy.Contents (Elt Ideal) arg8.view.ty) (g : Fin 8) (h : Fin 4)
    (r : Fin 8) (l : Fin 128) : tabRows (F := Ideal) arg8 X8 g h (ix4 0 0 r l) = arg8.view.read (Elt Ideal) X8 (ix4 g h r l) := by
  show arg8.view.read (Elt Ideal) X8 _ = _
  congr 1
  funext b
  apply Fin.ext
  fin_cases b
  · show g.val + 1 * 0 = g.val; omega
  · show h.val + 1 * 0 = h.val; omega
  · show 0 + 1 * r.val = r.val; omega
  · show 0 + 1 * l.val = l.val; omega

end Cert.Proof.KernelIdeal

end
-- ==== Proof.CombineValue.lean ====
module

public import proofs.«01_k».proof.Proof.DecodeValue
public import proofs.«01_k».proof.Proof.Gen.KernelIdeal.Skeleton
public import Idealize.ShloMosaic.Lib.VecWindow

@[expose] public section

set_option maxRecDepth 16384

noncomputable section

namespace Cert.Proof.KernelIdeal

open Cert.KernelIdeal Cert.KernelIdeal.Gen
open Idealize.ShloMosaic

/-! # What a combine stores, at an index -/

/-- The norm of what the codes of column `c` find: over the rows and the groups. -/
def normC (tab : S8x4x8x128.Idx → EReal) (codes : S64x32768.Idx → BitVec 8) (c : ℕ) : EReal :=
  ∑ r : Fin 8, ∑ g : Fin 8, sqE tab codes r c g

/-- Row `k` of the matrix of parts, at column `c`: row `k` is half `k % 2` of word row `k / 2`. -/
def partC (tab : S8x4x8x128.Idx → EReal) (codes : S64x32768.Idx → BitVec 8) (c : ℕ) (k : Fin 384) : EReal :=
  partE (k.val / 2 / 64) (cell tab ⟨k.val / 2 % 64 / 8, by omega⟩ ⟨k.val % 2, by omega⟩ ⟨k.val / 2 % 8, by omega⟩
    (codes (ix2 (subOf ⟨k.val / 2 % 64 / 8, by omega⟩ ⟨k.val / 2 % 8, by omega⟩) (colOf c))))

/-- The distances of a block of columns, out of the table, the codes, the weights and the squared lengths. -/
def DIST (tab : S8x4x8x128.Idx → EReal) (codes : S64x32768.Idx → BitVec 8) (xw : S8x384.Idx → EReal) (xx : S8x128.Idx → EReal)
    (y : S8x32768.Idx) : EReal :=
  (normC tab codes (y 1).val + ∑ k : Fin 384, xw (ix2 ⟨(y 0).val, (y 0).isLt⟩ k) * partC tab codes (y 1).val k)
    + xx (ix2 ⟨(y 0).val, (y 0).isLt⟩ 0)

/-- A combine's payload at an index. -/
theorem combine_apply (v26 : Vec Ideal S8x384 .bf16) (v28 : Vec Ideal S192x2x2048 .bf16) (v31 : Vec Ideal S8x2048 .f32) (v36 : Vec Ideal S8x1 .f32)
    (b : Fin 8) (l : Fin 2048) :
    k0_pay1 (F := Ideal) v26 v28 v31 v36 (ix2 b l) = ((∑ r : Fin 8, v31 (ix2 r l))
      + ∑ k : Fin 384, v26 (ix2 b k) * v28 (ix3 ⟨k.val / 2, by omega⟩ ⟨k.val % 2, by omega⟩ l)) + v36 (ix2 b 0) := by
  pointwise [k0_pay1]
  refine congrArg (fun z => (∑ r : Fin 8, v31 (ix2 r l)) + z + v36 (ix2 b 0)) (Finset.sum_congr rfl fun k _ => congrArg (fun z => v26 (ix2 b k) * z) ?_)
  rcases Nat.mod_two_eq_zero_or_one k.val with h | h
  · rw [if_pos h]
    exact congrArg (fun x : Fin 2 => v28 (ix3 ⟨k.val / 2, by omega⟩ x l)) (Fin.ext h.symm)
  · rw [if_neg (by omega)]
    exact congrArg (fun x : Fin 2 => v28 (ix3 ⟨k.val / 2, by omega⟩ x l)) (Fin.ext h.symm)

/-- The combine of the chunk of columns from `base` on stores the distances of those columns. -/
theorem combine_dist (tab : S8x4x8x128.Idx → EReal) (codes : S64x32768.Idx → BitVec 8) (xw : S8x384.Idx → EReal) (xx : S8x128.Idx → EReal)
    (base : ℕ) (hb : base + 2048 ≤ 32768) (v36 : Vec Ideal S8x1 .f32) (h36 : ∀ b : Fin 8, v36 (ix2 b 0) = xx (ix2 b 0)) (b : Fin 8) (l : Fin 2048) :
    k0_pay1 (F := Ideal) xw (PARTS tab codes base) (NORM tab codes base) v36 (ix2 b l)
      = DIST tab codes xw xx (ix2 b ⟨base + l.val, by omega⟩) := by
  rw [combine_apply, h36]
  rfl

/-- The same with the weights and the squared lengths loaded: out of any loads that read the chunk's parts and norms. -/
theorem combine_loads (arg2 : Memref sig .tc .vmem S8x384 .bf16) (X2 : BufTy.Contents (Elt Ideal) arg2.view.ty)
    (arg9 : Memref sig .tc .vmem S8x128 .f32) (X9 : BufTy.Contents (Elt Ideal) arg9.view.ty)
    (tab : S8x4x8x128.Idx → EReal) (codes : S64x32768.Idx → BitVec 8) (base : ℕ) (hb : base + 2048 ≤ 32768)
    (v28 : Vec Ideal S192x2x2048 .bf16) (h28 : v28 = PARTS tab codes base) (v31 : Vec Ideal S8x2048 .f32) (h31 : v31 = NORM tab codes base)
    (b : Fin 8) (l : Fin 2048) :
    k0_pay1 (F := Ideal)
        (View.readAt (Elt Ideal) arg2.view (Rect.unit (s := S8x384) ![0, 0] S8x384.size inb_S8x384_S8x384_0_0).toLoadRect X2) v28 v31
        (View.readAt (Elt Ideal) arg9.view (Rect.unit (s := S8x128) ![0, 0] S8x1.size inb_S8x128_S8x1_0_0).toLoadRect X9) (ix2 b l)
      = DIST tab codes (arg2.view.read (Elt Ideal) X2) (arg9.view.read (Elt Ideal) X9) (ix2 b ⟨base + l.val, by omega⟩) := by
  subst h28 h31
  rw [View.readAt_full]
  refine combine_dist tab codes _ (arg9.view.read (Elt Ideal) X9) base hb _ (fun b => ?_) b l
  show arg9.view.read (Elt Ideal) X9 _ = _
  congr 1
  funext a
  fin_cases a
  · exact Fin.ext (by show 0 + 1 * b.val = b.val; omega)
  · rfl

/-- Storing a chunk's distances extends the columns that hold their distances. -/
theorem dist_store (arg6 : Memref sig .tc .vmem S8x32768 .bf16) (f : BufTy.Contents (Elt Ideal) arg6.view.ty) (L : List (View.Piece (Elt Ideal) S8x32768 .bf16))
    (D : S8x32768.Idx → EReal) (n : ℕ) (hn : n + 2048 ≤ 32768) (off : Fin 2 → ℕ) (inb : ∀ a, off a + S8x2048.size a ≤ S8x32768.size a)
    (hoff : off = ![0, n]) (w : S8x2048.Idx → EReal)
    (hw : ∀ (b : Fin 8) (l : Fin 2048), w (ix2 b l) = D (ix2 b ⟨n + l.val, by omega⟩))
    (h : ∀ y : S8x32768.Idx, (y 1).val < n → arg6.view.read (Elt Ideal) (arg6.view.writes (Elt Ideal) f L) y = D y) (y : S8x32768.Idx)
    (hy : (y 1).val < n + 2048) :
    arg6.view.read (Elt Ideal) (arg6.view.writes (Elt Ideal) f (⟨Rect.unit (s := S8x32768) off S8x2048.size inb, w⟩ :: L)) y = D y := by
  by_cases hlt : (y 1).val < n
  · rw [View.read_writes_cons_unit_of_not_mem arg6.view f inb w L y hoff 1 (Or.inl hlt)]
    exact h y hlt
  · have h0 : (y 0).val < 8 := (y 0).isLt
    rw [View.read_writes_cons_unit_of_mem arg6.view f inb w L y (ix2 ⟨(y 0).val, h0⟩ ⟨(y 1).val - n, by omega⟩) hoff (by
      intro a
      fin_cases a
      · show (y 0).val = 0 + (y 0).val; omega
      · show (y 1).val = n + ((y 1).val - n); omega)]
    refine (hw _ _).trans (congrArg D ?_)
    funext a
    fin_cases a
    · rfl
    · exact Fin.ext (by show n + ((y 1).val - n) = (y 1).val; omega)

/-! The four combines store the same function of what they load. -/

/-- The combine with payload `k0_pay510` is the combine with payload `k0_pay1`. -/
theorem pay510_eq : k0_pay510 (F := Ideal) = k0_pay1 (F := Ideal) := rfl
/-- The combine with payload `k0_pay663` is the combine with payload `k0_pay1`. -/
theorem pay663_eq : k0_pay663 (F := Ideal) = k0_pay1 (F := Ideal) := rfl
/-- The combine with payload `k0_pay666` is the combine with payload `k0_pay1`. -/
theorem pay666_eq : k0_pay666 (F := Ideal) = k0_pay1 (F := Ideal) := rfl

end Cert.Proof.KernelIdeal

end
-- ==== Proof.DecodeTrip1.lean ====
module

public import proofs.«01_k».proof.Proof.DecodeSpec

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable {F : FTy → Type} [FloatOps F]

/-- One trip's pieces of the decode loop `k0_t1`: the parts of the eight groups and the norms. -/
theorem tripL_k0_t1_eq (𝒱 : Variants) (c : Dev nD) (bd : Option 𝒱.V) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (v3 : BitVec 32) (X5 : BufTy.Contents (Elt F) arg5.view.ty) (X8 : BufTy.Contents (Elt F) arg8.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k
      = (let Y := yAll (codeRows arg5 X5 ![k0_off1 k, k0_off11 k]
            (by intro t; fin_cases t; · exact k0_off1_inb k
                · exact k0_off11_inb k)) (tabRows arg8 X8)
        ([partPiece (k0_off26 k) (k0_off26_inb k) 2 (Y 7 0) (Y 7 1),
          partPiece (k0_off25 k) (k0_off25_inb k) 1 (Y 7 0) (Y 7 1),
          partPiece (k0_off24 k) (k0_off24_inb k) 0 (Y 7 0) (Y 7 1),
          partPiece (k0_off23 k) (k0_off23_inb k) 2 (Y 6 0) (Y 6 1),
          partPiece (k0_off22 k) (k0_off22_inb k) 1 (Y 6 0) (Y 6 1),
          partPiece (k0_off21 k) (k0_off21_inb k) 0 (Y 6 0) (Y 6 1),
          partPiece (k0_off20 k) (k0_off20_inb k) 2 (Y 5 0) (Y 5 1),
          partPiece (k0_off19 k) (k0_off19_inb k) 1 (Y 5 0) (Y 5 1),
          partPiece (k0_off18 k) (k0_off18_inb k) 0 (Y 5 0) (Y 5 1),
          partPiece (k0_off17 k) (k0_off17_inb k) 2 (Y 4 0) (Y 4 1),
          partPiece (k0_off16 k) (k0_off16_inb k) 1 (Y 4 0) (Y 4 1),
          partPiece (k0_off15 k) (k0_off15_inb k) 0 (Y 4 0) (Y 4 1),
          partPiece (k0_off14 k) (k0_off14_inb k) 2 (Y 3 0) (Y 3 1),
          partPiece (k0_off13 k) (k0_off13_inb k) 1 (Y 3 0) (Y 3 1),
          partPiece (k0_off12 k) (k0_off12_inb k) 0 (Y 3 0) (Y 3 1),
          partPiece (k0_off10 k) (k0_off10_inb k) 2 (Y 2 0) (Y 2 1),
          partPiece (k0_off9 k) (k0_off9_inb k) 1 (Y 2 0) (Y 2 1),
          partPiece (k0_off8 k) (k0_off8_inb k) 0 (Y 2 0) (Y 2 1),
          partPiece (k0_off7 k) (k0_off7_inb k) 2 (Y 1 0) (Y 1 1),
          partPiece (k0_off6 k) (k0_off6_inb k) 1 (Y 1 0) (Y 1 1),
          partPiece (k0_off5 k) (k0_off5_inb k) 0 (Y 1 0) (Y 1 1),
          partPiece (k0_off4 k) (k0_off4_inb k) 2 (Y 0 0) (Y 0 1),
          partPiece (k0_off3 k) (k0_off3_inb k) 1 (Y 0 0) (Y 0 1),
          partPiece (k0_off2 k) (k0_off2_inb k) 0 (Y 0 0) (Y 0 1)],
         [normPiece (k0_off27 k) (k0_off27_inb k) (normVec Y)])) := by
  unfold tripL_k0_t1 trip_k0_t1
  rfl

end Cert.Proof.KernelIdeal

end
-- ==== Proof.DecodeSum1.lean ====
module

public import proofs.«01_k».proof.Proof.DecodeValue
public import proofs.«01_k».proof.Proof.DecodeTrip1

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable (𝒱 : Variants) (c : Dev nD) (bd : Option 𝒱.V) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (v3 : BitVec 32) (X5 : BufTy.Contents (Elt Ideal) arg5.view.ty) (X8 : BufTy.Contents (Elt Ideal) arg8.view.ty)

/-- The decode loop `k0_t1` makes sixteen trips. -/
theorem k0_t1_trips : k0_t1_loop.trips = 16 := by decide +kernel

/-- One trip of the decode loop `k0_t1`: its pieces agree with what the decode leaves and cover its lane tile. -/
theorem trip_k0_t1_good (k : Fin k0_t1_loop.trips) :
    let L := tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k
    ((∀ p ∈ L.1, ∀ x : p.1.shape.Idx, p.2 x = PARTS (arg8.view.read (Elt Ideal) X8) (arg5.view.read (Elt Ideal) X5) 0 (p.1.emb x))
      ∧ (∀ y : S192x2x2048.Idx, 128 * k.val ≤ (y 2).val → (y 2).val < 128 * k.val + 128 → ∃ p ∈ L.1, y ∈ p.1.set))
    ∧ (∀ p ∈ L.2, ∀ x : p.1.shape.Idx, p.2 x = NORM (arg8.view.read (Elt Ideal) X8) (arg5.view.read (Elt Ideal) X5) 0 (p.1.emb x))
      ∧ (∀ y : S8x2048.Idx, 128 * k.val ≤ (y 1).val → (y 1).val < 128 * k.val + 128 → ∃ p ∈ L.2, y ∈ p.1.set) := by
  have hk : k.val < 16 := k0_t1_trips ▸ k.isLt
  intro L
  have hL := tripL_k0_t1_eq (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k
  have hV := codeRows_apply arg5 X5 ![k0_off1 k, k0_off11 k]
    (by intro t; fin_cases t; · exact k0_off1_inb k
        · exact k0_off11_inb k) (0 + 128 * k.val)
    ((k0_off1_eq k).trans (by congr 2; omega)) ((k0_off11_eq k).trans (by congr 2; omega)) (by omega)
  have hT := tabRows_apply arg8 X8
  show ((∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k).1, _) ∧ (∀ y : S192x2x2048.Idx, _ → _ → ∃ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k).1, _))
    ∧ (∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k).2, _) ∧ (∀ y : S8x2048.Idx, _ → _ → ∃ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k).2, _)
  rw [hL]
  refine ⟨⟨?_, ?_⟩, ?_, ?_⟩
  · exact List.forall_mem_cons.2 ⟨partPiece_agrees (arg8.view.read (Elt Ideal) X8) (arg5.view.read (Elt Ideal) X5) _ _ _ hV hT 0 (128 * k.val) rfl _ (k0_off26_inb k) 2 7 (k0_off26_eq k),
      List.forall_mem_cons.2 ⟨partPiece_agrees (arg8.view.read (Elt Ideal) X8) (arg5.view.read (Elt Ideal) X5) _ _ _ hV hT 0 (128 * k.val) rfl _ (k0_off25_inb k) 1 7 (k0_off25_eq k),
      List.forall_mem_cons.2 ⟨partPiece_agrees (arg8.view.read (Elt Ideal) X8) (arg5.view.read (Elt Ideal) X5) _ _ _ hV hT 0 (128 * k.val) rfl _ (k0_off24_inb k) 0 7 (k0_off24_eq k),
      List.forall_mem_cons.2 ⟨partPiece_agrees (arg8.view.read (Elt Ideal) X8) (arg5.view.read (Elt Ideal) X5) _ _ _ hV hT 0 (128 * k.val) rfl _ (k0_off23_inb k) 2 6 (k0_off23_eq k),
      List.forall_mem_cons.2 ⟨partPiece_agrees (arg8.view.read (Elt Ideal) X8) (arg5.view.read (Elt Ideal) X5) _ _ _ hV hT 0 (128 * k.val) rfl _ (k0_off22_inb k) 1 6 (k0_off22_eq k),
      List.forall_mem_cons.2 ⟨partPiece_agrees (arg8.view.read (Elt Ideal) X8) (arg5.view.read (Elt Ideal) X5) _ _ _ hV hT 0 (128 * k.val) rfl _ (k0_off21_inb k) 0 6 (k0_off21_eq k),
      List.forall_mem_cons.2 ⟨partPiece_agrees (arg8.view.read (Elt Ideal) X8) (arg5.view.read (Elt Ideal) X5) _ _ _ hV hT 0 (128 * k.val) rfl _ (k0_off20_inb k) 2 5 (k0_off20_eq k),
      List.forall_mem_cons.2 ⟨partPiece_agrees (arg8.view.read (Elt Ideal) X8) (arg5.view.read (Elt Ideal) X5) _ _ _ hV hT 0 (128 * k.val) rfl _ (k0_off19_inb k) 1 5 (k0_off19_eq k),
      List.forall_mem_cons.2 ⟨partPiece_agrees (arg8.view.read (Elt Ideal) X8) (arg5.view.read (Elt Ideal) X5) _ _ _ hV hT 0 (128 * k.val) rfl _ (k0_off18_inb k) 0 5 (k0_off18_eq k),
      List.forall_mem_cons.2 ⟨partPiece_agrees (arg8.view.read (Elt Ideal) X8) (arg5.view.read (Elt Ideal) X5) _ _ _ hV hT 0 (128 * k.val) rfl _ (k0_off17_inb k) 2 4 (k0_off17_eq k),
      List.forall_mem_cons.2 ⟨partPiece_agrees (arg8.view.read (Elt Ideal) X8) (arg5.view.read (Elt Ideal) X5) _ _ _ hV hT 0 (128 * k.val) rfl _ (k0_off16_inb k) 1 4 (k0_off16_eq k),
      List.forall_mem_cons.2 ⟨partPiece_agrees (arg8.view.read (Elt Ideal) X8) (arg5.view.read (Elt Ideal) X5) _ _ _ hV hT 0 (128 * k.val) rfl _ (k0_off15_inb k) 0 4 (k0_off15_eq k),
      List.forall_mem_cons.2 ⟨partPiece_agrees (arg8.view.read (Elt Ideal) X8) (arg5.view.read (Elt Ideal) X5) _ _ _ hV hT 0 (128 * k.val) rfl _ (k0_off14_inb k) 2 3 (k0_off14_eq k),
      List.forall_mem_cons.2 ⟨partPiece_agrees (arg8.view.read (Elt Ideal) X8) (arg5.view.read (Elt Ideal) X5) _ _ _ hV hT 0 (128 * k.val) rfl _ (k0_off13_inb k) 1 3 (k0_off13_eq k),
      List.forall_mem_cons.2 ⟨partPiece_agrees (arg8.view.read (Elt Ideal) X8) (arg5.view.read (Elt Ideal) X5) _ _ _ hV hT 0 (128 * k.val) rfl _ (k0_off12_inb k) 0 3 (k0_off12_eq k),
      List.forall_mem_cons.2 ⟨partPiece_agrees (arg8.view.read (Elt Ideal) X8) (arg5.view.read (Elt Ideal) X5) _ _ _ hV hT 0 (128 * k.val) rfl _ (k0_off10_inb k) 2 2 (k0_off10_eq k),
      List.forall_mem_cons.2 ⟨partPiece_agrees (arg8.view.read (Elt Ideal) X8) (arg5.view.read (Elt Ideal) X5) _ _ _ hV hT 0 (128 * k.val) rfl _ (k0_off9_inb k) 1 2 (k0_off9_eq k),
      List.forall_mem_cons.2 ⟨partPiece_agrees (arg8.view.read (Elt Ideal) X8) (arg5.view.read (Elt Ideal) X5) _ _ _ hV hT 0 (128 * k.val) rfl _ (k0_off8_inb k) 0 2 (k0_off8_eq k),
      List.forall_mem_cons.2 ⟨partPiece_agrees (arg8.view.read (Elt Ideal) X8) (arg5.view.read (Elt Ideal) X5) _ _ _ hV hT 0 (128 * k.val) rfl _ (k0_off7_inb k) 2 1 (k0_off7_eq k),
      List.forall_mem_cons.2 ⟨partPiece_agrees (arg8.view.read (Elt Ideal) X8) (arg5.view.read (Elt Ideal) X5) _ _ _ hV hT 0 (128 * k.val) rfl _ (k0_off6_inb k) 1 1 (k0_off6_eq k),
      List.forall_mem_cons.2 ⟨partPiece_agrees (arg8.view.read (Elt Ideal) X8) (arg5.view.read (Elt Ideal) X5) _ _ _ hV hT 0 (128 * k.val) rfl _ (k0_off5_inb k) 0 1 (k0_off5_eq k),
      List.forall_mem_cons.2 ⟨partPiece_agrees (arg8.view.read (Elt Ideal) X8) (arg5.view.read (Elt Ideal) X5) _ _ _ hV hT 0 (128 * k.val) rfl _ (k0_off4_inb k) 2 0 (k0_off4_eq k),
      List.forall_mem_cons.2 ⟨partPiece_agrees (arg8.view.read (Elt Ideal) X8) (arg5.view.read (Elt Ideal) X5) _ _ _ hV hT 0 (128 * k.val) rfl _ (k0_off3_inb k) 1 0 (k0_off3_eq k),
      List.forall_mem_cons.2 ⟨partPiece_agrees (arg8.view.read (Elt Ideal) X8) (arg5.view.read (Elt Ideal) X5) _ _ _ hV hT 0 (128 * k.val) rfl _ (k0_off2_inb k) 0 0 (k0_off2_eq k), fun _ h => absurd h List.not_mem_nil⟩⟩⟩⟩⟩⟩⟩⟩⟩⟩⟩⟩⟩⟩⟩⟩⟩⟩⟩⟩⟩⟩⟩⟩
  · intro y h0 h1
    have hlt : (y 0).val / 8 < 24 := by have : (y 0).val < 192 := (y 0).isLt; omega
    generalize hw : (y 0).val / 8 = w at hlt
    interval_cases w
    · exact ⟨_, mem_at _ 23 (by show (23 : ℕ) < 24; omega), partPiece_covers _ (k0_off2_inb k) 0 _ _ 0 _ (k0_off2_eq k) y hw h0 h1⟩
    · exact ⟨_, mem_at _ 20 (by show (20 : ℕ) < 24; omega), partPiece_covers _ (k0_off5_inb k) 0 _ _ 1 _ (k0_off5_eq k) y hw h0 h1⟩
    · exact ⟨_, mem_at _ 17 (by show (17 : ℕ) < 24; omega), partPiece_covers _ (k0_off8_inb k) 0 _ _ 2 _ (k0_off8_eq k) y hw h0 h1⟩
    · exact ⟨_, mem_at _ 14 (by show (14 : ℕ) < 24; omega), partPiece_covers _ (k0_off12_inb k) 0 _ _ 3 _ (k0_off12_eq k) y hw h0 h1⟩
    · exact ⟨_, mem_at _ 11 (by show (11 : ℕ) < 24; omega), partPiece_covers _ (k0_off15_inb k) 0 _ _ 4 _ (k0_off15_eq k) y hw h0 h1⟩
    · exact ⟨_, mem_at _ 8 (by show (8 : ℕ) < 24; omega), partPiece_covers _ (k0_off18_inb k) 0 _ _ 5 _ (k0_off18_eq k) y hw h0 h1⟩
    · exact ⟨_, mem_at _ 5 (by show (5 : ℕ) < 24; omega), partPiece_covers _ (k0_off21_inb k) 0 _ _ 6 _ (k0_off21_eq k) y hw h0 h1⟩
    · exact ⟨_, mem_at _ 2 (by show (2 : ℕ) < 24; omega), partPiece_covers _ (k0_off24_inb k) 0 _ _ 7 _ (k0_off24_eq k) y hw h0 h1⟩
    · exact ⟨_, mem_at _ 22 (by show (22 : ℕ) < 24; omega), partPiece_covers _ (k0_off3_inb k) 1 _ _ 8 _ (k0_off3_eq k) y hw h0 h1⟩
    · exact ⟨_, mem_at _ 19 (by show (19 : ℕ) < 24; omega), partPiece_covers _ (k0_off6_inb k) 1 _ _ 9 _ (k0_off6_eq k) y hw h0 h1⟩
    · exact ⟨_, mem_at _ 16 (by show (16 : ℕ) < 24; omega), partPiece_covers _ (k0_off9_inb k) 1 _ _ 10 _ (k0_off9_eq k) y hw h0 h1⟩
    · exact ⟨_, mem_at _ 13 (by show (13 : ℕ) < 24; omega), partPiece_covers _ (k0_off13_inb k) 1 _ _ 11 _ (k0_off13_eq k) y hw h0 h1⟩
    · exact ⟨_, mem_at _ 10 (by show (10 : ℕ) < 24; omega), partPiece_covers _ (k0_off16_inb k) 1 _ _ 12 _ (k0_off16_eq k) y hw h0 h1⟩
    · exact ⟨_, mem_at _ 7 (by show (7 : ℕ) < 24; omega), partPiece_covers _ (k0_off19_inb k) 1 _ _ 13 _ (k0_off19_eq k) y hw h0 h1⟩
    · exact ⟨_, mem_at _ 4 (by show (4 : ℕ) < 24; omega), partPiece_covers _ (k0_off22_inb k) 1 _ _ 14 _ (k0_off22_eq k) y hw h0 h1⟩
    · exact ⟨_, mem_at _ 1 (by show (1 : ℕ) < 24; omega), partPiece_covers _ (k0_off25_inb k) 1 _ _ 15 _ (k0_off25_eq k) y hw h0 h1⟩
    · exact ⟨_, mem_at _ 21 (by show (21 : ℕ) < 24; omega), partPiece_covers _ (k0_off4_inb k) 2 _ _ 16 _ (k0_off4_eq k) y hw h0 h1⟩
    · exact ⟨_, mem_at _ 18 (by show (18 : ℕ) < 24; omega), partPiece_covers _ (k0_off7_inb k) 2 _ _ 17 _ (k0_off7_eq k) y hw h0 h1⟩
    · exact ⟨_, mem_at _ 15 (by show (15 : ℕ) < 24; omega), partPiece_covers _ (k0_off10_inb k) 2 _ _ 18 _ (k0_off10_eq k) y hw h0 h1⟩
    · exact ⟨_, mem_at _ 12 (by show (12 : ℕ) < 24; omega), partPiece_covers _ (k0_off14_inb k) 2 _ _ 19 _ (k0_off14_eq k) y hw h0 h1⟩
    · exact ⟨_, mem_at _ 9 (by show (9 : ℕ) < 24; omega), partPiece_covers _ (k0_off17_inb k) 2 _ _ 20 _ (k0_off17_eq k) y hw h0 h1⟩
    · exact ⟨_, mem_at _ 6 (by show (6 : ℕ) < 24; omega), partPiece_covers _ (k0_off20_inb k) 2 _ _ 21 _ (k0_off20_eq k) y hw h0 h1⟩
    · exact ⟨_, mem_at _ 3 (by show (3 : ℕ) < 24; omega), partPiece_covers _ (k0_off23_inb k) 2 _ _ 22 _ (k0_off23_eq k) y hw h0 h1⟩
    · exact ⟨_, mem_at _ 0 (by show (0 : ℕ) < 24; omega), partPiece_covers _ (k0_off26_inb k) 2 _ _ 23 _ (k0_off26_eq k) y hw h0 h1⟩
  · exact List.forall_mem_cons.2 ⟨normPiece_agrees (arg8.view.read (Elt Ideal) X8) (arg5.view.read (Elt Ideal) X5) _ _ _ hV hT 0 (128 * k.val) rfl _ (k0_off27_inb k) (k0_off27_eq k),
      fun _ h => absurd h List.not_mem_nil⟩
  · intro y h0 h1
    exact ⟨_, List.mem_cons_self, normPiece_covers _ (k0_off27_inb k) _ _ (k0_off27_eq k) y h0 h1⟩

/-- After the decode loop `k0_t1` the buffer of parts reads the parts of its chunk, whatever it held. -/
theorem parts_k0_t1 (G : BufTy.Contents (Elt Ideal) arg10.view.ty) :
    arg10.view.read (Elt Ideal) (arg10.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k0_t1_loop.trips).1)
      = PARTS (arg8.view.read (Elt Ideal) X8) (arg5.view.read (Elt Ideal) X5) 0 :=
  read_of_trips arg10.view G _ (fun y => (y 2).val) k0_t1_loop.trips (fun y => by rw [k0_t1_trips]; exact (y 2).isLt)
    (fun k => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k).1)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k).1)
    (by rw [pb_k0_t1.eq_1]) (fun k => by rw [pb_k0_t1_succ])
    (fun k => (trip_k0_t1_good 𝒱 c bd i arg1 harg1 arg2 harg2 arg3 harg3 arg4 harg4 arg5 harg5 arg6 harg6 arg7 harg7 arg8 harg8 arg9 harg9 arg10 harg10 arg11 harg11 arg12 harg12 arg13 harg13 v3 X5 X8 k).1.1)
    (fun k => (trip_k0_t1_good 𝒱 c bd i arg1 harg1 arg2 harg2 arg3 harg3 arg4 harg4 arg5 harg5 arg6 harg6 arg7 harg7 arg8 harg8 arg9 harg9 arg10 harg10 arg11 harg11 arg12 harg12 arg13 harg13 v3 X5 X8 k).1.2)

/-- After the decode loop `k0_t1` the buffer of norms reads the norms of its chunk, whatever it held. -/
theorem norms_k0_t1 (G : BufTy.Contents (Elt Ideal) arg12.view.ty) :
    arg12.view.read (Elt Ideal) (arg12.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k0_t1_loop.trips).2)
      = NORM (arg8.view.read (Elt Ideal) X8) (arg5.view.read (Elt Ideal) X5) 0 :=
  read_of_trips arg12.view G _ (fun y => (y 1).val) k0_t1_loop.trips (fun y => by rw [k0_t1_trips]; exact (y 1).isLt)
    (fun k => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k).2)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 v3 X5 X8 k).2)
    (by rw [pb_k0_t1.eq_1]) (fun k => by rw [pb_k0_t1_succ])
    (fun k => (trip_k0_t1_good 𝒱 c bd i arg1 harg1 arg2 harg2 arg3 harg3 arg4 harg4 arg5 harg5 arg6 harg6 arg7 harg7 arg8 harg8 arg9 harg9 arg10 harg10 arg11 harg11 arg12 harg12 arg13 harg13 v3 X5 X8 k).2.1)
    (fun k => (trip_k0_t1_good 𝒱 c bd i arg1 harg1 arg2 harg2 arg3 harg3 arg4 harg4 arg5 harg5 arg6 harg6 arg7 harg7 arg8 harg8 arg9 harg9 arg10 harg10 arg11 harg11 arg12 harg12 arg13 harg13 v3 X5 X8 k).2.2)

end Cert.Proof.KernelIdeal

end
-- ==== Proof.DecodeTrip3.lean ====
module

public import proofs.«01_k».proof.Proof.DecodeSpec

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable {F : FTy → Type} [FloatOps F]

/-- One trip's pieces of the decode loop `k0_t3`: the parts of the eight groups and the norms. -/
theorem tripL_k0_t3_eq (𝒱 : Variants) (c : Dev nD) (bd : Option 𝒱.V) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (c0_i32_4 : BitVec 32) (c1_i32_5 : BitVec 32) (k0_t2 : Fin k0_t2_loop.trips) (v45 : BitVec 32) (X5 : BufTy.Contents (Elt F) arg5.view.ty) (X8 : BufTy.Contents (Elt F) arg8.view.ty) (k : Fin k0_t3_loop.trips) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k
      = (let Y := yAll (codeRows arg5 X5 ![k0_off28 k0_t2 k, k0_off38 k0_t2 k]
            (by intro t; fin_cases t; · exact k0_off28_inb k0_t2 k
                · exact k0_off38_inb k0_t2 k)) (tabRows arg8 X8)
        ([partPiece (k0_off53 k) (k0_off53_inb k) 2 (Y 7 0) (Y 7 1),
          partPiece (k0_off52 k) (k0_off52_inb k) 1 (Y 7 0) (Y 7 1),
          partPiece (k0_off51 k) (k0_off51_inb k) 0 (Y 7 0) (Y 7 1),
          partPiece (k0_off50 k) (k0_off50_inb k) 2 (Y 6 0) (Y 6 1),
          partPiece (k0_off49 k) (k0_off49_inb k) 1 (Y 6 0) (Y 6 1),
          partPiece (k0_off48 k) (k0_off48_inb k) 0 (Y 6 0) (Y 6 1),
          partPiece (k0_off47 k) (k0_off47_inb k) 2 (Y 5 0) (Y 5 1),
          partPiece (k0_off46 k) (k0_off46_inb k) 1 (Y 5 0) (Y 5 1),
          partPiece (k0_off45 k) (k0_off45_inb k) 0 (Y 5 0) (Y 5 1),
          partPiece (k0_off44 k) (k0_off44_inb k) 2 (Y 4 0) (Y 4 1),
          partPiece (k0_off43 k) (k0_off43_inb k) 1 (Y 4 0) (Y 4 1),
          partPiece (k0_off42 k) (k0_off42_inb k) 0 (Y 4 0) (Y 4 1),
          partPiece (k0_off41 k) (k0_off41_inb k) 2 (Y 3 0) (Y 3 1),
          partPiece (k0_off40 k) (k0_off40_inb k) 1 (Y 3 0) (Y 3 1),
          partPiece (k0_off39 k) (k0_off39_inb k) 0 (Y 3 0) (Y 3 1),
          partPiece (k0_off37 k) (k0_off37_inb k) 2 (Y 2 0) (Y 2 1),
          partPiece (k0_off36 k) (k0_off36_inb k) 1 (Y 2 0) (Y 2 1),
          partPiece (k0_off35 k) (k0_off35_inb k) 0 (Y 2 0) (Y 2 1),
          partPiece (k0_off34 k) (k0_off34_inb k) 2 (Y 1 0) (Y 1 1),
          partPiece (k0_off33 k) (k0_off33_inb k) 1 (Y 1 0) (Y 1 1),
          partPiece (k0_off32 k) (k0_off32_inb k) 0 (Y 1 0) (Y 1 1),
          partPiece (k0_off31 k) (k0_off31_inb k) 2 (Y 0 0) (Y 0 1),
          partPiece (k0_off30 k) (k0_off30_inb k) 1 (Y 0 0) (Y 0 1),
          partPiece (k0_off29 k) (k0_off29_inb k) 0 (Y 0 0) (Y 0 1)],
         [normPiece (k0_off54 k) (k0_off54_inb k) (normVec Y)])) := by
  unfold tripL_k0_t3 trip_k0_t3
  rfl

end Cert.Proof.KernelIdeal

end
-- ==== Proof.DecodeSum3.lean ====
module

public import proofs.«01_k».proof.Proof.DecodeValue
public import proofs.«01_k».proof.Proof.DecodeTrip3

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable (𝒱 : Variants) (c : Dev nD) (bd : Option 𝒱.V) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (c0_i32_4 : BitVec 32) (c1_i32_5 : BitVec 32) (k0_t2 : Fin k0_t2_loop.trips) (v45 : BitVec 32) (X5 : BufTy.Contents (Elt Ideal) arg5.view.ty) (X8 : BufTy.Contents (Elt Ideal) arg8.view.ty)

/-- The decode loop `k0_t3` makes sixteen trips. -/
theorem k0_t3_trips : k0_t3_loop.trips = 16 := by decide +kernel

/-- One trip of the decode loop `k0_t3`: its pieces agree with what the decode leaves and cover its lane tile. -/
theorem trip_k0_t3_good (k : Fin k0_t3_loop.trips) :
    let L := tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k
    ((∀ p ∈ L.1, ∀ x : p.1.shape.Idx, p.2 x = PARTS (arg8.view.read (Elt Ideal) X8) (arg5.view.read (Elt Ideal) X5) (4096 * k0_t2.val + 2048) (p.1.emb x))
      ∧ (∀ y : S192x2x2048.Idx, 128 * k.val ≤ (y 2).val → (y 2).val < 128 * k.val + 128 → ∃ p ∈ L.1, y ∈ p.1.set))
    ∧ (∀ p ∈ L.2, ∀ x : p.1.shape.Idx, p.2 x = NORM (arg8.view.read (Elt Ideal) X8) (arg5.view.read (Elt Ideal) X5) (4096 * k0_t2.val + 2048) (p.1.emb x))
      ∧ (∀ y : S8x2048.Idx, 128 * k.val ≤ (y 1).val → (y 1).val < 128 * k.val + 128 → ∃ p ∈ L.2, y ∈ p.1.set) := by
  have hk2 : k0_t2.val < 7 := Nat.lt_of_lt_of_le k0_t2.isLt k0_t2_abs.2.1
  have hk : k.val < 16 := k0_t3_trips ▸ k.isLt
  intro L
  have hL := tripL_k0_t3_eq (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k
  have hV := codeRows_apply arg5 X5 ![k0_off28 k0_t2 k, k0_off38 k0_t2 k]
    (by intro t; fin_cases t; · exact k0_off28_inb k0_t2 k
        · exact k0_off38_inb k0_t2 k) ((4096 * k0_t2.val + 2048) + 128 * k.val)
    ((k0_off28_eq k0_t2 k).trans (by congr 2; omega)) ((k0_off38_eq k0_t2 k).trans (by congr 2; omega)) (by omega)
  have hT := tabRows_apply arg8 X8
  show ((∀ p ∈ (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k).1, _) ∧ (∀ y : S192x2x2048.Idx, _ → _ → ∃ p ∈ (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k).1, _))
    ∧ (∀ p ∈ (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k).2, _) ∧ (∀ y : S8x2048.Idx, _ → _ → ∃ p ∈ (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k).2, _)
  rw [hL]
  refine ⟨⟨?_, ?_⟩, ?_, ?_⟩
  · exact List.forall_mem_cons.2 ⟨partPiece_agrees (arg8.view.read (Elt Ideal) X8) (arg5.view.read (Elt Ideal) X5) _ _ _ hV hT (4096 * k0_t2.val + 2048) (128 * k.val) rfl _ (k0_off53_inb k) 2 7 (k0_off53_eq k),
      List.forall_mem_cons.2 ⟨partPiece_agrees (arg8.view.read (Elt Ideal) X8) (arg5.view.read (Elt Ideal) X5) _ _ _ hV hT (4096 * k0_t2.val + 2048) (128 * k.val) rfl _ (k0_off52_inb k) 1 7 (k0_off52_eq k),
      List.forall_mem_cons.2 ⟨partPiece_agrees (arg8.view.read (Elt Ideal) X8) (arg5.view.read (Elt Ideal) X5) _ _ _ hV hT (4096 * k0_t2.val + 2048) (128 * k.val) rfl _ (k0_off51_inb k) 0 7 (k0_off51_eq k),
      List.forall_mem_cons.2 ⟨partPiece_agrees (arg8.view.read (Elt Ideal) X8) (arg5.view.read (Elt Ideal) X5) _ _ _ hV hT (4096 * k0_t2.val + 2048) (128 * k.val) rfl _ (k0_off50_inb k) 2 6 (k0_off50_eq k),
      List.forall_mem_cons.2 ⟨partPiece_agrees (arg8.view.read (Elt Ideal) X8) (arg5.view.read (Elt Ideal) X5) _ _ _ hV hT (4096 * k0_t2.val + 2048) (128 * k.val) rfl _ (k0_off49_inb k) 1 6 (k0_off49_eq k),
      List.forall_mem_cons.2 ⟨partPiece_agrees (arg8.view.read (Elt Ideal) X8) (arg5.view.read (Elt Ideal) X5) _ _ _ hV hT (4096 * k0_t2.val + 2048) (128 * k.val) rfl _ (k0_off48_inb k) 0 6 (k0_off48_eq k),
      List.forall_mem_cons.2 ⟨partPiece_agrees (arg8.view.read (Elt Ideal) X8) (arg5.view.read (Elt Ideal) X5) _ _ _ hV hT (4096 * k0_t2.val + 2048) (128 * k.val) rfl _ (k0_off47_inb k) 2 5 (k0_off47_eq k),
      List.forall_mem_cons.2 ⟨partPiece_agrees (arg8.view.read (Elt Ideal) X8) (arg5.view.read (Elt Ideal) X5) _ _ _ hV hT (4096 * k0_t2.val + 2048) (128 * k.val) rfl _ (k0_off46_inb k) 1 5 (k0_off46_eq k),
      List.forall_mem_cons.2 ⟨partPiece_agrees (arg8.view.read (Elt Ideal) X8) (arg5.view.read (Elt Ideal) X5) _ _ _ hV hT (4096 * k0_t2.val + 2048) (128 * k.val) rfl _ (k0_off45_inb k) 0 5 (k0_off45_eq k),
      List.forall_mem_cons.2 ⟨partPiece_agrees (arg8.view.read (Elt Ideal) X8) (arg5.view.read (Elt Ideal) X5) _ _ _ hV hT (4096 * k0_t2.val + 2048) (128 * k.val) rfl _ (k0_off44_inb k) 2 4 (k0_off44_eq k),
      List.forall_mem_cons.2 ⟨partPiece_agrees (arg8.view.read (Elt Ideal) X8) (arg5.view.read (Elt Ideal) X5) _ _ _ hV hT (4096 * k0_t2.val + 2048) (128 * k.val) rfl _ (k0_off43_inb k) 1 4 (k0_off43_eq k),
      List.forall_mem_cons.2 ⟨partPiece_agrees (arg8.view.read (Elt Ideal) X8) (arg5.view.read (Elt Ideal) X5) _ _ _ hV hT (4096 * k0_t2.val + 2048) (128 * k.val) rfl _ (k0_off42_inb k) 0 4 (k0_off42_eq k),
      List.forall_mem_cons.2 ⟨partPiece_agrees (arg8.view.read (Elt Ideal) X8) (arg5.view.read (Elt Ideal) X5) _ _ _ hV hT (4096 * k0_t2.val + 2048) (128 * k.val) rfl _ (k0_off41_inb k) 2 3 (k0_off41_eq k),
      List.forall_mem_cons.2 ⟨partPiece_agrees (arg8.view.read (Elt Ideal) X8) (arg5.view.read (Elt Ideal) X5) _ _ _ hV hT (4096 * k0_t2.val + 2048) (128 * k.val) rfl _ (k0_off40_inb k) 1 3 (k0_off40_eq k),
      List.forall_mem_cons.2 ⟨partPiece_agrees (arg8.view.read (Elt Ideal) X8) (arg5.view.read (Elt Ideal) X5) _ _ _ hV hT (4096 * k0_t2.val + 2048) (128 * k.val) rfl _ (k0_off39_inb k) 0 3 (k0_off39_eq k),
      List.forall_mem_cons.2 ⟨partPiece_agrees (arg8.view.read (Elt Ideal) X8) (arg5.view.read (Elt Ideal) X5) _ _ _ hV hT (4096 * k0_t2.val + 2048) (128 * k.val) rfl _ (k0_off37_inb k) 2 2 (k0_off37_eq k),
      List.forall_mem_cons.2 ⟨partPiece_agrees (arg8.view.read (Elt Ideal) X8) (arg5.view.read (Elt Ideal) X5) _ _ _ hV hT (4096 * k0_t2.val + 2048) (128 * k.val) rfl _ (k0_off36_inb k) 1 2 (k0_off36_eq k),
      List.forall_mem_cons.2 ⟨partPiece_agrees (arg8.view.read (Elt Ideal) X8) (arg5.view.read (Elt Ideal) X5) _ _ _ hV hT (4096 * k0_t2.val + 2048) (128 * k.val) rfl _ (k0_off35_inb k) 0 2 (k0_off35_eq k),
      List.forall_mem_cons.2 ⟨partPiece_agrees (arg8.view.read (Elt Ideal) X8) (arg5.view.read (Elt Ideal) X5) _ _ _ hV hT (4096 * k0_t2.val + 2048) (128 * k.val) rfl _ (k0_off34_inb k) 2 1 (k0_off34_eq k),
      List.forall_mem_cons.2 ⟨partPiece_agrees (arg8.view.read (Elt Ideal) X8) (arg5.view.read (Elt Ideal) X5) _ _ _ hV hT (4096 * k0_t2.val + 2048) (128 * k.val) rfl _ (k0_off33_inb k) 1 1 (k0_off33_eq k),
      List.forall_mem_cons.2 ⟨partPiece_agrees (arg8.view.read (Elt Ideal) X8) (arg5.view.read (Elt Ideal) X5) _ _ _ hV hT (4096 * k0_t2.val + 2048) (128 * k.val) rfl _ (k0_off32_inb k) 0 1 (k0_off32_eq k),
      List.forall_mem_cons.2 ⟨partPiece_agrees (arg8.view.read (Elt Ideal) X8) (arg5.view.read (Elt Ideal) X5) _ _ _ hV hT (4096 * k0_t2.val + 2048) (128 * k.val) rfl _ (k0_off31_inb k) 2 0 (k0_off31_eq k),
      List.forall_mem_cons.2 ⟨partPiece_agrees (arg8.view.read (Elt Ideal) X8) (arg5.view.read (Elt Ideal) X5) _ _ _ hV hT (4096 * k0_t2.val + 2048) (128 * k.val) rfl _ (k0_off30_inb k) 1 0 (k0_off30_eq k),
      List.forall_mem_cons.2 ⟨partPiece_agrees (arg8.view.read (Elt Ideal) X8) (arg5.view.read (Elt Ideal) X5) _ _ _ hV hT (4096 * k0_t2.val + 2048) (128 * k.val) rfl _ (k0_off29_inb k) 0 0 (k0_off29_eq k), fun _ h => absurd h List.not_mem_nil⟩⟩⟩⟩⟩⟩⟩⟩⟩⟩⟩⟩⟩⟩⟩⟩⟩⟩⟩⟩⟩⟩⟩⟩
  · intro y h0 h1
    have hlt : (y 0).val / 8 < 24 := by have : (y 0).val < 192 := (y 0).isLt; omega
    generalize hw : (y 0).val / 8 = w at hlt
    interval_cases w
    · exact ⟨_, mem_at _ 23 (by show (23 : ℕ) < 24; omega), partPiece_covers _ (k0_off29_inb k) 0 _ _ 0 _ (k0_off29_eq k) y hw h0 h1⟩
    · exact ⟨_, mem_at _ 20 (by show (20 : ℕ) < 24; omega), partPiece_covers _ (k0_off32_inb k) 0 _ _ 1 _ (k0_off32_eq k) y hw h0 h1⟩
    · exact ⟨_, mem_at _ 17 (by show (17 : ℕ) < 24; omega), partPiece_covers _ (k0_off35_inb k) 0 _ _ 2 _ (k0_off35_eq k) y hw h0 h1⟩
    · exact ⟨_, mem_at _ 14 (by show (14 : ℕ) < 24; omega), partPiece_covers _ (k0_off39_inb k) 0 _ _ 3 _ (k0_off39_eq k) y hw h0 h1⟩
    · exact ⟨_, mem_at _ 11 (by show (11 : ℕ) < 24; omega), partPiece_covers _ (k0_off42_inb k) 0 _ _ 4 _ (k0_off42_eq k) y hw h0 h1⟩
    · exact ⟨_, mem_at _ 8 (by show (8 : ℕ) < 24; omega), partPiece_covers _ (k0_off45_inb k) 0 _ _ 5 _ (k0_off45_eq k) y hw h0 h1⟩
    · exact ⟨_, mem_at _ 5 (by show (5 : ℕ) < 24; omega), partPiece_covers _ (k0_off48_inb k) 0 _ _ 6 _ (k0_off48_eq k) y hw h0 h1⟩
    · exact ⟨_, mem_at _ 2 (by show (2 : ℕ) < 24; omega), partPiece_covers _ (k0_off51_inb k) 0 _ _ 7 _ (k0_off51_eq k) y hw h0 h1⟩
    · exact ⟨_, mem_at _ 22 (by show (22 : ℕ) < 24; omega), partPiece_covers _ (k0_off30_inb k) 1 _ _ 8 _ (k0_off30_eq k) y hw h0 h1⟩
    · exact ⟨_, mem_at _ 19 (by show (19 : ℕ) < 24; omega), partPiece_covers _ (k0_off33_inb k) 1 _ _ 9 _ (k0_off33_eq k) y hw h0 h1⟩
    · exact ⟨_, mem_at _ 16 (by show (16 : ℕ) < 24; omega), partPiece_covers _ (k0_off36_inb k) 1 _ _ 10 _ (k0_off36_eq k) y hw h0 h1⟩
    · exact ⟨_, mem_at _ 13 (by show (13 : ℕ) < 24; omega), partPiece_covers _ (k0_off40_inb k) 1 _ _ 11 _ (k0_off40_eq k) y hw h0 h1⟩
    · exact ⟨_, mem_at _ 10 (by show (10 : ℕ) < 24; omega), partPiece_covers _ (k0_off43_inb k) 1 _ _ 12 _ (k0_off43_eq k) y hw h0 h1⟩
    · exact ⟨_, mem_at _ 7 (by show (7 : ℕ) < 24; omega), partPiece_covers _ (k0_off46_inb k) 1 _ _ 13 _ (k0_off46_eq k) y hw h0 h1⟩
    · exact ⟨_, mem_at _ 4 (by show (4 : ℕ) < 24; omega), partPiece_covers _ (k0_off49_inb k) 1 _ _ 14 _ (k0_off49_eq k) y hw h0 h1⟩
    · exact ⟨_, mem_at _ 1 (by show (1 : ℕ) < 24; omega), partPiece_covers _ (k0_off52_inb k) 1 _ _ 15 _ (k0_off52_eq k) y hw h0 h1⟩
    · exact ⟨_, mem_at _ 21 (by show (21 : ℕ) < 24; omega), partPiece_covers _ (k0_off31_inb k) 2 _ _ 16 _ (k0_off31_eq k) y hw h0 h1⟩
    · exact ⟨_, mem_at _ 18 (by show (18 : ℕ) < 24; omega), partPiece_covers _ (k0_off34_inb k) 2 _ _ 17 _ (k0_off34_eq k) y hw h0 h1⟩
    · exact ⟨_, mem_at _ 15 (by show (15 : ℕ) < 24; omega), partPiece_covers _ (k0_off37_inb k) 2 _ _ 18 _ (k0_off37_eq k) y hw h0 h1⟩
    · exact ⟨_, mem_at _ 12 (by show (12 : ℕ) < 24; omega), partPiece_covers _ (k0_off41_inb k) 2 _ _ 19 _ (k0_off41_eq k) y hw h0 h1⟩
    · exact ⟨_, mem_at _ 9 (by show (9 : ℕ) < 24; omega), partPiece_covers _ (k0_off44_inb k) 2 _ _ 20 _ (k0_off44_eq k) y hw h0 h1⟩
    · exact ⟨_, mem_at _ 6 (by show (6 : ℕ) < 24; omega), partPiece_covers _ (k0_off47_inb k) 2 _ _ 21 _ (k0_off47_eq k) y hw h0 h1⟩
    · exact ⟨_, mem_at _ 3 (by show (3 : ℕ) < 24; omega), partPiece_covers _ (k0_off50_inb k) 2 _ _ 22 _ (k0_off50_eq k) y hw h0 h1⟩
    · exact ⟨_, mem_at _ 0 (by show (0 : ℕ) < 24; omega), partPiece_covers _ (k0_off53_inb k) 2 _ _ 23 _ (k0_off53_eq k) y hw h0 h1⟩
  · exact List.forall_mem_cons.2 ⟨normPiece_agrees (arg8.view.read (Elt Ideal) X8) (arg5.view.read (Elt Ideal) X5) _ _ _ hV hT (4096 * k0_t2.val + 2048) (128 * k.val) rfl _ (k0_off54_inb k) (k0_off54_eq k),
      fun _ h => absurd h List.not_mem_nil⟩
  · intro y h0 h1
    exact ⟨_, List.mem_cons_self, normPiece_covers _ (k0_off54_inb k) _ _ (k0_off54_eq k) y h0 h1⟩

/-- After the decode loop `k0_t3` the buffer of parts reads the parts of its chunk, whatever it held. -/
theorem parts_k0_t3 (G : BufTy.Contents (Elt Ideal) arg11.view.ty) :
    arg11.view.read (Elt Ideal) (arg11.view.writes (Elt Ideal) G (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k0_t3_loop.trips).1)
      = PARTS (arg8.view.read (Elt Ideal) X8) (arg5.view.read (Elt Ideal) X5) (4096 * k0_t2.val + 2048) :=
  read_of_trips arg11.view G _ (fun y => (y 2).val) k0_t3_loop.trips (fun y => by rw [k0_t3_trips]; exact (y 2).isLt)
    (fun k => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k).1)
    (fun k => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k).1)
    (by rw [pb_k0_t3.eq_1]) (fun k => by rw [pb_k0_t3_succ])
    (fun k => (trip_k0_t3_good 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k).1.1)
    (fun k => (trip_k0_t3_good 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k).1.2)

/-- After the decode loop `k0_t3` the buffer of norms reads the norms of its chunk, whatever it held. -/
theorem norms_k0_t3 (G : BufTy.Contents (Elt Ideal) arg13.view.ty) :
    arg13.view.read (Elt Ideal) (arg13.view.writes (Elt Ideal) G (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k0_t3_loop.trips).2)
      = NORM (arg8.view.read (Elt Ideal) X8) (arg5.view.read (Elt Ideal) X5) (4096 * k0_t2.val + 2048) :=
  read_of_trips arg13.view G _ (fun y => (y 1).val) k0_t3_loop.trips (fun y => by rw [k0_t3_trips]; exact (y 1).isLt)
    (fun k => (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k).2)
    (fun k => (tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k).2)
    (by rw [pb_k0_t3.eq_1]) (fun k => by rw [pb_k0_t3_succ])
    (fun k => (trip_k0_t3_good 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k).2.1)
    (fun k => (trip_k0_t3_good 𝒱 c bd i arg1 harg1 arg2 harg2 arg3 harg3 arg4 harg4 arg5 harg5 arg6 harg6 arg7 harg7 arg8 harg8 arg9 harg9 arg10 harg10 arg11 harg11 arg12 harg12 arg13 harg13 c0_i32_4 c1_i32_5 k0_t2 v45 X5 X8 k).2.2)

end Cert.Proof.KernelIdeal

end
-- ==== Proof.DecodeTrip4.lean ====
module

public import proofs.«01_k».proof.Proof.DecodeSpec

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable {F : FTy → Type} [FloatOps F]

/-- One trip's pieces of the decode loop `k0_t4`: the parts of the eight groups and the norms. -/
theorem tripL_k0_t4_eq (𝒱 : Variants) (c : Dev nD) (bd : Option 𝒱.V) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (k0_t2 : Fin k0_t2_loop.trips) (v69 : BitVec 32) (c0_i32_53 : BitVec 32) (c1_i32_55 : BitVec 32) (X5 : BufTy.Contents (Elt F) arg5.view.ty) (X8 : BufTy.Contents (Elt F) arg8.view.ty) (k : Fin k0_t4_loop.trips) :
    tripL_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k
      = (let Y := yAll (codeRows arg5 X5 ![k0_off56 k0_t2 k, k0_off66 k0_t2 k]
            (by intro t; fin_cases t; · exact k0_off56_inb k0_t2 k
                · exact k0_off66_inb k0_t2 k)) (tabRows arg8 X8)
        ([partPiece (k0_off81 k) (k0_off81_inb k) 2 (Y 7 0) (Y 7 1),
          partPiece (k0_off80 k) (k0_off80_inb k) 1 (Y 7 0) (Y 7 1),
          partPiece (k0_off79 k) (k0_off79_inb k) 0 (Y 7 0) (Y 7 1),
          partPiece (k0_off78 k) (k0_off78_inb k) 2 (Y 6 0) (Y 6 1),
          partPiece (k0_off77 k) (k0_off77_inb k) 1 (Y 6 0) (Y 6 1),
          partPiece (k0_off76 k) (k0_off76_inb k) 0 (Y 6 0) (Y 6 1),
          partPiece (k0_off75 k) (k0_off75_inb k) 2 (Y 5 0) (Y 5 1),
          partPiece (k0_off74 k) (k0_off74_inb k) 1 (Y 5 0) (Y 5 1),
          partPiece (k0_off73 k) (k0_off73_inb k) 0 (Y 5 0) (Y 5 1),
          partPiece (k0_off72 k) (k0_off72_inb k) 2 (Y 4 0) (Y 4 1),
          partPiece (k0_off71 k) (k0_off71_inb k) 1 (Y 4 0) (Y 4 1),
          partPiece (k0_off70 k) (k0_off70_inb k) 0 (Y 4 0) (Y 4 1),
          partPiece (k0_off69 k) (k0_off69_inb k) 2 (Y 3 0) (Y 3 1),
          partPiece (k0_off68 k) (k0_off68_inb k) 1 (Y 3 0) (Y 3 1),
          partPiece (k0_off67 k) (k0_off67_inb k) 0 (Y 3 0) (Y 3 1),
          partPiece (k0_off65 k) (k0_off65_inb k) 2 (Y 2 0) (Y 2 1),
          partPiece (k0_off64 k) (k0_off64_inb k) 1 (Y 2 0) (Y 2 1),
          partPiece (k0_off63 k) (k0_off63_inb k) 0 (Y 2 0) (Y 2 1),
          partPiece (k0_off62 k) (k0_off62_inb k) 2 (Y 1 0) (Y 1 1),
          partPiece (k0_off61 k) (k0_off61_inb k) 1 (Y 1 0) (Y 1 1),
          partPiece (k0_off60 k) (k0_off60_inb k) 0 (Y 1 0) (Y 1 1),
          partPiece (k0_off59 k) (k0_off59_inb k) 2 (Y 0 0) (Y 0 1),
          partPiece (k0_off58 k) (k0_off58_inb k) 1 (Y 0 0) (Y 0 1),
          partPiece (k0_off57 k) (k0_off57_inb k) 0 (Y 0 0) (Y 0 1)],
         [normPiece (k0_off82 k) (k0_off82_inb k) (normVec Y)])) := by
  unfold tripL_k0_t4 trip_k0_t4
  rfl

end Cert.Proof.KernelIdeal

end
-- ==== Proof.DecodeSum4.lean ====
module

public import proofs.«01_k».proof.Proof.DecodeValue
public import proofs.«01_k».proof.Proof.DecodeTrip4

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable (𝒱 : Variants) (c : Dev nD) (bd : Option 𝒱.V) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (k0_t2 : Fin k0_t2_loop.trips) (v69 : BitVec 32) (c0_i32_53 : BitVec 32) (c1_i32_55 : BitVec 32) (X5 : BufTy.Contents (Elt Ideal) arg5.view.ty) (X8 : BufTy.Contents (Elt Ideal) arg8.view.ty)

/-- The decode loop `k0_t4` makes sixteen trips. -/
theorem k0_t4_trips : k0_t4_loop.trips = 16 := by decide +kernel

/-- One trip of the decode loop `k0_t4`: its pieces agree with what the decode leaves and cover its lane tile. -/
theorem trip_k0_t4_good (k : Fin k0_t4_loop.trips) :
    let L := tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k
    ((∀ p ∈ L.1, ∀ x : p.1.shape.Idx, p.2 x = PARTS (arg8.view.read (Elt Ideal) X8) (arg5.view.read (Elt Ideal) X5) (4096 * k0_t2.val + 4096) (p.1.emb x))
      ∧ (∀ y : S192x2x2048.Idx, 128 * k.val ≤ (y 2).val → (y 2).val < 128 * k.val + 128 → ∃ p ∈ L.1, y ∈ p.1.set))
    ∧ (∀ p ∈ L.2, ∀ x : p.1.shape.Idx, p.2 x = NORM (arg8.view.read (Elt Ideal) X8) (arg5.view.read (Elt Ideal) X5) (4096 * k0_t2.val + 4096) (p.1.emb x))
      ∧ (∀ y : S8x2048.Idx, 128 * k.val ≤ (y 1).val → (y 1).val < 128 * k.val + 128 → ∃ p ∈ L.2, y ∈ p.1.set) := by
  have hk2 : k0_t2.val < 7 := Nat.lt_of_lt_of_le k0_t2.isLt k0_t2_abs.2.1
  have hk : k.val < 16 := k0_t4_trips ▸ k.isLt
  intro L
  have hL := tripL_k0_t4_eq (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k
  have hV := codeRows_apply arg5 X5 ![k0_off56 k0_t2 k, k0_off66 k0_t2 k]
    (by intro t; fin_cases t; · exact k0_off56_inb k0_t2 k
        · exact k0_off66_inb k0_t2 k) ((4096 * k0_t2.val + 4096) + 128 * k.val)
    ((k0_off56_eq k0_t2 k).trans (by congr 2; omega)) ((k0_off66_eq k0_t2 k).trans (by congr 2; omega)) (by omega)
  have hT := tabRows_apply arg8 X8
  show ((∀ p ∈ (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k).1, _) ∧ (∀ y : S192x2x2048.Idx, _ → _ → ∃ p ∈ (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k).1, _))
    ∧ (∀ p ∈ (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k).2, _) ∧ (∀ y : S8x2048.Idx, _ → _ → ∃ p ∈ (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k).2, _)
  rw [hL]
  refine ⟨⟨?_, ?_⟩, ?_, ?_⟩
  · exact List.forall_mem_cons.2 ⟨partPiece_agrees (arg8.view.read (Elt Ideal) X8) (arg5.view.read (Elt Ideal) X5) _ _ _ hV hT (4096 * k0_t2.val + 4096) (128 * k.val) rfl _ (k0_off81_inb k) 2 7 (k0_off81_eq k),
      List.forall_mem_cons.2 ⟨partPiece_agrees (arg8.view.read (Elt Ideal) X8) (arg5.view.read (Elt Ideal) X5) _ _ _ hV hT (4096 * k0_t2.val + 4096) (128 * k.val) rfl _ (k0_off80_inb k) 1 7 (k0_off80_eq k),
      List.forall_mem_cons.2 ⟨partPiece_agrees (arg8.view.read (Elt Ideal) X8) (arg5.view.read (Elt Ideal) X5) _ _ _ hV hT (4096 * k0_t2.val + 4096) (128 * k.val) rfl _ (k0_off79_inb k) 0 7 (k0_off79_eq k),
      List.forall_mem_cons.2 ⟨partPiece_agrees (arg8.view.read (Elt Ideal) X8) (arg5.view.read (Elt Ideal) X5) _ _ _ hV hT (4096 * k0_t2.val + 4096) (128 * k.val) rfl _ (k0_off78_inb k) 2 6 (k0_off78_eq k),
      List.forall_mem_cons.2 ⟨partPiece_agrees (arg8.view.read (Elt Ideal) X8) (arg5.view.read (Elt Ideal) X5) _ _ _ hV hT (4096 * k0_t2.val + 4096) (128 * k.val) rfl _ (k0_off77_inb k) 1 6 (k0_off77_eq k),
      List.forall_mem_cons.2 ⟨partPiece_agrees (arg8.view.read (Elt Ideal) X8) (arg5.view.read (Elt Ideal) X5) _ _ _ hV hT (4096 * k0_t2.val + 4096) (128 * k.val) rfl _ (k0_off76_inb k) 0 6 (k0_off76_eq k),
      List.forall_mem_cons.2 ⟨partPiece_agrees (arg8.view.read (Elt Ideal) X8) (arg5.view.read (Elt Ideal) X5) _ _ _ hV hT (4096 * k0_t2.val + 4096) (128 * k.val) rfl _ (k0_off75_inb k) 2 5 (k0_off75_eq k),
      List.forall_mem_cons.2 ⟨partPiece_agrees (arg8.view.read (Elt Ideal) X8) (arg5.view.read (Elt Ideal) X5) _ _ _ hV hT (4096 * k0_t2.val + 4096) (128 * k.val) rfl _ (k0_off74_inb k) 1 5 (k0_off74_eq k),
      List.forall_mem_cons.2 ⟨partPiece_agrees (arg8.view.read (Elt Ideal) X8) (arg5.view.read (Elt Ideal) X5) _ _ _ hV hT (4096 * k0_t2.val + 4096) (128 * k.val) rfl _ (k0_off73_inb k) 0 5 (k0_off73_eq k),
      List.forall_mem_cons.2 ⟨partPiece_agrees (arg8.view.read (Elt Ideal) X8) (arg5.view.read (Elt Ideal) X5) _ _ _ hV hT (4096 * k0_t2.val + 4096) (128 * k.val) rfl _ (k0_off72_inb k) 2 4 (k0_off72_eq k),
      List.forall_mem_cons.2 ⟨partPiece_agrees (arg8.view.read (Elt Ideal) X8) (arg5.view.read (Elt Ideal) X5) _ _ _ hV hT (4096 * k0_t2.val + 4096) (128 * k.val) rfl _ (k0_off71_inb k) 1 4 (k0_off71_eq k),
      List.forall_mem_cons.2 ⟨partPiece_agrees (arg8.view.read (Elt Ideal) X8) (arg5.view.read (Elt Ideal) X5) _ _ _ hV hT (4096 * k0_t2.val + 4096) (128 * k.val) rfl _ (k0_off70_inb k) 0 4 (k0_off70_eq k),
      List.forall_mem_cons.2 ⟨partPiece_agrees (arg8.view.read (Elt Ideal) X8) (arg5.view.read (Elt Ideal) X5) _ _ _ hV hT (4096 * k0_t2.val + 4096) (128 * k.val) rfl _ (k0_off69_inb k) 2 3 (k0_off69_eq k),
      List.forall_mem_cons.2 ⟨partPiece_agrees (arg8.view.read (Elt Ideal) X8) (arg5.view.read (Elt Ideal) X5) _ _ _ hV hT (4096 * k0_t2.val + 4096) (128 * k.val) rfl _ (k0_off68_inb k) 1 3 (k0_off68_eq k),
      List.forall_mem_cons.2 ⟨partPiece_agrees (arg8.view.read (Elt Ideal) X8) (arg5.view.read (Elt Ideal) X5) _ _ _ hV hT (4096 * k0_t2.val + 4096) (128 * k.val) rfl _ (k0_off67_inb k) 0 3 (k0_off67_eq k),
      List.forall_mem_cons.2 ⟨partPiece_agrees (arg8.view.read (Elt Ideal) X8) (arg5.view.read (Elt Ideal) X5) _ _ _ hV hT (4096 * k0_t2.val + 4096) (128 * k.val) rfl _ (k0_off65_inb k) 2 2 (k0_off65_eq k),
      List.forall_mem_cons.2 ⟨partPiece_agrees (arg8.view.read (Elt Ideal) X8) (arg5.view.read (Elt Ideal) X5) _ _ _ hV hT (4096 * k0_t2.val + 4096) (128 * k.val) rfl _ (k0_off64_inb k) 1 2 (k0_off64_eq k),
      List.forall_mem_cons.2 ⟨partPiece_agrees (arg8.view.read (Elt Ideal) X8) (arg5.view.read (Elt Ideal) X5) _ _ _ hV hT (4096 * k0_t2.val + 4096) (128 * k.val) rfl _ (k0_off63_inb k) 0 2 (k0_off63_eq k),
      List.forall_mem_cons.2 ⟨partPiece_agrees (arg8.view.read (Elt Ideal) X8) (arg5.view.read (Elt Ideal) X5) _ _ _ hV hT (4096 * k0_t2.val + 4096) (128 * k.val) rfl _ (k0_off62_inb k) 2 1 (k0_off62_eq k),
      List.forall_mem_cons.2 ⟨partPiece_agrees (arg8.view.read (Elt Ideal) X8) (arg5.view.read (Elt Ideal) X5) _ _ _ hV hT (4096 * k0_t2.val + 4096) (128 * k.val) rfl _ (k0_off61_inb k) 1 1 (k0_off61_eq k),
      List.forall_mem_cons.2 ⟨partPiece_agrees (arg8.view.read (Elt Ideal) X8) (arg5.view.read (Elt Ideal) X5) _ _ _ hV hT (4096 * k0_t2.val + 4096) (128 * k.val) rfl _ (k0_off60_inb k) 0 1 (k0_off60_eq k),
      List.forall_mem_cons.2 ⟨partPiece_agrees (arg8.view.read (Elt Ideal) X8) (arg5.view.read (Elt Ideal) X5) _ _ _ hV hT (4096 * k0_t2.val + 4096) (128 * k.val) rfl _ (k0_off59_inb k) 2 0 (k0_off59_eq k),
      List.forall_mem_cons.2 ⟨partPiece_agrees (arg8.view.read (Elt Ideal) X8) (arg5.view.read (Elt Ideal) X5) _ _ _ hV hT (4096 * k0_t2.val + 4096) (128 * k.val) rfl _ (k0_off58_inb k) 1 0 (k0_off58_eq k),
      List.forall_mem_cons.2 ⟨partPiece_agrees (arg8.view.read (Elt Ideal) X8) (arg5.view.read (Elt Ideal) X5) _ _ _ hV hT (4096 * k0_t2.val + 4096) (128 * k.val) rfl _ (k0_off57_inb k) 0 0 (k0_off57_eq k), fun _ h => absurd h List.not_mem_nil⟩⟩⟩⟩⟩⟩⟩⟩⟩⟩⟩⟩⟩⟩⟩⟩⟩⟩⟩⟩⟩⟩⟩⟩
  · intro y h0 h1
    have hlt : (y 0).val / 8 < 24 := by have : (y 0).val < 192 := (y 0).isLt; omega
    generalize hw : (y 0).val / 8 = w at hlt
    interval_cases w
    · exact ⟨_, mem_at _ 23 (by show (23 : ℕ) < 24; omega), partPiece_covers _ (k0_off57_inb k) 0 _ _ 0 _ (k0_off57_eq k) y hw h0 h1⟩
    · exact ⟨_, mem_at _ 20 (by show (20 : ℕ) < 24; omega), partPiece_covers _ (k0_off60_inb k) 0 _ _ 1 _ (k0_off60_eq k) y hw h0 h1⟩
    · exact ⟨_, mem_at _ 17 (by show (17 : ℕ) < 24; omega), partPiece_covers _ (k0_off63_inb k) 0 _ _ 2 _ (k0_off63_eq k) y hw h0 h1⟩
    · exact ⟨_, mem_at _ 14 (by show (14 : ℕ) < 24; omega), partPiece_covers _ (k0_off67_inb k) 0 _ _ 3 _ (k0_off67_eq k) y hw h0 h1⟩
    · exact ⟨_, mem_at _ 11 (by show (11 : ℕ) < 24; omega), partPiece_covers _ (k0_off70_inb k) 0 _ _ 4 _ (k0_off70_eq k) y hw h0 h1⟩
    · exact ⟨_, mem_at _ 8 (by show (8 : ℕ) < 24; omega), partPiece_covers _ (k0_off73_inb k) 0 _ _ 5 _ (k0_off73_eq k) y hw h0 h1⟩
    · exact ⟨_, mem_at _ 5 (by show (5 : ℕ) < 24; omega), partPiece_covers _ (k0_off76_inb k) 0 _ _ 6 _ (k0_off76_eq k) y hw h0 h1⟩
    · exact ⟨_, mem_at _ 2 (by show (2 : ℕ) < 24; omega), partPiece_covers _ (k0_off79_inb k) 0 _ _ 7 _ (k0_off79_eq k) y hw h0 h1⟩
    · exact ⟨_, mem_at _ 22 (by show (22 : ℕ) < 24; omega), partPiece_covers _ (k0_off58_inb k) 1 _ _ 8 _ (k0_off58_eq k) y hw h0 h1⟩
    · exact ⟨_, mem_at _ 19 (by show (19 : ℕ) < 24; omega), partPiece_covers _ (k0_off61_inb k) 1 _ _ 9 _ (k0_off61_eq k) y hw h0 h1⟩
    · exact ⟨_, mem_at _ 16 (by show (16 : ℕ) < 24; omega), partPiece_covers _ (k0_off64_inb k) 1 _ _ 10 _ (k0_off64_eq k) y hw h0 h1⟩
    · exact ⟨_, mem_at _ 13 (by show (13 : ℕ) < 24; omega), partPiece_covers _ (k0_off68_inb k) 1 _ _ 11 _ (k0_off68_eq k) y hw h0 h1⟩
    · exact ⟨_, mem_at _ 10 (by show (10 : ℕ) < 24; omega), partPiece_covers _ (k0_off71_inb k) 1 _ _ 12 _ (k0_off71_eq k) y hw h0 h1⟩
    · exact ⟨_, mem_at _ 7 (by show (7 : ℕ) < 24; omega), partPiece_covers _ (k0_off74_inb k) 1 _ _ 13 _ (k0_off74_eq k) y hw h0 h1⟩
    · exact ⟨_, mem_at _ 4 (by show (4 : ℕ) < 24; omega), partPiece_covers _ (k0_off77_inb k) 1 _ _ 14 _ (k0_off77_eq k) y hw h0 h1⟩
    · exact ⟨_, mem_at _ 1 (by show (1 : ℕ) < 24; omega), partPiece_covers _ (k0_off80_inb k) 1 _ _ 15 _ (k0_off80_eq k) y hw h0 h1⟩
    · exact ⟨_, mem_at _ 21 (by show (21 : ℕ) < 24; omega), partPiece_covers _ (k0_off59_inb k) 2 _ _ 16 _ (k0_off59_eq k) y hw h0 h1⟩
    · exact ⟨_, mem_at _ 18 (by show (18 : ℕ) < 24; omega), partPiece_covers _ (k0_off62_inb k) 2 _ _ 17 _ (k0_off62_eq k) y hw h0 h1⟩
    · exact ⟨_, mem_at _ 15 (by show (15 : ℕ) < 24; omega), partPiece_covers _ (k0_off65_inb k) 2 _ _ 18 _ (k0_off65_eq k) y hw h0 h1⟩
    · exact ⟨_, mem_at _ 12 (by show (12 : ℕ) < 24; omega), partPiece_covers _ (k0_off69_inb k) 2 _ _ 19 _ (k0_off69_eq k) y hw h0 h1⟩
    · exact ⟨_, mem_at _ 9 (by show (9 : ℕ) < 24; omega), partPiece_covers _ (k0_off72_inb k) 2 _ _ 20 _ (k0_off72_eq k) y hw h0 h1⟩
    · exact ⟨_, mem_at _ 6 (by show (6 : ℕ) < 24; omega), partPiece_covers _ (k0_off75_inb k) 2 _ _ 21 _ (k0_off75_eq k) y hw h0 h1⟩
    · exact ⟨_, mem_at _ 3 (by show (3 : ℕ) < 24; omega), partPiece_covers _ (k0_off78_inb k) 2 _ _ 22 _ (k0_off78_eq k) y hw h0 h1⟩
    · exact ⟨_, mem_at _ 0 (by show (0 : ℕ) < 24; omega), partPiece_covers _ (k0_off81_inb k) 2 _ _ 23 _ (k0_off81_eq k) y hw h0 h1⟩
  · exact List.forall_mem_cons.2 ⟨normPiece_agrees (arg8.view.read (Elt Ideal) X8) (arg5.view.read (Elt Ideal) X5) _ _ _ hV hT (4096 * k0_t2.val + 4096) (128 * k.val) rfl _ (k0_off82_inb k) (k0_off82_eq k),
      fun _ h => absurd h List.not_mem_nil⟩
  · intro y h0 h1
    exact ⟨_, List.mem_cons_self, normPiece_covers _ (k0_off82_inb k) _ _ (k0_off82_eq k) y h0 h1⟩

/-- After the decode loop `k0_t4` the buffer of parts reads the parts of its chunk, whatever it held. -/
theorem parts_k0_t4 (G : BufTy.Contents (Elt Ideal) arg10.view.ty) :
    arg10.view.read (Elt Ideal) (arg10.view.writes (Elt Ideal) G (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k0_t4_loop.trips).1)
      = PARTS (arg8.view.read (Elt Ideal) X8) (arg5.view.read (Elt Ideal) X5) (4096 * k0_t2.val + 4096) :=
  read_of_trips arg10.view G _ (fun y => (y 2).val) k0_t4_loop.trips (fun y => by rw [k0_t4_trips]; exact (y 2).isLt)
    (fun k => (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k).1)
    (fun k => (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k).1)
    (by rw [pb_k0_t4.eq_1]) (fun k => by rw [pb_k0_t4_succ])
    (fun k => (trip_k0_t4_good 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k).1.1)
    (fun k => (trip_k0_t4_good 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k).1.2)

/-- After the decode loop `k0_t4` the buffer of norms reads the norms of its chunk, whatever it held. -/
theorem norms_k0_t4 (G : BufTy.Contents (Elt Ideal) arg12.view.ty) :
    arg12.view.read (Elt Ideal) (arg12.view.writes (Elt Ideal) G (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k0_t4_loop.trips).2)
      = NORM (arg8.view.read (Elt Ideal) X8) (arg5.view.read (Elt Ideal) X5) (4096 * k0_t2.val + 4096) :=
  read_of_trips arg12.view G _ (fun y => (y 1).val) k0_t4_loop.trips (fun y => by rw [k0_t4_trips]; exact (y 1).isLt)
    (fun k => (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k).2)
    (fun k => (tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k).2)
    (by rw [pb_k0_t4.eq_1]) (fun k => by rw [pb_k0_t4_succ])
    (fun k => (trip_k0_t4_good 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k).2.1)
    (fun k => (trip_k0_t4_good 𝒱 c bd i arg1 harg1 arg2 harg2 arg3 harg3 arg4 harg4 arg5 harg5 arg6 harg6 arg7 harg7 arg8 harg8 arg9 harg9 arg10 harg10 arg11 harg11 arg12 harg12 arg13 harg13 k0_t2 v69 c0_i32_53 c1_i32_55 X5 X8 k).2.2)

end Cert.Proof.KernelIdeal

end
-- ==== Proof.DecodeTrip5.lean ====
module

public import proofs.«01_k».proof.Proof.DecodeSpec

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable {F : FTy → Type} [FloatOps F]

/-- One trip's pieces of the decode loop `k0_t5`: the parts of the eight groups and the norms. -/
theorem tripL_k0_t5_eq (𝒱 : Variants) (c : Dev nD) (bd : Option 𝒱.V) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (v6 : BitVec 32) (X5 : BufTy.Contents (Elt F) arg5.view.ty) (X8 : BufTy.Contents (Elt F) arg8.view.ty) (k : Fin k0_t5_loop.trips) :
    tripL_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k
      = (let Y := yAll (codeRows arg5 X5 ![k0_off84 k, k0_off94 k]
            (by intro t; fin_cases t; · exact k0_off84_inb k
                · exact k0_off94_inb k)) (tabRows arg8 X8)
        ([partPiece (k0_off109 k) (k0_off109_inb k) 2 (Y 7 0) (Y 7 1),
          partPiece (k0_off108 k) (k0_off108_inb k) 1 (Y 7 0) (Y 7 1),
          partPiece (k0_off107 k) (k0_off107_inb k) 0 (Y 7 0) (Y 7 1),
          partPiece (k0_off106 k) (k0_off106_inb k) 2 (Y 6 0) (Y 6 1),
          partPiece (k0_off105 k) (k0_off105_inb k) 1 (Y 6 0) (Y 6 1),
          partPiece (k0_off104 k) (k0_off104_inb k) 0 (Y 6 0) (Y 6 1),
          partPiece (k0_off103 k) (k0_off103_inb k) 2 (Y 5 0) (Y 5 1),
          partPiece (k0_off102 k) (k0_off102_inb k) 1 (Y 5 0) (Y 5 1),
          partPiece (k0_off101 k) (k0_off101_inb k) 0 (Y 5 0) (Y 5 1),
          partPiece (k0_off100 k) (k0_off100_inb k) 2 (Y 4 0) (Y 4 1),
          partPiece (k0_off99 k) (k0_off99_inb k) 1 (Y 4 0) (Y 4 1),
          partPiece (k0_off98 k) (k0_off98_inb k) 0 (Y 4 0) (Y 4 1),
          partPiece (k0_off97 k) (k0_off97_inb k) 2 (Y 3 0) (Y 3 1),
          partPiece (k0_off96 k) (k0_off96_inb k) 1 (Y 3 0) (Y 3 1),
          partPiece (k0_off95 k) (k0_off95_inb k) 0 (Y 3 0) (Y 3 1),
          partPiece (k0_off93 k) (k0_off93_inb k) 2 (Y 2 0) (Y 2 1),
          partPiece (k0_off92 k) (k0_off92_inb k) 1 (Y 2 0) (Y 2 1),
          partPiece (k0_off91 k) (k0_off91_inb k) 0 (Y 2 0) (Y 2 1),
          partPiece (k0_off90 k) (k0_off90_inb k) 2 (Y 1 0) (Y 1 1),
          partPiece (k0_off89 k) (k0_off89_inb k) 1 (Y 1 0) (Y 1 1),
          partPiece (k0_off88 k) (k0_off88_inb k) 0 (Y 1 0) (Y 1 1),
          partPiece (k0_off87 k) (k0_off87_inb k) 2 (Y 0 0) (Y 0 1),
          partPiece (k0_off86 k) (k0_off86_inb k) 1 (Y 0 0) (Y 0 1),
          partPiece (k0_off85 k) (k0_off85_inb k) 0 (Y 0 0) (Y 0 1)],
         [normPiece (k0_off110 k) (k0_off110_inb k) (normVec Y)])) := by
  unfold tripL_k0_t5 trip_k0_t5
  rfl

end Cert.Proof.KernelIdeal

end
-- ==== Proof.DecodeSum5.lean ====
module

public import proofs.«01_k».proof.Proof.DecodeValue
public import proofs.«01_k».proof.Proof.DecodeTrip5

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

variable (𝒱 : Variants) (c : Dev nD) (bd : Option 𝒱.V) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (v6 : BitVec 32) (X5 : BufTy.Contents (Elt Ideal) arg5.view.ty) (X8 : BufTy.Contents (Elt Ideal) arg8.view.ty)

/-- The decode loop `k0_t5` makes sixteen trips. -/
theorem k0_t5_trips : k0_t5_loop.trips = 16 := by decide +kernel

/-- One trip of the decode loop `k0_t5`: its pieces agree with what the decode leaves and cover its lane tile. -/
theorem trip_k0_t5_good (k : Fin k0_t5_loop.trips) :
    let L := tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k
    ((∀ p ∈ L.1, ∀ x : p.1.shape.Idx, p.2 x = PARTS (arg8.view.read (Elt Ideal) X8) (arg5.view.read (Elt Ideal) X5) 30720 (p.1.emb x))
      ∧ (∀ y : S192x2x2048.Idx, 128 * k.val ≤ (y 2).val → (y 2).val < 128 * k.val + 128 → ∃ p ∈ L.1, y ∈ p.1.set))
    ∧ (∀ p ∈ L.2, ∀ x : p.1.shape.Idx, p.2 x = NORM (arg8.view.read (Elt Ideal) X8) (arg5.view.read (Elt Ideal) X5) 30720 (p.1.emb x))
      ∧ (∀ y : S8x2048.Idx, 128 * k.val ≤ (y 1).val → (y 1).val < 128 * k.val + 128 → ∃ p ∈ L.2, y ∈ p.1.set) := by
  have hk : k.val < 16 := k0_t5_trips ▸ k.isLt
  intro L
  have hL := tripL_k0_t5_eq (F := Ideal) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k
  have hV := codeRows_apply arg5 X5 ![k0_off84 k, k0_off94 k]
    (by intro t; fin_cases t; · exact k0_off84_inb k
        · exact k0_off94_inb k) (30720 + 128 * k.val)
    ((k0_off84_eq k).trans (by congr 2; omega)) ((k0_off94_eq k).trans (by congr 2; omega)) (by omega)
  have hT := tabRows_apply arg8 X8
  show ((∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k).1, _) ∧ (∀ y : S192x2x2048.Idx, _ → _ → ∃ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k).1, _))
    ∧ (∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k).2, _) ∧ (∀ y : S8x2048.Idx, _ → _ → ∃ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k).2, _)
  rw [hL]
  refine ⟨⟨?_, ?_⟩, ?_, ?_⟩
  · exact List.forall_mem_cons.2 ⟨partPiece_agrees (arg8.view.read (Elt Ideal) X8) (arg5.view.read (Elt Ideal) X5) _ _ _ hV hT 30720 (128 * k.val) rfl _ (k0_off109_inb k) 2 7 (k0_off109_eq k),
      List.forall_mem_cons.2 ⟨partPiece_agrees (arg8.view.read (Elt Ideal) X8) (arg5.view.read (Elt Ideal) X5) _ _ _ hV hT 30720 (128 * k.val) rfl _ (k0_off108_inb k) 1 7 (k0_off108_eq k),
      List.forall_mem_cons.2 ⟨partPiece_agrees (arg8.view.read (Elt Ideal) X8) (arg5.view.read (Elt Ideal) X5) _ _ _ hV hT 30720 (128 * k.val) rfl _ (k0_off107_inb k) 0 7 (k0_off107_eq k),
      List.forall_mem_cons.2 ⟨partPiece_agrees (arg8.view.read (Elt Ideal) X8) (arg5.view.read (Elt Ideal) X5) _ _ _ hV hT 30720 (128 * k.val) rfl _ (k0_off106_inb k) 2 6 (k0_off106_eq k),
      List.forall_mem_cons.2 ⟨partPiece_agrees (arg8.view.read (Elt Ideal) X8) (arg5.view.read (Elt Ideal) X5) _ _ _ hV hT 30720 (128 * k.val) rfl _ (k0_off105_inb k) 1 6 (k0_off105_eq k),
      List.forall_mem_cons.2 ⟨partPiece_agrees (arg8.view.read (Elt Ideal) X8) (arg5.view.read (Elt Ideal) X5) _ _ _ hV hT 30720 (128 * k.val) rfl _ (k0_off104_inb k) 0 6 (k0_off104_eq k),
      List.forall_mem_cons.2 ⟨partPiece_agrees (arg8.view.read (Elt Ideal) X8) (arg5.view.read (Elt Ideal) X5) _ _ _ hV hT 30720 (128 * k.val) rfl _ (k0_off103_inb k) 2 5 (k0_off103_eq k),
      List.forall_mem_cons.2 ⟨partPiece_agrees (arg8.view.read (Elt Ideal) X8) (arg5.view.read (Elt Ideal) X5) _ _ _ hV hT 30720 (128 * k.val) rfl _ (k0_off102_inb k) 1 5 (k0_off102_eq k),
      List.forall_mem_cons.2 ⟨partPiece_agrees (arg8.view.read (Elt Ideal) X8) (arg5.view.read (Elt Ideal) X5) _ _ _ hV hT 30720 (128 * k.val) rfl _ (k0_off101_inb k) 0 5 (k0_off101_eq k),
      List.forall_mem_cons.2 ⟨partPiece_agrees (arg8.view.read (Elt Ideal) X8) (arg5.view.read (Elt Ideal) X5) _ _ _ hV hT 30720 (128 * k.val) rfl _ (k0_off100_inb k) 2 4 (k0_off100_eq k),
      List.forall_mem_cons.2 ⟨partPiece_agrees (arg8.view.read (Elt Ideal) X8) (arg5.view.read (Elt Ideal) X5) _ _ _ hV hT 30720 (128 * k.val) rfl _ (k0_off99_inb k) 1 4 (k0_off99_eq k),
      List.forall_mem_cons.2 ⟨partPiece_agrees (arg8.view.read (Elt Ideal) X8) (arg5.view.read (Elt Ideal) X5) _ _ _ hV hT 30720 (128 * k.val) rfl _ (k0_off98_inb k) 0 4 (k0_off98_eq k),
      List.forall_mem_cons.2 ⟨partPiece_agrees (arg8.view.read (Elt Ideal) X8) (arg5.view.read (Elt Ideal) X5) _ _ _ hV hT 30720 (128 * k.val) rfl _ (k0_off97_inb k) 2 3 (k0_off97_eq k),
      List.forall_mem_cons.2 ⟨partPiece_agrees (arg8.view.read (Elt Ideal) X8) (arg5.view.read (Elt Ideal) X5) _ _ _ hV hT 30720 (128 * k.val) rfl _ (k0_off96_inb k) 1 3 (k0_off96_eq k),
      List.forall_mem_cons.2 ⟨partPiece_agrees (arg8.view.read (Elt Ideal) X8) (arg5.view.read (Elt Ideal) X5) _ _ _ hV hT 30720 (128 * k.val) rfl _ (k0_off95_inb k) 0 3 (k0_off95_eq k),
      List.forall_mem_cons.2 ⟨partPiece_agrees (arg8.view.read (Elt Ideal) X8) (arg5.view.read (Elt Ideal) X5) _ _ _ hV hT 30720 (128 * k.val) rfl _ (k0_off93_inb k) 2 2 (k0_off93_eq k),
      List.forall_mem_cons.2 ⟨partPiece_agrees (arg8.view.read (Elt Ideal) X8) (arg5.view.read (Elt Ideal) X5) _ _ _ hV hT 30720 (128 * k.val) rfl _ (k0_off92_inb k) 1 2 (k0_off92_eq k),
      List.forall_mem_cons.2 ⟨partPiece_agrees (arg8.view.read (Elt Ideal) X8) (arg5.view.read (Elt Ideal) X5) _ _ _ hV hT 30720 (128 * k.val) rfl _ (k0_off91_inb k) 0 2 (k0_off91_eq k),
      List.forall_mem_cons.2 ⟨partPiece_agrees (arg8.view.read (Elt Ideal) X8) (arg5.view.read (Elt Ideal) X5) _ _ _ hV hT 30720 (128 * k.val) rfl _ (k0_off90_inb k) 2 1 (k0_off90_eq k),
      List.forall_mem_cons.2 ⟨partPiece_agrees (arg8.view.read (Elt Ideal) X8) (arg5.view.read (Elt Ideal) X5) _ _ _ hV hT 30720 (128 * k.val) rfl _ (k0_off89_inb k) 1 1 (k0_off89_eq k),
      List.forall_mem_cons.2 ⟨partPiece_agrees (arg8.view.read (Elt Ideal) X8) (arg5.view.read (Elt Ideal) X5) _ _ _ hV hT 30720 (128 * k.val) rfl _ (k0_off88_inb k) 0 1 (k0_off88_eq k),
      List.forall_mem_cons.2 ⟨partPiece_agrees (arg8.view.read (Elt Ideal) X8) (arg5.view.read (Elt Ideal) X5) _ _ _ hV hT 30720 (128 * k.val) rfl _ (k0_off87_inb k) 2 0 (k0_off87_eq k),
      List.forall_mem_cons.2 ⟨partPiece_agrees (arg8.view.read (Elt Ideal) X8) (arg5.view.read (Elt Ideal) X5) _ _ _ hV hT 30720 (128 * k.val) rfl _ (k0_off86_inb k) 1 0 (k0_off86_eq k),
      List.forall_mem_cons.2 ⟨partPiece_agrees (arg8.view.read (Elt Ideal) X8) (arg5.view.read (Elt Ideal) X5) _ _ _ hV hT 30720 (128 * k.val) rfl _ (k0_off85_inb k) 0 0 (k0_off85_eq k), fun _ h => absurd h List.not_mem_nil⟩⟩⟩⟩⟩⟩⟩⟩⟩⟩⟩⟩⟩⟩⟩⟩⟩⟩⟩⟩⟩⟩⟩⟩
  · intro y h0 h1
    have hlt : (y 0).val / 8 < 24 := by have : (y 0).val < 192 := (y 0).isLt; omega
    generalize hw : (y 0).val / 8 = w at hlt
    interval_cases w
    · exact ⟨_, mem_at _ 23 (by show (23 : ℕ) < 24; omega), partPiece_covers _ (k0_off85_inb k) 0 _ _ 0 _ (k0_off85_eq k) y hw h0 h1⟩
    · exact ⟨_, mem_at _ 20 (by show (20 : ℕ) < 24; omega), partPiece_covers _ (k0_off88_inb k) 0 _ _ 1 _ (k0_off88_eq k) y hw h0 h1⟩
    · exact ⟨_, mem_at _ 17 (by show (17 : ℕ) < 24; omega), partPiece_covers _ (k0_off91_inb k) 0 _ _ 2 _ (k0_off91_eq k) y hw h0 h1⟩
    · exact ⟨_, mem_at _ 14 (by show (14 : ℕ) < 24; omega), partPiece_covers _ (k0_off95_inb k) 0 _ _ 3 _ (k0_off95_eq k) y hw h0 h1⟩
    · exact ⟨_, mem_at _ 11 (by show (11 : ℕ) < 24; omega), partPiece_covers _ (k0_off98_inb k) 0 _ _ 4 _ (k0_off98_eq k) y hw h0 h1⟩
    · exact ⟨_, mem_at _ 8 (by show (8 : ℕ) < 24; omega), partPiece_covers _ (k0_off101_inb k) 0 _ _ 5 _ (k0_off101_eq k) y hw h0 h1⟩
    · exact ⟨_, mem_at _ 5 (by show (5 : ℕ) < 24; omega), partPiece_covers _ (k0_off104_inb k) 0 _ _ 6 _ (k0_off104_eq k) y hw h0 h1⟩
    · exact ⟨_, mem_at _ 2 (by show (2 : ℕ) < 24; omega), partPiece_covers _ (k0_off107_inb k) 0 _ _ 7 _ (k0_off107_eq k) y hw h0 h1⟩
    · exact ⟨_, mem_at _ 22 (by show (22 : ℕ) < 24; omega), partPiece_covers _ (k0_off86_inb k) 1 _ _ 8 _ (k0_off86_eq k) y hw h0 h1⟩
    · exact ⟨_, mem_at _ 19 (by show (19 : ℕ) < 24; omega), partPiece_covers _ (k0_off89_inb k) 1 _ _ 9 _ (k0_off89_eq k) y hw h0 h1⟩
    · exact ⟨_, mem_at _ 16 (by show (16 : ℕ) < 24; omega), partPiece_covers _ (k0_off92_inb k) 1 _ _ 10 _ (k0_off92_eq k) y hw h0 h1⟩
    · exact ⟨_, mem_at _ 13 (by show (13 : ℕ) < 24; omega), partPiece_covers _ (k0_off96_inb k) 1 _ _ 11 _ (k0_off96_eq k) y hw h0 h1⟩
    · exact ⟨_, mem_at _ 10 (by show (10 : ℕ) < 24; omega), partPiece_covers _ (k0_off99_inb k) 1 _ _ 12 _ (k0_off99_eq k) y hw h0 h1⟩
    · exact ⟨_, mem_at _ 7 (by show (7 : ℕ) < 24; omega), partPiece_covers _ (k0_off102_inb k) 1 _ _ 13 _ (k0_off102_eq k) y hw h0 h1⟩
    · exact ⟨_, mem_at _ 4 (by show (4 : ℕ) < 24; omega), partPiece_covers _ (k0_off105_inb k) 1 _ _ 14 _ (k0_off105_eq k) y hw h0 h1⟩
    · exact ⟨_, mem_at _ 1 (by show (1 : ℕ) < 24; omega), partPiece_covers _ (k0_off108_inb k) 1 _ _ 15 _ (k0_off108_eq k) y hw h0 h1⟩
    · exact ⟨_, mem_at _ 21 (by show (21 : ℕ) < 24; omega), partPiece_covers _ (k0_off87_inb k) 2 _ _ 16 _ (k0_off87_eq k) y hw h0 h1⟩
    · exact ⟨_, mem_at _ 18 (by show (18 : ℕ) < 24; omega), partPiece_covers _ (k0_off90_inb k) 2 _ _ 17 _ (k0_off90_eq k) y hw h0 h1⟩
    · exact ⟨_, mem_at _ 15 (by show (15 : ℕ) < 24; omega), partPiece_covers _ (k0_off93_inb k) 2 _ _ 18 _ (k0_off93_eq k) y hw h0 h1⟩
    · exact ⟨_, mem_at _ 12 (by show (12 : ℕ) < 24; omega), partPiece_covers _ (k0_off97_inb k) 2 _ _ 19 _ (k0_off97_eq k) y hw h0 h1⟩
    · exact ⟨_, mem_at _ 9 (by show (9 : ℕ) < 24; omega), partPiece_covers _ (k0_off100_inb k) 2 _ _ 20 _ (k0_off100_eq k) y hw h0 h1⟩
    · exact ⟨_, mem_at _ 6 (by show (6 : ℕ) < 24; omega), partPiece_covers _ (k0_off103_inb k) 2 _ _ 21 _ (k0_off103_eq k) y hw h0 h1⟩
    · exact ⟨_, mem_at _ 3 (by show (3 : ℕ) < 24; omega), partPiece_covers _ (k0_off106_inb k) 2 _ _ 22 _ (k0_off106_eq k) y hw h0 h1⟩
    · exact ⟨_, mem_at _ 0 (by show (0 : ℕ) < 24; omega), partPiece_covers _ (k0_off109_inb k) 2 _ _ 23 _ (k0_off109_eq k) y hw h0 h1⟩
  · exact List.forall_mem_cons.2 ⟨normPiece_agrees (arg8.view.read (Elt Ideal) X8) (arg5.view.read (Elt Ideal) X5) _ _ _ hV hT 30720 (128 * k.val) rfl _ (k0_off110_inb k) (k0_off110_eq k),
      fun _ h => absurd h List.not_mem_nil⟩
  · intro y h0 h1
    exact ⟨_, List.mem_cons_self, normPiece_covers _ (k0_off110_inb k) _ _ (k0_off110_eq k) y h0 h1⟩

/-- After the decode loop `k0_t5` the buffer of parts reads the parts of its chunk, whatever it held. -/
theorem parts_k0_t5 (G : BufTy.Contents (Elt Ideal) arg11.view.ty) :
    arg11.view.read (Elt Ideal) (arg11.view.writes (Elt Ideal) G (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k0_t5_loop.trips).1)
      = PARTS (arg8.view.read (Elt Ideal) X8) (arg5.view.read (Elt Ideal) X5) 30720 :=
  read_of_trips arg11.view G _ (fun y => (y 2).val) k0_t5_loop.trips (fun y => by rw [k0_t5_trips]; exact (y 2).isLt)
    (fun k => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k).1)
    (fun k => (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k).1)
    (by rw [pb_k0_t5.eq_1]) (fun k => by rw [pb_k0_t5_succ])
    (fun k => (trip_k0_t5_good 𝒱 c bd i arg1 harg1 arg2 harg2 arg3 harg3 arg4 harg4 arg5 harg5 arg6 harg6 arg7 harg7 arg8 harg8 arg9 harg9 arg10 harg10 arg11 harg11 arg12 harg12 arg13 harg13 v6 X5 X8 k).1.1)
    (fun k => (trip_k0_t5_good 𝒱 c bd i arg1 harg1 arg2 harg2 arg3 harg3 arg4 harg4 arg5 harg5 arg6 harg6 arg7 harg7 arg8 harg8 arg9 harg9 arg10 harg10 arg11 harg11 arg12 harg12 arg13 harg13 v6 X5 X8 k).1.2)

/-- After the decode loop `k0_t5` the buffer of norms reads the norms of its chunk, whatever it held. -/
theorem norms_k0_t5 (G : BufTy.Contents (Elt Ideal) arg13.view.ty) :
    arg13.view.read (Elt Ideal) (arg13.view.writes (Elt Ideal) G (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k0_t5_loop.trips).2)
      = NORM (arg8.view.read (Elt Ideal) X8) (arg5.view.read (Elt Ideal) X5) 30720 :=
  read_of_trips arg13.view G _ (fun y => (y 1).val) k0_t5_loop.trips (fun y => by rw [k0_t5_trips]; exact (y 1).isLt)
    (fun k => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k).2)
    (fun k => (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v6 X5 X8 k).2)
    (by rw [pb_k0_t5.eq_1]) (fun k => by rw [pb_k0_t5_succ])
    (fun k => (trip_k0_t5_good 𝒱 c bd i arg1 harg1 arg2 harg2 arg3 harg3 arg4 harg4 arg5 harg5 arg6 harg6 arg7 harg7 arg8 harg8 arg9 harg9 arg10 harg10 arg11 harg11 arg12 harg12 arg13 harg13 v6 X5 X8 k).2.1)
    (fun k => (trip_k0_t5_good 𝒱 c bd i arg1 harg1 arg2 harg2 arg3 harg3 arg4 harg4 arg5 harg5 arg6 harg6 arg7 harg7 arg8 harg8 arg9 harg9 arg10 harg10 arg11 harg11 arg12 harg12 arg13 harg13 v6 X5 X8 k).2.2)

end Cert.Proof.KernelIdeal

end
-- ==== Proof.PairValue.lean ====
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.CombineValue
public import proofs.«01_k».proof.Proof.DecodeSum1
public import proofs.«01_k».proof.Proof.DecodeSum3
public import proofs.«01_k».proof.Proof.DecodeSum4
public import proofs.«01_k».proof.Proof.DecodeSum5
public import Idealize.ShloMosaic.Lib.Pipeline.Frame
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- One thing before the first trip, another after any. -/
def atStart {α : Type} (n : ℕ) (a b : α) : α := match n with | 0 => a | _ + 1 => b

/-- Where the thing before the first trip is what the other is there, it is the other at any trip. -/
theorem atStart_eq {α : Type} (n : ℕ) (a : α) (b : ℕ → α) (h : a = b 0) : atStart n a (b n) = b n := by
  cases n with
  | zero => exact h
  | succ n => rfl

/-- What the loop over the pairs of column chunks holds before any of its trips: the operands it reads at their
    contents, the buffers it writes at some contents. -/
abbrev pairInvV (c : Dev nD)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (X2 : BufTy.Contents (Elt Ideal) arg2.view.ty) (X5 : BufTy.Contents (Elt Ideal) arg5.view.ty) (X8 : BufTy.Contents (Elt Ideal) arg8.view.ty) (X9 : BufTy.Contents (Elt Ideal) arg9.view.ty) (X10 : BufTy.Contents (Elt Ideal) arg10.view.ty) (X12 : BufTy.Contents (Elt Ideal) arg12.view.ty) (n : ℕ) : sProp 𝕄 :=
  iprop((arg2.view.loc (c : Thread nD τ) ↦[arg2.view.set]{fullShare} X2)
      ∗ (arg5.view.loc (c : Thread nD τ) ↦[arg5.view.set]{fullShare} X5)
      ∗ (arg8.view.loc (c : Thread nD τ) ↦[arg8.view.set]{fullShare} X8)
      ∗ (arg9.view.loc (c : Thread nD τ) ↦[arg9.view.set]{fullShare} X9)
      ∗ (∃ f, (arg6.view.loc (c : Thread nD τ) ↦[arg6.view.set]{fullShare} f) ∗ ⌜∀ y : S8x32768.Idx, (y 1).val < 4096 * n → arg10.view.read (Elt Ideal) X10 = PARTS (arg8.view.read (Elt Ideal) X8) (arg5.view.read (Elt Ideal) X5) 0 → arg12.view.read (Elt Ideal) X12 = NORM (arg8.view.read (Elt Ideal) X8) (arg5.view.read (Elt Ideal) X5) 0 → arg6.view.read (Elt Ideal) f y = DIST (arg8.view.read (Elt Ideal) X8) (arg5.view.read (Elt Ideal) X5) (arg2.view.read (Elt Ideal) X2) (arg9.view.read (Elt Ideal) X9) y⌝)
      ∗ (∃ f, (arg10.view.loc (c : Thread nD τ) ↦[arg10.view.set]{fullShare} f) ∗ ⌜arg10.view.read (Elt Ideal) f = atStart n (arg10.view.read (Elt Ideal) X10) (PARTS (arg8.view.read (Elt Ideal) X8) (arg5.view.read (Elt Ideal) X5) (4096 * n))⌝)
      ∗ (∃ f, (arg11.view.loc (c : Thread nD τ) ↦[arg11.view.set]{fullShare} f))
      ∗ (∃ f, (arg12.view.loc (c : Thread nD τ) ↦[arg12.view.set]{fullShare} f) ∗ ⌜arg12.view.read (Elt Ideal) f = atStart n (arg12.view.read (Elt Ideal) X12) (NORM (arg8.view.read (Elt Ideal) X8) (arg5.view.read (Elt Ideal) X5) (4096 * n))⌝)
      ∗ (∃ f, (arg13.view.loc (c : Thread nD τ) ↦[arg13.view.set]{fullShare} f)))

set_option warn.classDefReducibility false in
/-- The loop over the pairs of column chunks by that invariant: one trip, at any trip number, gives it back. -/
@[sl_loop] def loopInvV_k0_t2 (c : Dev nD) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (X2 : BufTy.Contents (Elt Ideal) arg2.view.ty) (X5 : BufTy.Contents (Elt Ideal) arg5.view.ty) (X8 : BufTy.Contents (Elt Ideal) arg8.view.ty) (X9 : BufTy.Contents (Elt Ideal) arg9.view.ty) (X10 : BufTy.Contents (Elt Ideal) arg10.view.ty) (X12 : BufTy.Contents (Elt Ideal) arg12.view.ty) :
    LoopInvTy_k0_t2 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 where
  inv := fun k _ => pairInvV c arg1 harg1 arg2 harg2 arg3 harg3 arg4 harg4 arg5 harg5 arg6 harg6 arg7 harg7 arg8 harg8 arg9 harg9 arg10 harg10 arg11 harg11 arg12 harg12 arg13 harg13 X2 X5 X8 X9 X10 X12 k
  step := fun k acc => by
    have hk : k.val < 7 := Nat.lt_of_lt_of_le k.isLt k0_t2_abs.2.1
    unfold k0_t2_body
    iintro ⟨Harg2, Harg5, Harg8, Harg9, ⟨%f_arg6, Harg6, %h6⟩, ⟨%f_arg10, Harg10, %h10⟩, ⟨%f_arg11, Harg11⟩, ⟨%f_arg12, Harg12, %h12⟩, ⟨%f_arg13, Harg13⟩⟩
    sl_exec
    sl_step
    isplitl [Harg2]; · iexact Harg2
    isplitl [Harg5]; · iexact Harg5
    isplitl [Harg8]; · iexact Harg8
    isplitl [Harg9]; · iexact Harg9
    isplitl [Harg6]
    · iexists _; isplitl [Harg6]; · iexact Harg6
      ipureintro
      intro y hy e10 e12
      refine dist_store arg6 f_arg6 _ _ (4096 * k.val + 2048) (by omega) _ _ (k0_off83_eq k) _ (fun b l => ?_) (fun y hy => ?_) y
        (by have : (y 1).val < 4096 * (k.val + 1) := hy; omega)
      · exact combine_loads arg2 X2 arg9 X9 _ _ (4096 * k.val + 2048) (by omega) _
          ((View.readAt_full arg11.view _ _).trans (parts_k0_t3 Variants.none c none i arg1 harg1 arg2 harg2 arg3 harg3 arg4 harg4 arg5 harg5 arg6 harg6 arg7 harg7 arg8 harg8 arg9 harg9 arg10 harg10 arg11 harg11 arg12 harg12 arg13 harg13 _ _ k _ X5 X8 f_arg11)) _
          ((View.readAt_full arg13.view _ _).trans (norms_k0_t3 Variants.none c none i arg1 harg1 arg2 harg2 arg3 harg3 arg4 harg4 arg5 harg5 arg6 harg6 arg7 harg7 arg8 harg8 arg9 harg9 arg10 harg10 arg11 harg11 arg12 harg12 arg13 harg13 _ _ k _ X5 X8 f_arg13)) b l
      refine dist_store arg6 f_arg6 _ _ (4096 * k.val) (by omega) _ _ (k0_off55_eq k) _ (fun b l => ?_) (fun y hy => ?_) y hy
      swap; · exact h6 y hy e10 e12
      exact combine_loads arg2 X2 arg9 X9 _ _ (4096 * k.val) (by omega) _
          ((View.readAt_full arg10.view _ _).trans (h10.trans (atStart_eq k.val _ (fun n => PARTS (arg8.view.read (Elt Ideal) X8) (arg5.view.read (Elt Ideal) X5) (4096 * n)) e10))) _
          ((View.readAt_full arg12.view _ _).trans (h12.trans (atStart_eq k.val _ (fun n => NORM (arg8.view.read (Elt Ideal) X8) (arg5.view.read (Elt Ideal) X5) (4096 * n)) e12))) b l
    isplitl [Harg10]
    · iexists _; isplitl [Harg10]; · iexact Harg10
      ipureintro
      exact parts_k0_t4 Variants.none c none i arg1 harg1 arg2 harg2 arg3 harg3 arg4 harg4 arg5 harg5 arg6 harg6 arg7 harg7 arg8 harg8 arg9 harg9 arg10 harg10 arg11 harg11 arg12 harg12 arg13 harg13 k _ _ _ X5 X8 f_arg10
    isplitl [Harg11]; · iexists _; iexact Harg11
    isplitl [Harg12]
    · iexists _; isplitl [Harg12]; · iexact Harg12
      ipureintro
      exact norms_k0_t4 Variants.none c none i arg1 harg1 arg2 harg2 arg3 harg3 arg4 harg4 arg5 harg5 arg6 harg6 arg7 harg7 arg8 harg8 arg9 harg9 arg10 harg10 arg11 harg11 arg12 harg12 arg13 harg13 k _ _ _ X5 X8 f_arg12
    iexists _; iexact Harg13

end Cert.Proof.KernelIdeal

end
-- ==== Proof.PrologueValue.lean ====
module

public import proofs.«01_k».proof.Proof.CombineValue
public import Idealize.ShloMosaic.Lib.Writes

@[expose] public section

set_option maxRecDepth 16384

noncomputable section

namespace Cert.Proof.KernelIdeal

open Cert.KernelIdeal Cert.KernelIdeal.Gen
open Idealize.ShloMosaic

/-! # What the first grid point leaves in the table, in the squared lengths and in the lookup result -/

/-- The table out of the block of codebooks: row `r` of group `g` is the row of the group's subspace there. -/
def TAB (cb : S2x2x64x128.Idx → EReal) (y : S8x4x8x128.Idx) : EReal :=
  let g : Fin 8 := ⟨(y 0).val, (y 0).isLt⟩
  let h : Fin 4 := ⟨(y 1).val, (y 1).isLt⟩
  cb (ix4 ⟨h.val / 2, by omega⟩ ⟨h.val % 2, by omega⟩ (subOf g ⟨(y 2).val, (y 2).isLt⟩) ⟨(y 3).val, (y 3).isLt⟩)

/-- The squared lengths of the rows of `x`, the same in every lane. -/
def XX (x : S8x128.Idx → EReal) (y : S8x128.Idx) : EReal :=
  ∑ k : Fin 128, x (ix2 ⟨(y 0).val, (y 0).isLt⟩ k) * x (ix2 ⟨(y 0).val, (y 0).isLt⟩ k)

/-- The lookup result out of the transposed vectors and the block of codebooks. -/
def LUT (xt : S64x16.Idx → EReal) (cb : S2x2x64x128.Idx → EReal) (y : S8x64x256.Idx) : EReal :=
  let b : Fin 8 := ⟨(y 0).val, (y 0).isLt⟩
  let s : Fin 64 := ⟨(y 1).val, (y 1).isLt⟩
  let k : Fin 256 := ⟨(y 2).val, (y 2).isLt⟩
  (xt (ix2 s ⟨b.val, by omega⟩) - cb (ix4 0 ⟨k.val / 128, by omega⟩ s ⟨k.val % 128, by omega⟩))
      * (xt (ix2 s ⟨b.val, by omega⟩) - cb (ix4 0 ⟨k.val / 128, by omega⟩ s ⟨k.val % 128, by omega⟩))
    + (xt (ix2 s ⟨8 + b.val, by omega⟩) - cb (ix4 1 ⟨k.val / 128, by omega⟩ s ⟨k.val % 128, by omega⟩))
      * (xt (ix2 s ⟨8 + b.val, by omega⟩) - cb (ix4 1 ⟨k.val / 128, by omega⟩ s ⟨k.val % 128, by omega⟩))

/-- A stored table row at an index is the loaded row there. -/
theorem pay2_apply (v : Vec Ideal S1x1x8x128 .f32) (r : Fin 8) (l : Fin 128) :
    k0_pay2 (F := Ideal) v (ix4 0 0 r l) = v (ix4 0 0 r l) := by
  pointwise [k0_pay2]

/-- A stored table row agrees with the table. -/
theorem tab_agrees (arg4 : Memref sig .tc .vmem S2x2x64x128 .f32) (X4 : BufTy.Contents (Elt Ideal) arg4.view.ty)
    (g : Fin 8) (d h : Fin 2) (o0 o1 : Fin 4 → ℕ) (st : Fin 4 → ℕ) (inb0 inb1) (h0 : o0 = ![d.val, h.val, 32 * (g.val / 4) + g.val % 4, 0]) (hs : st = ![1, 1, 4, 1])
    (h1 : o1 = ![g.val, 2 * d.val + h.val, 0, 0]) (x : S1x1x8x128.Idx) :
    k0_pay2 (F := Ideal) (View.readAt (Elt Ideal) arg4.view (⟨o0, S1x1x8x128.size, st, inb0⟩ : LoadRect S2x2x64x128) X4) x
      = TAB (arg4.view.read (Elt Ideal) X4) ((Rect.unit (s := S8x4x8x128) o1 S1x1x8x128.size inb1).emb x) := by
  subst h0 h1 hs
  obtain ⟨r, l, rfl⟩ : ∃ (r : Fin 8) (l : Fin 128), x = ix4 0 0 r l :=
    ⟨x 2, x 3, by
      have e0 : (x 0).val < 1 := (x 0).isLt
      have e1 : (x 1).val < 1 := (x 1).isLt
      funext a; fin_cases a
      · exact Fin.ext (by show (x 0).val = 0; omega)
      · exact Fin.ext (by show (x 1).val = 0; omega)
      · rfl
      · rfl⟩
  rw [pay2_apply]
  show arg4.view.read (Elt Ideal) X4 _ = arg4.view.read (Elt Ideal) X4 _
  congr 1
  funext a
  apply Fin.ext
  fin_cases a
  · show d.val + 1 * 0 = (2 * d.val + h.val + 1 * 0) / 2; omega
  · show h.val + 1 * 0 = (2 * d.val + h.val + 1 * 0) % 2; omega
  · show 32 * (g.val / 4) + g.val % 4 + 4 * r.val = 32 * ((g.val + 1 * 0) / 4) + 4 * (0 + 1 * r.val) + (g.val + 1 * 0) % 4
    simp only [Nat.mul_zero, Nat.add_zero]; omega
  · show 0 + 1 * l.val = 0 + 1 * l.val; rfl

/-- A table row covers its rows. -/
theorem tab_covers (g : Fin 8) (h : Fin 4) (o : Fin 4 → ℕ) (inb) (ho : o = ![g.val, h.val, 0, 0]) (y : S8x4x8x128.Idx)
    (hg : (y 0).val = g.val) (hh : (y 1).val = h.val) : y ∈ (Rect.unit (s := S8x4x8x128) o S1x1x8x128.size inb).set := by
  subst ho
  rw [Rect.mem_set_unit]
  have h2 : (y 2).val < 8 := (y 2).isLt
  have h3 : (y 3).val < 128 := (y 3).isLt
  intro a
  fin_cases a
  · exact ⟨by show g.val ≤ (y 0).val; omega, by show (y 0).val < g.val + 1; omega⟩
  · exact ⟨by show h.val ≤ (y 1).val; omega, by show (y 1).val < h.val + 1; omega⟩
  · exact ⟨Nat.zero_le _, by show (y 2).val < 0 + 8; omega⟩
  · exact ⟨Nat.zero_le _, by show (y 3).val < 0 + 128; omega⟩

/-- The stored squared lengths at an index. -/
theorem pay38_apply (v : Vec Ideal S8x128 .bf16) (r : Fin 8) (l : Fin 128) :
    k0_pay38 (F := Ideal) v (ix2 r l) = ∑ k : Fin 128, v (ix2 r k) * v (ix2 r k) := by
  pointwise [k0_pay38]

/-- The stored lookup block at an index. -/
theorem pay42_apply (v0 : Vec Ideal S64x1 .f32) (c0 : Vec Ideal S1x1x64x128 .f32) (v1 : Vec Ideal S64x1 .f32) (c1 : Vec Ideal S1x1x64x128 .f32)
    (s : Fin 64) (l : Fin 128) :
    k0_pay42 (F := Ideal) v0 c0 v1 c1 (ix3 0 s l)
      = (v0 (ix2 s 0) - c0 (ix4 0 0 s l)) * (v0 (ix2 s 0) - c0 (ix4 0 0 s l))
        + (v1 (ix2 s 0) - c1 (ix4 0 0 s l)) * (v1 (ix2 s 0) - c1 (ix4 0 0 s l)) := by
  pointwise [k0_pay42]

/-- A column of the transposed vectors, loaded. -/
theorem xt_load (arg3 : Memref sig .tc .vmem S64x16 .f32) (X3 : BufTy.Contents (Elt Ideal) arg3.view.ty) (b : Fin 16) (o : Fin 2 → ℕ) (inb)
    (ho : o = ![0, b.val]) (s : Fin 64) :
    View.readAt (Elt Ideal) arg3.view (Rect.unit (s := S64x16) o S64x1.size inb).toLoadRect X3 (ix2 s 0)
      = arg3.view.read (Elt Ideal) X3 (ix2 s b) := by
  subst ho
  show arg3.view.read (Elt Ideal) X3 _ = arg3.view.read (Elt Ideal) X3 _
  congr 1
  funext a
  apply Fin.ext
  fin_cases a
  · show 0 + 1 * s.val = s.val; omega
  · show b.val + 1 * 0 = b.val; omega

/-- A plane of the codebooks, loaded. -/
theorem cb_load (arg4 : Memref sig .tc .vmem S2x2x64x128 .f32) (X4 : BufTy.Contents (Elt Ideal) arg4.view.ty) (d h : Fin 2) (o : Fin 4 → ℕ) (inb)
    (ho : o = ![d.val, h.val, 0, 0]) (s : Fin 64) (l : Fin 128) :
    View.readAt (Elt Ideal) arg4.view (Rect.unit (s := S2x2x64x128) o S1x1x64x128.size inb).toLoadRect X4 (ix4 0 0 s l)
      = arg4.view.read (Elt Ideal) X4 (ix4 d h s l) := by
  subst ho
  show arg4.view.read (Elt Ideal) X4 _ = arg4.view.read (Elt Ideal) X4 _
  congr 1
  funext a
  apply Fin.ext
  fin_cases a
  · show d.val + 1 * 0 = d.val; omega
  · show h.val + 1 * 0 = h.val; omega
  · show 0 + 1 * s.val = s.val; omega
  · show 0 + 1 * l.val = l.val; omega

/-- A stored lookup block agrees with the lookup result. -/
theorem lut_agrees (arg3 : Memref sig .tc .vmem S64x16 .f32) (X3 : BufTy.Contents (Elt Ideal) arg3.view.ty)
    (arg4 : Memref sig .tc .vmem S2x2x64x128 .f32) (X4 : BufTy.Contents (Elt Ideal) arg4.view.ty) (b : Fin 8) (h : Fin 2)
    (o0 o1 : Fin 2 → ℕ) (q0 q1 : Fin 4 → ℕ) (o : Fin 3 → ℕ) (i0 i1 j0 j1 inb)
    (e0 : o0 = ![0, b.val]) (e1 : o1 = ![0, 8 + b.val]) (f0 : q0 = ![0, h.val, 0, 0]) (f1 : q1 = ![1, h.val, 0, 0])
    (eo : o = ![b.val, 0, 128 * h.val]) (x : S1x64x128.Idx) :
    k0_pay42 (F := Ideal) (View.readAt (Elt Ideal) arg3.view (Rect.unit (s := S64x16) o0 S64x1.size i0).toLoadRect X3)
        (View.readAt (Elt Ideal) arg4.view (Rect.unit (s := S2x2x64x128) q0 S1x1x64x128.size j0).toLoadRect X4)
        (View.readAt (Elt Ideal) arg3.view (Rect.unit (s := S64x16) o1 S64x1.size i1).toLoadRect X3)
        (View.readAt (Elt Ideal) arg4.view (Rect.unit (s := S2x2x64x128) q1 S1x1x64x128.size j1).toLoadRect X4) x
      = LUT (arg3.view.read (Elt Ideal) X3) (arg4.view.read (Elt Ideal) X4) ((Rect.unit (s := S8x64x256) o S1x64x128.size inb).emb x) := by
  obtain ⟨s, l, rfl⟩ : ∃ (s : Fin 64) (l : Fin 128), x = ix3 0 s l :=
    ⟨x 1, x 2, by
      have e0 : (x 0).val < 1 := (x 0).isLt
      funext a; fin_cases a
      · exact Fin.ext (by show (x 0).val = 0; omega)
      · rfl
      · rfl⟩
  rw [pay42_apply, xt_load arg3 X3 ⟨b.val, by omega⟩ _ _ e0, xt_load arg3 X3 ⟨8 + b.val, by omega⟩ _ _ e1,
    cb_load arg4 X4 0 h _ _ f0, cb_load arg4 X4 1 h _ _ f1]
  subst eo
  have n0 : (((Rect.unit (s := S8x64x256) ![b.val, 0, 128 * h.val] S1x64x128.size inb).emb (ix3 0 s l)) 0).val = b.val := by
    show b.val + 1 * 0 = _; omega
  have n1 : (((Rect.unit (s := S8x64x256) ![b.val, 0, 128 * h.val] S1x64x128.size inb).emb (ix3 0 s l)) 1).val = s.val := by
    show 0 + 1 * s.val = _; omega
  have n2 : (((Rect.unit (s := S8x64x256) ![b.val, 0, 128 * h.val] S1x64x128.size inb).emb (ix3 0 s l)) 2).val = 128 * h.val + l.val := by
    show 128 * h.val + 1 * l.val = _; omega
  unfold LUT
  simp only [n0, n1, n2]
  have q0 : (128 * h.val + l.val) / 128 = h.val := by omega
  have q1 : (128 * h.val + l.val) % 128 = l.val := by omega
  simp only [q0, q1]

/-- A lookup block covers its half of its row. -/
theorem lut_covers (b : Fin 8) (h : Fin 2) (o : Fin 3 → ℕ) (inb) (ho : o = ![b.val, 0, 128 * h.val]) (y : S8x64x256.Idx)
    (hb : (y 0).val = b.val) (hh : (y 2).val / 128 = h.val) : y ∈ (Rect.unit (s := S8x64x256) o S1x64x128.size inb).set := by
  subst ho
  rw [Rect.mem_set_unit]
  have h1 : (y 1).val < 64 := (y 1).isLt
  intro a
  fin_cases a
  · exact ⟨by show b.val ≤ (y 0).val; omega, by show (y 0).val < b.val + 1; omega⟩
  · exact ⟨Nat.zero_le _, by show (y 1).val < 0 + 64; omega⟩
  · exact ⟨by show 128 * h.val ≤ (y 2).val; omega, by show (y 2).val < 128 * h.val + 128; omega⟩

/-! ## The stores of the first grid point -/

/-- The stores of the table, the last first. -/
def tabPieces (arg4 : Memref sig .tc .vmem S2x2x64x128 .f32) (X4 : BufTy.Contents (Elt Ideal) arg4.view.ty) :
    List (View.Piece (Elt Ideal) S8x4x8x128 .f32) :=
  [⟨Rect.unit (s := S8x4x8x128) ![7, 3, 0, 0] S1x1x8x128.size inb_S8x4x8x128_S1x1x8x128_7_3_0_0, k0_pay2 (F := Ideal) (View.readAt (Elt Ideal) arg4.view (⟨![1, 1, 35, 0], S1x1x8x128.size, ![1, 1, 4, 1], inb_S2x2x64x128_S1x1x8x128_1_1_35_0_s_1_1_4_1⟩ : LoadRect S2x2x64x128) X4)⟩,
   ⟨Rect.unit (s := S8x4x8x128) ![7, 2, 0, 0] S1x1x8x128.size inb_S8x4x8x128_S1x1x8x128_7_2_0_0, k0_pay2 (F := Ideal) (View.readAt (Elt Ideal) arg4.view (⟨![1, 0, 35, 0], S1x1x8x128.size, ![1, 1, 4, 1], inb_S2x2x64x128_S1x1x8x128_1_0_35_0_s_1_1_4_1⟩ : LoadRect S2x2x64x128) X4)⟩,
   ⟨Rect.unit (s := S8x4x8x128) ![7, 1, 0, 0] S1x1x8x128.size inb_S8x4x8x128_S1x1x8x128_7_1_0_0, k0_pay2 (F := Ideal) (View.readAt (Elt Ideal) arg4.view (⟨![0, 1, 35, 0], S1x1x8x128.size, ![1, 1, 4, 1], inb_S2x2x64x128_S1x1x8x128_0_1_35_0_s_1_1_4_1⟩ : LoadRect S2x2x64x128) X4)⟩,
   ⟨Rect.unit (s := S8x4x8x128) ![7, 0, 0, 0] S1x1x8x128.size inb_S8x4x8x128_S1x1x8x128_7_0_0_0, k0_pay2 (F := Ideal) (View.readAt (Elt Ideal) arg4.view (⟨![0, 0, 35, 0], S1x1x8x128.size, ![1, 1, 4, 1], inb_S2x2x64x128_S1x1x8x128_0_0_35_0_s_1_1_4_1⟩ : LoadRect S2x2x64x128) X4)⟩,
   ⟨Rect.unit (s := S8x4x8x128) ![6, 3, 0, 0] S1x1x8x128.size inb_S8x4x8x128_S1x1x8x128_6_3_0_0, k0_pay2 (F := Ideal) (View.readAt (Elt Ideal) arg4.view (⟨![1, 1, 34, 0], S1x1x8x128.size, ![1, 1, 4, 1], inb_S2x2x64x128_S1x1x8x128_1_1_34_0_s_1_1_4_1⟩ : LoadRect S2x2x64x128) X4)⟩,
   ⟨Rect.unit (s := S8x4x8x128) ![6, 2, 0, 0] S1x1x8x128.size inb_S8x4x8x128_S1x1x8x128_6_2_0_0, k0_pay2 (F := Ideal) (View.readAt (Elt Ideal) arg4.view (⟨![1, 0, 34, 0], S1x1x8x128.size, ![1, 1, 4, 1], inb_S2x2x64x128_S1x1x8x128_1_0_34_0_s_1_1_4_1⟩ : LoadRect S2x2x64x128) X4)⟩,
   ⟨Rect.unit (s := S8x4x8x128) ![6, 1, 0, 0] S1x1x8x128.size inb_S8x4x8x128_S1x1x8x128_6_1_0_0, k0_pay2 (F := Ideal) (View.readAt (Elt Ideal) arg4.view (⟨![0, 1, 34, 0], S1x1x8x128.size, ![1, 1, 4, 1], inb_S2x2x64x128_S1x1x8x128_0_1_34_0_s_1_1_4_1⟩ : LoadRect S2x2x64x128) X4)⟩,
   ⟨Rect.unit (s := S8x4x8x128) ![6, 0, 0, 0] S1x1x8x128.size inb_S8x4x8x128_S1x1x8x128_6_0_0_0, k0_pay2 (F := Ideal) (View.readAt (Elt Ideal) arg4.view (⟨![0, 0, 34, 0], S1x1x8x128.size, ![1, 1, 4, 1], inb_S2x2x64x128_S1x1x8x128_0_0_34_0_s_1_1_4_1⟩ : LoadRect S2x2x64x128) X4)⟩,
   ⟨Rect.unit (s := S8x4x8x128) ![5, 3, 0, 0] S1x1x8x128.size inb_S8x4x8x128_S1x1x8x128_5_3_0_0, k0_pay2 (F := Ideal) (View.readAt (Elt Ideal) arg4.view (⟨![1, 1, 33, 0], S1x1x8x128.size, ![1, 1, 4, 1], inb_S2x2x64x128_S1x1x8x128_1_1_33_0_s_1_1_4_1⟩ : LoadRect S2x2x64x128) X4)⟩,
   ⟨Rect.unit (s := S8x4x8x128) ![5, 2, 0, 0] S1x1x8x128.size inb_S8x4x8x128_S1x1x8x128_5_2_0_0, k0_pay2 (F := Ideal) (View.readAt (Elt Ideal) arg4.view (⟨![1, 0, 33, 0], S1x1x8x128.size, ![1, 1, 4, 1], inb_S2x2x64x128_S1x1x8x128_1_0_33_0_s_1_1_4_1⟩ : LoadRect S2x2x64x128) X4)⟩,
   ⟨Rect.unit (s := S8x4x8x128) ![5, 1, 0, 0] S1x1x8x128.size inb_S8x4x8x128_S1x1x8x128_5_1_0_0, k0_pay2 (F := Ideal) (View.readAt (Elt Ideal) arg4.view (⟨![0, 1, 33, 0], S1x1x8x128.size, ![1, 1, 4, 1], inb_S2x2x64x128_S1x1x8x128_0_1_33_0_s_1_1_4_1⟩ : LoadRect S2x2x64x128) X4)⟩,
   ⟨Rect.unit (s := S8x4x8x128) ![5, 0, 0, 0] S1x1x8x128.size inb_S8x4x8x128_S1x1x8x128_5_0_0_0, k0_pay2 (F := Ideal) (View.readAt (Elt Ideal) arg4.view (⟨![0, 0, 33, 0], S1x1x8x128.size, ![1, 1, 4, 1], inb_S2x2x64x128_S1x1x8x128_0_0_33_0_s_1_1_4_1⟩ : LoadRect S2x2x64x128) X4)⟩,
   ⟨Rect.unit (s := S8x4x8x128) ![4, 3, 0, 0] S1x1x8x128.size inb_S8x4x8x128_S1x1x8x128_4_3_0_0, k0_pay2 (F := Ideal) (View.readAt (Elt Ideal) arg4.view (⟨![1, 1, 32, 0], S1x1x8x128.size, ![1, 1, 4, 1], inb_S2x2x64x128_S1x1x8x128_1_1_32_0_s_1_1_4_1⟩ : LoadRect S2x2x64x128) X4)⟩,
   ⟨Rect.unit (s := S8x4x8x128) ![4, 2, 0, 0] S1x1x8x128.size inb_S8x4x8x128_S1x1x8x128_4_2_0_0, k0_pay2 (F := Ideal) (View.readAt (Elt Ideal) arg4.view (⟨![1, 0, 32, 0], S1x1x8x128.size, ![1, 1, 4, 1], inb_S2x2x64x128_S1x1x8x128_1_0_32_0_s_1_1_4_1⟩ : LoadRect S2x2x64x128) X4)⟩,
   ⟨Rect.unit (s := S8x4x8x128) ![4, 1, 0, 0] S1x1x8x128.size inb_S8x4x8x128_S1x1x8x128_4_1_0_0, k0_pay2 (F := Ideal) (View.readAt (Elt Ideal) arg4.view (⟨![0, 1, 32, 0], S1x1x8x128.size, ![1, 1, 4, 1], inb_S2x2x64x128_S1x1x8x128_0_1_32_0_s_1_1_4_1⟩ : LoadRect S2x2x64x128) X4)⟩,
   ⟨Rect.unit (s := S8x4x8x128) ![4, 0, 0, 0] S1x1x8x128.size inb_S8x4x8x128_S1x1x8x128_4_0_0_0, k0_pay2 (F := Ideal) (View.readAt (Elt Ideal) arg4.view (⟨![0, 0, 32, 0], S1x1x8x128.size, ![1, 1, 4, 1], inb_S2x2x64x128_S1x1x8x128_0_0_32_0_s_1_1_4_1⟩ : LoadRect S2x2x64x128) X4)⟩,
   ⟨Rect.unit (s := S8x4x8x128) ![3, 3, 0, 0] S1x1x8x128.size inb_S8x4x8x128_S1x1x8x128_3_3_0_0, k0_pay2 (F := Ideal) (View.readAt (Elt Ideal) arg4.view (⟨![1, 1, 3, 0], S1x1x8x128.size, ![1, 1, 4, 1], inb_S2x2x64x128_S1x1x8x128_1_1_3_0_s_1_1_4_1⟩ : LoadRect S2x2x64x128) X4)⟩,
   ⟨Rect.unit (s := S8x4x8x128) ![3, 2, 0, 0] S1x1x8x128.size inb_S8x4x8x128_S1x1x8x128_3_2_0_0, k0_pay2 (F := Ideal) (View.readAt (Elt Ideal) arg4.view (⟨![1, 0, 3, 0], S1x1x8x128.size, ![1, 1, 4, 1], inb_S2x2x64x128_S1x1x8x128_1_0_3_0_s_1_1_4_1⟩ : LoadRect S2x2x64x128) X4)⟩,
   ⟨Rect.unit (s := S8x4x8x128) ![3, 1, 0, 0] S1x1x8x128.size inb_S8x4x8x128_S1x1x8x128_3_1_0_0, k0_pay2 (F := Ideal) (View.readAt (Elt Ideal) arg4.view (⟨![0, 1, 3, 0], S1x1x8x128.size, ![1, 1, 4, 1], inb_S2x2x64x128_S1x1x8x128_0_1_3_0_s_1_1_4_1⟩ : LoadRect S2x2x64x128) X4)⟩,
   ⟨Rect.unit (s := S8x4x8x128) ![3, 0, 0, 0] S1x1x8x128.size inb_S8x4x8x128_S1x1x8x128_3_0_0_0, k0_pay2 (F := Ideal) (View.readAt (Elt Ideal) arg4.view (⟨![0, 0, 3, 0], S1x1x8x128.size, ![1, 1, 4, 1], inb_S2x2x64x128_S1x1x8x128_0_0_3_0_s_1_1_4_1⟩ : LoadRect S2x2x64x128) X4)⟩,
   ⟨Rect.unit (s := S8x4x8x128) ![2, 3, 0, 0] S1x1x8x128.size inb_S8x4x8x128_S1x1x8x128_2_3_0_0, k0_pay2 (F := Ideal) (View.readAt (Elt Ideal) arg4.view (⟨![1, 1, 2, 0], S1x1x8x128.size, ![1, 1, 4, 1], inb_S2x2x64x128_S1x1x8x128_1_1_2_0_s_1_1_4_1⟩ : LoadRect S2x2x64x128) X4)⟩,
   ⟨Rect.unit (s := S8x4x8x128) ![2, 2, 0, 0] S1x1x8x128.size inb_S8x4x8x128_S1x1x8x128_2_2_0_0, k0_pay2 (F := Ideal) (View.readAt (Elt Ideal) arg4.view (⟨![1, 0, 2, 0], S1x1x8x128.size, ![1, 1, 4, 1], inb_S2x2x64x128_S1x1x8x128_1_0_2_0_s_1_1_4_1⟩ : LoadRect S2x2x64x128) X4)⟩,
   ⟨Rect.unit (s := S8x4x8x128) ![2, 1, 0, 0] S1x1x8x128.size inb_S8x4x8x128_S1x1x8x128_2_1_0_0, k0_pay2 (F := Ideal) (View.readAt (Elt Ideal) arg4.view (⟨![0, 1, 2, 0], S1x1x8x128.size, ![1, 1, 4, 1], inb_S2x2x64x128_S1x1x8x128_0_1_2_0_s_1_1_4_1⟩ : LoadRect S2x2x64x128) X4)⟩,
   ⟨Rect.unit (s := S8x4x8x128) ![2, 0, 0, 0] S1x1x8x128.size inb_S8x4x8x128_S1x1x8x128_2_0_0_0, k0_pay2 (F := Ideal) (View.readAt (Elt Ideal) arg4.view (⟨![0, 0, 2, 0], S1x1x8x128.size, ![1, 1, 4, 1], inb_S2x2x64x128_S1x1x8x128_0_0_2_0_s_1_1_4_1⟩ : LoadRect S2x2x64x128) X4)⟩,
   ⟨Rect.unit (s := S8x4x8x128) ![1, 3, 0, 0] S1x1x8x128.size inb_S8x4x8x128_S1x1x8x128_1_3_0_0, k0_pay2 (F := Ideal) (View.readAt (Elt Ideal) arg4.view (⟨![1, 1, 1, 0], S1x1x8x128.size, ![1, 1, 4, 1], inb_S2x2x64x128_S1x1x8x128_1_1_1_0_s_1_1_4_1⟩ : LoadRect S2x2x64x128) X4)⟩,
   ⟨Rect.unit (s := S8x4x8x128) ![1, 2, 0, 0] S1x1x8x128.size inb_S8x4x8x128_S1x1x8x128_1_2_0_0, k0_pay2 (F := Ideal) (View.readAt (Elt Ideal) arg4.view (⟨![1, 0, 1, 0], S1x1x8x128.size, ![1, 1, 4, 1], inb_S2x2x64x128_S1x1x8x128_1_0_1_0_s_1_1_4_1⟩ : LoadRect S2x2x64x128) X4)⟩,
   ⟨Rect.unit (s := S8x4x8x128) ![1, 1, 0, 0] S1x1x8x128.size inb_S8x4x8x128_S1x1x8x128_1_1_0_0, k0_pay2 (F := Ideal) (View.readAt (Elt Ideal) arg4.view (⟨![0, 1, 1, 0], S1x1x8x128.size, ![1, 1, 4, 1], inb_S2x2x64x128_S1x1x8x128_0_1_1_0_s_1_1_4_1⟩ : LoadRect S2x2x64x128) X4)⟩,
   ⟨Rect.unit (s := S8x4x8x128) ![1, 0, 0, 0] S1x1x8x128.size inb_S8x4x8x128_S1x1x8x128_1_0_0_0, k0_pay2 (F := Ideal) (View.readAt (Elt Ideal) arg4.view (⟨![0, 0, 1, 0], S1x1x8x128.size, ![1, 1, 4, 1], inb_S2x2x64x128_S1x1x8x128_0_0_1_0_s_1_1_4_1⟩ : LoadRect S2x2x64x128) X4)⟩,
   ⟨Rect.unit (s := S8x4x8x128) ![0, 3, 0, 0] S1x1x8x128.size inb_S8x4x8x128_S1x1x8x128_0_3_0_0, k0_pay2 (F := Ideal) (View.readAt (Elt Ideal) arg4.view (⟨![1, 1, 0, 0], S1x1x8x128.size, ![1, 1, 4, 1], inb_S2x2x64x128_S1x1x8x128_1_1_0_0_s_1_1_4_1⟩ : LoadRect S2x2x64x128) X4)⟩,
   ⟨Rect.unit (s := S8x4x8x128) ![0, 2, 0, 0] S1x1x8x128.size inb_S8x4x8x128_S1x1x8x128_0_2_0_0, k0_pay2 (F := Ideal) (View.readAt (Elt Ideal) arg4.view (⟨![1, 0, 0, 0], S1x1x8x128.size, ![1, 1, 4, 1], inb_S2x2x64x128_S1x1x8x128_1_0_0_0_s_1_1_4_1⟩ : LoadRect S2x2x64x128) X4)⟩,
   ⟨Rect.unit (s := S8x4x8x128) ![0, 1, 0, 0] S1x1x8x128.size inb_S8x4x8x128_S1x1x8x128_0_1_0_0, k0_pay2 (F := Ideal) (View.readAt (Elt Ideal) arg4.view (⟨![0, 1, 0, 0], S1x1x8x128.size, ![1, 1, 4, 1], inb_S2x2x64x128_S1x1x8x128_0_1_0_0_s_1_1_4_1⟩ : LoadRect S2x2x64x128) X4)⟩,
   ⟨Rect.unit (s := S8x4x8x128) ![0, 0, 0, 0] S1x1x8x128.size inb_S8x4x8x128_S1x1x8x128_0_0_0_0, k0_pay2 (F := Ideal) (View.readAt (Elt Ideal) arg4.view (⟨![0, 0, 0, 0], S1x1x8x128.size, ![1, 1, 4, 1], inb_S2x2x64x128_S1x1x8x128_0_0_0_0_s_1_1_4_1⟩ : LoadRect S2x2x64x128) X4)⟩]

/-- The stores of the table leave the table. -/
theorem tab_read (arg4 : Memref sig .tc .vmem S2x2x64x128 .f32) (X4 : BufTy.Contents (Elt Ideal) arg4.view.ty)
    (arg8 : Memref sig .tc .vmem S8x4x8x128 .f32) (f : BufTy.Contents (Elt Ideal) arg8.view.ty) :
    arg8.view.read (Elt Ideal) (arg8.view.writes (Elt Ideal) f (tabPieces arg4 X4)) = TAB (arg4.view.read (Elt Ideal) X4) := by
  funext y
  refine View.read_writes_apply_of_pieces arg8.view f (TAB (arg4.view.read (Elt Ideal) X4)) (tabPieces arg4 X4) ?_ y ?_
  · unfold tabPieces
    simp only [List.forall_mem_cons]
    exact ⟨tab_agrees arg4 X4 7 1 1 _ _ _ _ _ rfl rfl rfl,
      tab_agrees arg4 X4 7 1 0 _ _ _ _ _ rfl rfl rfl,
      tab_agrees arg4 X4 7 0 1 _ _ _ _ _ rfl rfl rfl,
      tab_agrees arg4 X4 7 0 0 _ _ _ _ _ rfl rfl rfl,
      tab_agrees arg4 X4 6 1 1 _ _ _ _ _ rfl rfl rfl,
      tab_agrees arg4 X4 6 1 0 _ _ _ _ _ rfl rfl rfl,
      tab_agrees arg4 X4 6 0 1 _ _ _ _ _ rfl rfl rfl,
      tab_agrees arg4 X4 6 0 0 _ _ _ _ _ rfl rfl rfl,
      tab_agrees arg4 X4 5 1 1 _ _ _ _ _ rfl rfl rfl,
      tab_agrees arg4 X4 5 1 0 _ _ _ _ _ rfl rfl rfl,
      tab_agrees arg4 X4 5 0 1 _ _ _ _ _ rfl rfl rfl,
      tab_agrees arg4 X4 5 0 0 _ _ _ _ _ rfl rfl rfl,
      tab_agrees arg4 X4 4 1 1 _ _ _ _ _ rfl rfl rfl,
      tab_agrees arg4 X4 4 1 0 _ _ _ _ _ rfl rfl rfl,
      tab_agrees arg4 X4 4 0 1 _ _ _ _ _ rfl rfl rfl,
      tab_agrees arg4 X4 4 0 0 _ _ _ _ _ rfl rfl rfl,
      tab_agrees arg4 X4 3 1 1 _ _ _ _ _ rfl rfl rfl,
      tab_agrees arg4 X4 3 1 0 _ _ _ _ _ rfl rfl rfl,
      tab_agrees arg4 X4 3 0 1 _ _ _ _ _ rfl rfl rfl,
      tab_agrees arg4 X4 3 0 0 _ _ _ _ _ rfl rfl rfl,
      tab_agrees arg4 X4 2 1 1 _ _ _ _ _ rfl rfl rfl,
      tab_agrees arg4 X4 2 1 0 _ _ _ _ _ rfl rfl rfl,
      tab_agrees arg4 X4 2 0 1 _ _ _ _ _ rfl rfl rfl,
      tab_agrees arg4 X4 2 0 0 _ _ _ _ _ rfl rfl rfl,
      tab_agrees arg4 X4 1 1 1 _ _ _ _ _ rfl rfl rfl,
      tab_agrees arg4 X4 1 1 0 _ _ _ _ _ rfl rfl rfl,
      tab_agrees arg4 X4 1 0 1 _ _ _ _ _ rfl rfl rfl,
      tab_agrees arg4 X4 1 0 0 _ _ _ _ _ rfl rfl rfl,
      tab_agrees arg4 X4 0 1 1 _ _ _ _ _ rfl rfl rfl,
      tab_agrees arg4 X4 0 1 0 _ _ _ _ _ rfl rfl rfl,
      tab_agrees arg4 X4 0 0 1 _ _ _ _ _ rfl rfl rfl,
      tab_agrees arg4 X4 0 0 0 _ _ _ _ _ rfl rfl rfl, fun p hp => absurd hp List.not_mem_nil⟩
  · have h0 : (y 0).val < 8 := (y 0).isLt
    have h1 : (y 1).val < 4 := (y 1).isLt
    have hm : (y 0).val * 4 + (y 1).val < 32 := by omega
    have hL : (tabPieces arg4 X4).length = 32 := rfl
    refine ⟨_, mem_at (tabPieces arg4 X4) (31 - ((y 0).val * 4 + (y 1).val)) (by omega), ?_⟩
    obtain ⟨g, hg⟩ : ∃ g : Fin 8, (y 0).val = g.val := ⟨⟨_, h0⟩, rfl⟩
    obtain ⟨h, hh⟩ : ∃ h : Fin 4, (y 1).val = h.val := ⟨⟨_, h1⟩, rfl⟩
    simp only [hg, hh]
    fin_cases g <;> fin_cases h
    · exact tab_covers 0 0 _ inb_S8x4x8x128_S1x1x8x128_0_0_0_0 rfl y hg hh
    · exact tab_covers 0 1 _ inb_S8x4x8x128_S1x1x8x128_0_1_0_0 rfl y hg hh
    · exact tab_covers 0 2 _ inb_S8x4x8x128_S1x1x8x128_0_2_0_0 rfl y hg hh
    · exact tab_covers 0 3 _ inb_S8x4x8x128_S1x1x8x128_0_3_0_0 rfl y hg hh
    · exact tab_covers 1 0 _ inb_S8x4x8x128_S1x1x8x128_1_0_0_0 rfl y hg hh
    · exact tab_covers 1 1 _ inb_S8x4x8x128_S1x1x8x128_1_1_0_0 rfl y hg hh
    · exact tab_covers 1 2 _ inb_S8x4x8x128_S1x1x8x128_1_2_0_0 rfl y hg hh
    · exact tab_covers 1 3 _ inb_S8x4x8x128_S1x1x8x128_1_3_0_0 rfl y hg hh
    · exact tab_covers 2 0 _ inb_S8x4x8x128_S1x1x8x128_2_0_0_0 rfl y hg hh
    · exact tab_covers 2 1 _ inb_S8x4x8x128_S1x1x8x128_2_1_0_0 rfl y hg hh
    · exact tab_covers 2 2 _ inb_S8x4x8x128_S1x1x8x128_2_2_0_0 rfl y hg hh
    · exact tab_covers 2 3 _ inb_S8x4x8x128_S1x1x8x128_2_3_0_0 rfl y hg hh
    · exact tab_covers 3 0 _ inb_S8x4x8x128_S1x1x8x128_3_0_0_0 rfl y hg hh
    · exact tab_covers 3 1 _ inb_S8x4x8x128_S1x1x8x128_3_1_0_0 rfl y hg hh
    · exact tab_covers 3 2 _ inb_S8x4x8x128_S1x1x8x128_3_2_0_0 rfl y hg hh
    · exact tab_covers 3 3 _ inb_S8x4x8x128_S1x1x8x128_3_3_0_0 rfl y hg hh
    · exact tab_covers 4 0 _ inb_S8x4x8x128_S1x1x8x128_4_0_0_0 rfl y hg hh
    · exact tab_covers 4 1 _ inb_S8x4x8x128_S1x1x8x128_4_1_0_0 rfl y hg hh
    · exact tab_covers 4 2 _ inb_S8x4x8x128_S1x1x8x128_4_2_0_0 rfl y hg hh
    · exact tab_covers 4 3 _ inb_S8x4x8x128_S1x1x8x128_4_3_0_0 rfl y hg hh
    · exact tab_covers 5 0 _ inb_S8x4x8x128_S1x1x8x128_5_0_0_0 rfl y hg hh
    · exact tab_covers 5 1 _ inb_S8x4x8x128_S1x1x8x128_5_1_0_0 rfl y hg hh
    · exact tab_covers 5 2 _ inb_S8x4x8x128_S1x1x8x128_5_2_0_0 rfl y hg hh
    · exact tab_covers 5 3 _ inb_S8x4x8x128_S1x1x8x128_5_3_0_0 rfl y hg hh
    · exact tab_covers 6 0 _ inb_S8x4x8x128_S1x1x8x128_6_0_0_0 rfl y hg hh
    · exact tab_covers 6 1 _ inb_S8x4x8x128_S1x1x8x128_6_1_0_0 rfl y hg hh
    · exact tab_covers 6 2 _ inb_S8x4x8x128_S1x1x8x128_6_2_0_0 rfl y hg hh
    · exact tab_covers 6 3 _ inb_S8x4x8x128_S1x1x8x128_6_3_0_0 rfl y hg hh
    · exact tab_covers 7 0 _ inb_S8x4x8x128_S1x1x8x128_7_0_0_0 rfl y hg hh
    · exact tab_covers 7 1 _ inb_S8x4x8x128_S1x1x8x128_7_1_0_0 rfl y hg hh
    · exact tab_covers 7 2 _ inb_S8x4x8x128_S1x1x8x128_7_2_0_0 rfl y hg hh
    · exact tab_covers 7 3 _ inb_S8x4x8x128_S1x1x8x128_7_3_0_0 rfl y hg hh

/-- The stores of the lookup result, the last first. -/
def lutPieces (arg3 : Memref sig .tc .vmem S64x16 .f32) (X3 : BufTy.Contents (Elt Ideal) arg3.view.ty)
    (arg4 : Memref sig .tc .vmem S2x2x64x128 .f32) (X4 : BufTy.Contents (Elt Ideal) arg4.view.ty) :
    List (View.Piece (Elt Ideal) S8x64x256 .f32) :=
  [⟨Rect.unit (s := S8x64x256) ![7, 0, 128] S1x64x128.size inb_S8x64x256_S1x64x128_7_0_128, k0_pay42 (F := Ideal) (View.readAt (Elt Ideal) arg3.view (Rect.unit (s := S64x16) ![0, 7] S64x1.size inb_S64x16_S64x1_0_7).toLoadRect X3) (View.readAt (Elt Ideal) arg4.view (Rect.unit (s := S2x2x64x128) ![0, 1, 0, 0] S1x1x64x128.size inb_S2x2x64x128_S1x1x64x128_0_1_0_0).toLoadRect X4) (View.readAt (Elt Ideal) arg3.view (Rect.unit (s := S64x16) ![0, 15] S64x1.size inb_S64x16_S64x1_0_15).toLoadRect X3) (View.readAt (Elt Ideal) arg4.view (Rect.unit (s := S2x2x64x128) ![1, 1, 0, 0] S1x1x64x128.size inb_S2x2x64x128_S1x1x64x128_1_1_0_0).toLoadRect X4)⟩,
   ⟨Rect.unit (s := S8x64x256) ![7, 0, 0] S1x64x128.size inb_S8x64x256_S1x64x128_7_0_0, k0_pay42 (F := Ideal) (View.readAt (Elt Ideal) arg3.view (Rect.unit (s := S64x16) ![0, 7] S64x1.size inb_S64x16_S64x1_0_7).toLoadRect X3) (View.readAt (Elt Ideal) arg4.view (Rect.unit (s := S2x2x64x128) ![0, 0, 0, 0] S1x1x64x128.size inb_S2x2x64x128_S1x1x64x128_0_0_0_0).toLoadRect X4) (View.readAt (Elt Ideal) arg3.view (Rect.unit (s := S64x16) ![0, 15] S64x1.size inb_S64x16_S64x1_0_15).toLoadRect X3) (View.readAt (Elt Ideal) arg4.view (Rect.unit (s := S2x2x64x128) ![1, 0, 0, 0] S1x1x64x128.size inb_S2x2x64x128_S1x1x64x128_1_0_0_0).toLoadRect X4)⟩,
   ⟨Rect.unit (s := S8x64x256) ![6, 0, 128] S1x64x128.size inb_S8x64x256_S1x64x128_6_0_128, k0_pay42 (F := Ideal) (View.readAt (Elt Ideal) arg3.view (Rect.unit (s := S64x16) ![0, 6] S64x1.size inb_S64x16_S64x1_0_6).toLoadRect X3) (View.readAt (Elt Ideal) arg4.view (Rect.unit (s := S2x2x64x128) ![0, 1, 0, 0] S1x1x64x128.size inb_S2x2x64x128_S1x1x64x128_0_1_0_0).toLoadRect X4) (View.readAt (Elt Ideal) arg3.view (Rect.unit (s := S64x16) ![0, 14] S64x1.size inb_S64x16_S64x1_0_14).toLoadRect X3) (View.readAt (Elt Ideal) arg4.view (Rect.unit (s := S2x2x64x128) ![1, 1, 0, 0] S1x1x64x128.size inb_S2x2x64x128_S1x1x64x128_1_1_0_0).toLoadRect X4)⟩,
   ⟨Rect.unit (s := S8x64x256) ![6, 0, 0] S1x64x128.size inb_S8x64x256_S1x64x128_6_0_0, k0_pay42 (F := Ideal) (View.readAt (Elt Ideal) arg3.view (Rect.unit (s := S64x16) ![0, 6] S64x1.size inb_S64x16_S64x1_0_6).toLoadRect X3) (View.readAt (Elt Ideal) arg4.view (Rect.unit (s := S2x2x64x128) ![0, 0, 0, 0] S1x1x64x128.size inb_S2x2x64x128_S1x1x64x128_0_0_0_0).toLoadRect X4) (View.readAt (Elt Ideal) arg3.view (Rect.unit (s := S64x16) ![0, 14] S64x1.size inb_S64x16_S64x1_0_14).toLoadRect X3) (View.readAt (Elt Ideal) arg4.view (Rect.unit (s := S2x2x64x128) ![1, 0, 0, 0] S1x1x64x128.size inb_S2x2x64x128_S1x1x64x128_1_0_0_0).toLoadRect X4)⟩,
   ⟨Rect.unit (s := S8x64x256) ![5, 0, 128] S1x64x128.size inb_S8x64x256_S1x64x128_5_0_128, k0_pay42 (F := Ideal) (View.readAt (Elt Ideal) arg3.view (Rect.unit (s := S64x16) ![0, 5] S64x1.size inb_S64x16_S64x1_0_5).toLoadRect X3) (View.readAt (Elt Ideal) arg4.view (Rect.unit (s := S2x2x64x128) ![0, 1, 0, 0] S1x1x64x128.size inb_S2x2x64x128_S1x1x64x128_0_1_0_0).toLoadRect X4) (View.readAt (Elt Ideal) arg3.view (Rect.unit (s := S64x16) ![0, 13] S64x1.size inb_S64x16_S64x1_0_13).toLoadRect X3) (View.readAt (Elt Ideal) arg4.view (Rect.unit (s := S2x2x64x128) ![1, 1, 0, 0] S1x1x64x128.size inb_S2x2x64x128_S1x1x64x128_1_1_0_0).toLoadRect X4)⟩,
   ⟨Rect.unit (s := S8x64x256) ![5, 0, 0] S1x64x128.size inb_S8x64x256_S1x64x128_5_0_0, k0_pay42 (F := Ideal) (View.readAt (Elt Ideal) arg3.view (Rect.unit (s := S64x16) ![0, 5] S64x1.size inb_S64x16_S64x1_0_5).toLoadRect X3) (View.readAt (Elt Ideal) arg4.view (Rect.unit (s := S2x2x64x128) ![0, 0, 0, 0] S1x1x64x128.size inb_S2x2x64x128_S1x1x64x128_0_0_0_0).toLoadRect X4) (View.readAt (Elt Ideal) arg3.view (Rect.unit (s := S64x16) ![0, 13] S64x1.size inb_S64x16_S64x1_0_13).toLoadRect X3) (View.readAt (Elt Ideal) arg4.view (Rect.unit (s := S2x2x64x128) ![1, 0, 0, 0] S1x1x64x128.size inb_S2x2x64x128_S1x1x64x128_1_0_0_0).toLoadRect X4)⟩,
   ⟨Rect.unit (s := S8x64x256) ![4, 0, 128] S1x64x128.size inb_S8x64x256_S1x64x128_4_0_128, k0_pay42 (F := Ideal) (View.readAt (Elt Ideal) arg3.view (Rect.unit (s := S64x16) ![0, 4] S64x1.size inb_S64x16_S64x1_0_4).toLoadRect X3) (View.readAt (Elt Ideal) arg4.view (Rect.unit (s := S2x2x64x128) ![0, 1, 0, 0] S1x1x64x128.size inb_S2x2x64x128_S1x1x64x128_0_1_0_0).toLoadRect X4) (View.readAt (Elt Ideal) arg3.view (Rect.unit (s := S64x16) ![0, 12] S64x1.size inb_S64x16_S64x1_0_12).toLoadRect X3) (View.readAt (Elt Ideal) arg4.view (Rect.unit (s := S2x2x64x128) ![1, 1, 0, 0] S1x1x64x128.size inb_S2x2x64x128_S1x1x64x128_1_1_0_0).toLoadRect X4)⟩,
   ⟨Rect.unit (s := S8x64x256) ![4, 0, 0] S1x64x128.size inb_S8x64x256_S1x64x128_4_0_0, k0_pay42 (F := Ideal) (View.readAt (Elt Ideal) arg3.view (Rect.unit (s := S64x16) ![0, 4] S64x1.size inb_S64x16_S64x1_0_4).toLoadRect X3) (View.readAt (Elt Ideal) arg4.view (Rect.unit (s := S2x2x64x128) ![0, 0, 0, 0] S1x1x64x128.size inb_S2x2x64x128_S1x1x64x128_0_0_0_0).toLoadRect X4) (View.readAt (Elt Ideal) arg3.view (Rect.unit (s := S64x16) ![0, 12] S64x1.size inb_S64x16_S64x1_0_12).toLoadRect X3) (View.readAt (Elt Ideal) arg4.view (Rect.unit (s := S2x2x64x128) ![1, 0, 0, 0] S1x1x64x128.size inb_S2x2x64x128_S1x1x64x128_1_0_0_0).toLoadRect X4)⟩,
   ⟨Rect.unit (s := S8x64x256) ![3, 0, 128] S1x64x128.size inb_S8x64x256_S1x64x128_3_0_128, k0_pay42 (F := Ideal) (View.readAt (Elt Ideal) arg3.view (Rect.unit (s := S64x16) ![0, 3] S64x1.size inb_S64x16_S64x1_0_3).toLoadRect X3) (View.readAt (Elt Ideal) arg4.view (Rect.unit (s := S2x2x64x128) ![0, 1, 0, 0] S1x1x64x128.size inb_S2x2x64x128_S1x1x64x128_0_1_0_0).toLoadRect X4) (View.readAt (Elt Ideal) arg3.view (Rect.unit (s := S64x16) ![0, 11] S64x1.size inb_S64x16_S64x1_0_11).toLoadRect X3) (View.readAt (Elt Ideal) arg4.view (Rect.unit (s := S2x2x64x128) ![1, 1, 0, 0] S1x1x64x128.size inb_S2x2x64x128_S1x1x64x128_1_1_0_0).toLoadRect X4)⟩,
   ⟨Rect.unit (s := S8x64x256) ![3, 0, 0] S1x64x128.size inb_S8x64x256_S1x64x128_3_0_0, k0_pay42 (F := Ideal) (View.readAt (Elt Ideal) arg3.view (Rect.unit (s := S64x16) ![0, 3] S64x1.size inb_S64x16_S64x1_0_3).toLoadRect X3) (View.readAt (Elt Ideal) arg4.view (Rect.unit (s := S2x2x64x128) ![0, 0, 0, 0] S1x1x64x128.size inb_S2x2x64x128_S1x1x64x128_0_0_0_0).toLoadRect X4) (View.readAt (Elt Ideal) arg3.view (Rect.unit (s := S64x16) ![0, 11] S64x1.size inb_S64x16_S64x1_0_11).toLoadRect X3) (View.readAt (Elt Ideal) arg4.view (Rect.unit (s := S2x2x64x128) ![1, 0, 0, 0] S1x1x64x128.size inb_S2x2x64x128_S1x1x64x128_1_0_0_0).toLoadRect X4)⟩,
   ⟨Rect.unit (s := S8x64x256) ![2, 0, 128] S1x64x128.size inb_S8x64x256_S1x64x128_2_0_128, k0_pay42 (F := Ideal) (View.readAt (Elt Ideal) arg3.view (Rect.unit (s := S64x16) ![0, 2] S64x1.size inb_S64x16_S64x1_0_2).toLoadRect X3) (View.readAt (Elt Ideal) arg4.view (Rect.unit (s := S2x2x64x128) ![0, 1, 0, 0] S1x1x64x128.size inb_S2x2x64x128_S1x1x64x128_0_1_0_0).toLoadRect X4) (View.readAt (Elt Ideal) arg3.view (Rect.unit (s := S64x16) ![0, 10] S64x1.size inb_S64x16_S64x1_0_10).toLoadRect X3) (View.readAt (Elt Ideal) arg4.view (Rect.unit (s := S2x2x64x128) ![1, 1, 0, 0] S1x1x64x128.size inb_S2x2x64x128_S1x1x64x128_1_1_0_0).toLoadRect X4)⟩,
   ⟨Rect.unit (s := S8x64x256) ![2, 0, 0] S1x64x128.size inb_S8x64x256_S1x64x128_2_0_0, k0_pay42 (F := Ideal) (View.readAt (Elt Ideal) arg3.view (Rect.unit (s := S64x16) ![0, 2] S64x1.size inb_S64x16_S64x1_0_2).toLoadRect X3) (View.readAt (Elt Ideal) arg4.view (Rect.unit (s := S2x2x64x128) ![0, 0, 0, 0] S1x1x64x128.size inb_S2x2x64x128_S1x1x64x128_0_0_0_0).toLoadRect X4) (View.readAt (Elt Ideal) arg3.view (Rect.unit (s := S64x16) ![0, 10] S64x1.size inb_S64x16_S64x1_0_10).toLoadRect X3) (View.readAt (Elt Ideal) arg4.view (Rect.unit (s := S2x2x64x128) ![1, 0, 0, 0] S1x1x64x128.size inb_S2x2x64x128_S1x1x64x128_1_0_0_0).toLoadRect X4)⟩,
   ⟨Rect.unit (s := S8x64x256) ![1, 0, 128] S1x64x128.size inb_S8x64x256_S1x64x128_1_0_128, k0_pay42 (F := Ideal) (View.readAt (Elt Ideal) arg3.view (Rect.unit (s := S64x16) ![0, 1] S64x1.size inb_S64x16_S64x1_0_1).toLoadRect X3) (View.readAt (Elt Ideal) arg4.view (Rect.unit (s := S2x2x64x128) ![0, 1, 0, 0] S1x1x64x128.size inb_S2x2x64x128_S1x1x64x128_0_1_0_0).toLoadRect X4) (View.readAt (Elt Ideal) arg3.view (Rect.unit (s := S64x16) ![0, 9] S64x1.size inb_S64x16_S64x1_0_9).toLoadRect X3) (View.readAt (Elt Ideal) arg4.view (Rect.unit (s := S2x2x64x128) ![1, 1, 0, 0] S1x1x64x128.size inb_S2x2x64x128_S1x1x64x128_1_1_0_0).toLoadRect X4)⟩,
   ⟨Rect.unit (s := S8x64x256) ![1, 0, 0] S1x64x128.size inb_S8x64x256_S1x64x128_1_0_0, k0_pay42 (F := Ideal) (View.readAt (Elt Ideal) arg3.view (Rect.unit (s := S64x16) ![0, 1] S64x1.size inb_S64x16_S64x1_0_1).toLoadRect X3) (View.readAt (Elt Ideal) arg4.view (Rect.unit (s := S2x2x64x128) ![0, 0, 0, 0] S1x1x64x128.size inb_S2x2x64x128_S1x1x64x128_0_0_0_0).toLoadRect X4) (View.readAt (Elt Ideal) arg3.view (Rect.unit (s := S64x16) ![0, 9] S64x1.size inb_S64x16_S64x1_0_9).toLoadRect X3) (View.readAt (Elt Ideal) arg4.view (Rect.unit (s := S2x2x64x128) ![1, 0, 0, 0] S1x1x64x128.size inb_S2x2x64x128_S1x1x64x128_1_0_0_0).toLoadRect X4)⟩,
   ⟨Rect.unit (s := S8x64x256) ![0, 0, 128] S1x64x128.size inb_S8x64x256_S1x64x128_0_0_128, k0_pay42 (F := Ideal) (View.readAt (Elt Ideal) arg3.view (Rect.unit (s := S64x16) ![0, 0] S64x1.size inb_S64x16_S64x1_0_0).toLoadRect X3) (View.readAt (Elt Ideal) arg4.view (Rect.unit (s := S2x2x64x128) ![0, 1, 0, 0] S1x1x64x128.size inb_S2x2x64x128_S1x1x64x128_0_1_0_0).toLoadRect X4) (View.readAt (Elt Ideal) arg3.view (Rect.unit (s := S64x16) ![0, 8] S64x1.size inb_S64x16_S64x1_0_8).toLoadRect X3) (View.readAt (Elt Ideal) arg4.view (Rect.unit (s := S2x2x64x128) ![1, 1, 0, 0] S1x1x64x128.size inb_S2x2x64x128_S1x1x64x128_1_1_0_0).toLoadRect X4)⟩,
   ⟨Rect.unit (s := S8x64x256) ![0, 0, 0] S1x64x128.size inb_S8x64x256_S1x64x128_0_0_0, k0_pay42 (F := Ideal) (View.readAt (Elt Ideal) arg3.view (Rect.unit (s := S64x16) ![0, 0] S64x1.size inb_S64x16_S64x1_0_0).toLoadRect X3) (View.readAt (Elt Ideal) arg4.view (Rect.unit (s := S2x2x64x128) ![0, 0, 0, 0] S1x1x64x128.size inb_S2x2x64x128_S1x1x64x128_0_0_0_0).toLoadRect X4) (View.readAt (Elt Ideal) arg3.view (Rect.unit (s := S64x16) ![0, 8] S64x1.size inb_S64x16_S64x1_0_8).toLoadRect X3) (View.readAt (Elt Ideal) arg4.view (Rect.unit (s := S2x2x64x128) ![1, 0, 0, 0] S1x1x64x128.size inb_S2x2x64x128_S1x1x64x128_1_0_0_0).toLoadRect X4)⟩]

/-- The stores of the lookup result leave the lookup result. -/
theorem lut_read (arg3 : Memref sig .tc .vmem S64x16 .f32) (X3 : BufTy.Contents (Elt Ideal) arg3.view.ty)
    (arg4 : Memref sig .tc .vmem S2x2x64x128 .f32) (X4 : BufTy.Contents (Elt Ideal) arg4.view.ty)
    (arg7 : Memref sig .tc .vmem S8x64x256 .f32) (f : BufTy.Contents (Elt Ideal) arg7.view.ty) :
    arg7.view.read (Elt Ideal) (arg7.view.writes (Elt Ideal) f (lutPieces arg3 X3 arg4 X4))
      = LUT (arg3.view.read (Elt Ideal) X3) (arg4.view.read (Elt Ideal) X4) := by
  funext y
  refine View.read_writes_apply_of_pieces arg7.view f (LUT (arg3.view.read (Elt Ideal) X3) (arg4.view.read (Elt Ideal) X4)) (lutPieces arg3 X3 arg4 X4) ?_ y ?_
  · unfold lutPieces
    simp only [List.forall_mem_cons]
    exact ⟨lut_agrees arg3 X3 arg4 X4 7 1 _ _ _ _ _ _ _ _ _ _ rfl rfl rfl rfl rfl,
      lut_agrees arg3 X3 arg4 X4 7 0 _ _ _ _ _ _ _ _ _ _ rfl rfl rfl rfl rfl,
      lut_agrees arg3 X3 arg4 X4 6 1 _ _ _ _ _ _ _ _ _ _ rfl rfl rfl rfl rfl,
      lut_agrees arg3 X3 arg4 X4 6 0 _ _ _ _ _ _ _ _ _ _ rfl rfl rfl rfl rfl,
      lut_agrees arg3 X3 arg4 X4 5 1 _ _ _ _ _ _ _ _ _ _ rfl rfl rfl rfl rfl,
      lut_agrees arg3 X3 arg4 X4 5 0 _ _ _ _ _ _ _ _ _ _ rfl rfl rfl rfl rfl,
      lut_agrees arg3 X3 arg4 X4 4 1 _ _ _ _ _ _ _ _ _ _ rfl rfl rfl rfl rfl,
      lut_agrees arg3 X3 arg4 X4 4 0 _ _ _ _ _ _ _ _ _ _ rfl rfl rfl rfl rfl,
      lut_agrees arg3 X3 arg4 X4 3 1 _ _ _ _ _ _ _ _ _ _ rfl rfl rfl rfl rfl,
      lut_agrees arg3 X3 arg4 X4 3 0 _ _ _ _ _ _ _ _ _ _ rfl rfl rfl rfl rfl,
      lut_agrees arg3 X3 arg4 X4 2 1 _ _ _ _ _ _ _ _ _ _ rfl rfl rfl rfl rfl,
      lut_agrees arg3 X3 arg4 X4 2 0 _ _ _ _ _ _ _ _ _ _ rfl rfl rfl rfl rfl,
      lut_agrees arg3 X3 arg4 X4 1 1 _ _ _ _ _ _ _ _ _ _ rfl rfl rfl rfl rfl,
      lut_agrees arg3 X3 arg4 X4 1 0 _ _ _ _ _ _ _ _ _ _ rfl rfl rfl rfl rfl,
      lut_agrees arg3 X3 arg4 X4 0 1 _ _ _ _ _ _ _ _ _ _ rfl rfl rfl rfl rfl,
      lut_agrees arg3 X3 arg4 X4 0 0 _ _ _ _ _ _ _ _ _ _ rfl rfl rfl rfl rfl, fun p hp => absurd hp List.not_mem_nil⟩
  · have h0 : (y 0).val < 8 := (y 0).isLt
    have h2 : (y 2).val < 256 := (y 2).isLt
    have hL : (lutPieces arg3 X3 arg4 X4).length = 16 := rfl
    refine ⟨_, mem_at (lutPieces arg3 X3 arg4 X4) (15 - ((y 0).val * 2 + (y 2).val / 128)) (by omega), ?_⟩
    obtain ⟨b, hb⟩ : ∃ b : Fin 8, (y 0).val = b.val := ⟨⟨_, h0⟩, rfl⟩
    obtain ⟨h, hh⟩ : ∃ h : Fin 2, (y 2).val / 128 = h.val := ⟨⟨_, by omega⟩, rfl⟩
    simp only [hb, hh]
    fin_cases b <;> fin_cases h
    · exact lut_covers 0 0 _ inb_S8x64x256_S1x64x128_0_0_0 rfl y hb hh
    · exact lut_covers 0 1 _ inb_S8x64x256_S1x64x128_0_0_128 rfl y hb hh
    · exact lut_covers 1 0 _ inb_S8x64x256_S1x64x128_1_0_0 rfl y hb hh
    · exact lut_covers 1 1 _ inb_S8x64x256_S1x64x128_1_0_128 rfl y hb hh
    · exact lut_covers 2 0 _ inb_S8x64x256_S1x64x128_2_0_0 rfl y hb hh
    · exact lut_covers 2 1 _ inb_S8x64x256_S1x64x128_2_0_128 rfl y hb hh
    · exact lut_covers 3 0 _ inb_S8x64x256_S1x64x128_3_0_0 rfl y hb hh
    · exact lut_covers 3 1 _ inb_S8x64x256_S1x64x128_3_0_128 rfl y hb hh
    · exact lut_covers 4 0 _ inb_S8x64x256_S1x64x128_4_0_0 rfl y hb hh
    · exact lut_covers 4 1 _ inb_S8x64x256_S1x64x128_4_0_128 rfl y hb hh
    · exact lut_covers 5 0 _ inb_S8x64x256_S1x64x128_5_0_0 rfl y hb hh
    · exact lut_covers 5 1 _ inb_S8x64x256_S1x64x128_5_0_128 rfl y hb hh
    · exact lut_covers 6 0 _ inb_S8x64x256_S1x64x128_6_0_0 rfl y hb hh
    · exact lut_covers 6 1 _ inb_S8x64x256_S1x64x128_6_0_128 rfl y hb hh
    · exact lut_covers 7 0 _ inb_S8x64x256_S1x64x128_7_0_0 rfl y hb hh
    · exact lut_covers 7 1 _ inb_S8x64x256_S1x64x128_7_0_128 rfl y hb hh

/-- The store of the squared lengths leaves the squared lengths. -/
theorem xx_read (arg1 : Memref sig .tc .vmem S8x128 .bf16) (X1 : BufTy.Contents (Elt Ideal) arg1.view.ty)
    (arg9 : Memref sig .tc .vmem S8x128 .f32) (f : BufTy.Contents (Elt Ideal) arg9.view.ty) :
    arg9.view.read (Elt Ideal) (arg9.view.writes (Elt Ideal) f [⟨Rect.unit (s := S8x128) ![0, 0] S8x128.size inb_S8x128_S8x128_0_0,
      k0_pay38 (F := Ideal) (View.readAt (Elt Ideal) arg1.view (Rect.unit (s := S8x128) ![0, 0] S8x128.size inb_S8x128_S8x128_0_0).toLoadRect X1)⟩])
      = XX (arg1.view.read (Elt Ideal) X1) := by
  rw [View.read_writes_full, View.readAt_full]
  funext y
  obtain ⟨b, l, rfl⟩ : ∃ (b : Fin 8) (l : Fin 128), y = ix2 b l := ⟨y 0, y 1, by funext a; fin_cases a <;> rfl⟩
  rw [pay38_apply]
  rfl

end Cert.Proof.KernelIdeal

end
-- ==== Proof.BodyValue.lean ====
module

public import proofs.«01_k».proof.Proof.PairValue
public import proofs.«01_k».proof.Proof.PrologueValue
public import Idealize.ShloMosaic.Lib.Pipeline.Frame
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- After the pair loop the two last combines leave the distances of the whole block. -/
theorem tail_dist (c : Dev nD) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (X2 : BufTy.Contents (Elt Ideal) arg2.view.ty) (X5 : BufTy.Contents (Elt Ideal) arg5.view.ty) (X8 : BufTy.Contents (Elt Ideal) arg8.view.ty) (X9 : BufTy.Contents (Elt Ideal) arg9.view.ty)
    (G10 f10 : BufTy.Contents (Elt Ideal) arg10.view.ty) (G11 : BufTy.Contents (Elt Ideal) arg11.view.ty) (G12 f12 : BufTy.Contents (Elt Ideal) arg12.view.ty) (G13 : BufTy.Contents (Elt Ideal) arg13.view.ty) (f6 : BufTy.Contents (Elt Ideal) arg6.view.ty)
    (h6 : ∀ y : S8x32768.Idx, (y 1).val < 4096 * (Scf.trips k0_t2_loop.lb k0_t2_loop.ub k0_t2_loop.st) →
      arg10.view.read (Elt Ideal) (arg10.view.writes (Elt Ideal) G10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 0#32 X5 X8 (Scf.trips k0_t1_loop.lb k0_t1_loop.ub k0_t1_loop.st)).1) = PARTS (arg8.view.read (Elt Ideal) X8) (arg5.view.read (Elt Ideal) X5) 0 →
      arg12.view.read (Elt Ideal) (arg12.view.writes (Elt Ideal) G12 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 0#32 X5 X8 (Scf.trips k0_t1_loop.lb k0_t1_loop.ub k0_t1_loop.st)).2) = NORM (arg8.view.read (Elt Ideal) X8) (arg5.view.read (Elt Ideal) X5) 0 →
      arg6.view.read (Elt Ideal) f6 y = DIST (arg8.view.read (Elt Ideal) X8) (arg5.view.read (Elt Ideal) X5) (arg2.view.read (Elt Ideal) X2) (arg9.view.read (Elt Ideal) X9) y)
    (h10 : arg10.view.read (Elt Ideal) f10 = atStart (Scf.trips k0_t2_loop.lb k0_t2_loop.ub k0_t2_loop.st) (arg10.view.read (Elt Ideal) (arg10.view.writes (Elt Ideal) G10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 0#32 X5 X8 (Scf.trips k0_t1_loop.lb k0_t1_loop.ub k0_t1_loop.st)).1)) (PARTS (arg8.view.read (Elt Ideal) X8) (arg5.view.read (Elt Ideal) X5) (4096 * (Scf.trips k0_t2_loop.lb k0_t2_loop.ub k0_t2_loop.st))))
    (h12 : arg12.view.read (Elt Ideal) f12 = atStart (Scf.trips k0_t2_loop.lb k0_t2_loop.ub k0_t2_loop.st) (arg12.view.read (Elt Ideal) (arg12.view.writes (Elt Ideal) G12 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 0#32 X5 X8 (Scf.trips k0_t1_loop.lb k0_t1_loop.ub k0_t1_loop.st)).2)) (NORM (arg8.view.read (Elt Ideal) X8) (arg5.view.read (Elt Ideal) X5) (4096 * (Scf.trips k0_t2_loop.lb k0_t2_loop.ub k0_t2_loop.st)))) :
    arg6.view.read (Elt Ideal) (arg6.view.writes (Elt Ideal) f6
      [⟨Rect.unit (s := S8x32768) ![0, 30720] S8x2048.size inb_S8x32768_S8x2048_0_30720,
          k0_pay1 (F := Ideal) (View.readAt (Elt Ideal) arg2.view (Rect.unit (s := S8x384) ![0, 0] S8x384.size inb_S8x384_S8x384_0_0).toLoadRect X2)
            (View.readAt (Elt Ideal) arg11.view (Rect.unit (s := S192x2x2048) ![0, 0, 0] S192x2x2048.size inb_S192x2x2048_S192x2x2048_0_0_0).toLoadRect (arg11.view.writes (Elt Ideal) G11 (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 30720#32 X5 X8 (Scf.trips k0_t5_loop.lb k0_t5_loop.ub k0_t5_loop.st)).1))
            (View.readAt (Elt Ideal) arg13.view (Rect.unit (s := S8x2048) ![0, 0] S8x2048.size inb_S8x2048_S8x2048_0_0).toLoadRect (arg13.view.writes (Elt Ideal) G13 (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 30720#32 X5 X8 (Scf.trips k0_t5_loop.lb k0_t5_loop.ub k0_t5_loop.st)).2))
            (View.readAt (Elt Ideal) arg9.view (Rect.unit (s := S8x128) ![0, 0] S8x1.size inb_S8x128_S8x1_0_0).toLoadRect X9)⟩,
        ⟨Rect.unit (s := S8x32768) ![0, 28672] S8x2048.size inb_S8x32768_S8x2048_0_28672,
          k0_pay666 (F := Ideal) (View.readAt (Elt Ideal) arg2.view (Rect.unit (s := S8x384) ![0, 0] S8x384.size inb_S8x384_S8x384_0_0).toLoadRect X2) (View.readAt (Elt Ideal) arg10.view (Rect.unit (s := S192x2x2048) ![0, 0, 0] S192x2x2048.size inb_S192x2x2048_S192x2x2048_0_0_0).toLoadRect f10) (View.readAt (Elt Ideal) arg12.view (Rect.unit (s := S8x2048) ![0, 0] S8x2048.size inb_S8x2048_S8x2048_0_0).toLoadRect f12) (View.readAt (Elt Ideal) arg9.view (Rect.unit (s := S8x128) ![0, 0] S8x1.size inb_S8x128_S8x1_0_0).toLoadRect X9)⟩]) = DIST (arg8.view.read (Elt Ideal) X8) (arg5.view.read (Elt Ideal) X5) (arg2.view.read (Elt Ideal) X2) (arg9.view.read (Elt Ideal) X9) := by
  have e10 : arg10.view.read (Elt Ideal) (arg10.view.writes (Elt Ideal) G10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 0#32 X5 X8 (Scf.trips k0_t1_loop.lb k0_t1_loop.ub k0_t1_loop.st)).1) = PARTS (arg8.view.read (Elt Ideal) X8) (arg5.view.read (Elt Ideal) X5) 0 := parts_k0_t1 Variants.none c none i arg1 harg1 arg2 harg2 arg3 harg3 arg4 harg4 arg5 harg5 arg6 harg6 arg7 harg7 arg8 harg8 arg9 harg9 arg10 harg10 arg11 harg11 arg12 harg12 arg13 harg13 0#32 X5 X8 G10
  have e12 : arg12.view.read (Elt Ideal) (arg12.view.writes (Elt Ideal) G12 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 0#32 X5 X8 (Scf.trips k0_t1_loop.lb k0_t1_loop.ub k0_t1_loop.st)).2) = NORM (arg8.view.read (Elt Ideal) X8) (arg5.view.read (Elt Ideal) X5) 0 := norms_k0_t1 Variants.none c none i arg1 harg1 arg2 harg2 arg3 harg3 arg4 harg4 arg5 harg5 arg6 harg6 arg7 harg7 arg8 harg8 arg9 harg9 arg10 harg10 arg11 harg11 arg12 harg12 arg13 harg13 0#32 X5 X8 G12
  have e2 : (Scf.trips k0_t2_loop.lb k0_t2_loop.ub k0_t2_loop.st) = 7 := by decide
  rw [e10] at h10
  rw [e12] at h12
  rw [e2] at h10 h12
  funext y
  have hy : (y 1).val < 32768 := (y 1).isLt
  refine dist_store arg6 f6 _ _ 30720 (by omega) _ _ rfl _ (fun b l => ?_) (fun y hy => ?_) y hy
  · exact combine_loads arg2 X2 arg9 X9 _ _ 30720 (by omega) _
      ((View.readAt_full arg11.view _ _).trans (parts_k0_t5 Variants.none c none i arg1 harg1 arg2 harg2 arg3 harg3 arg4 harg4 arg5 harg5 arg6 harg6 arg7 harg7 arg8 harg8 arg9 harg9 arg10 harg10 arg11 harg11 arg12 harg12 arg13 harg13 30720#32 X5 X8 G11)) _
      ((View.readAt_full arg13.view _ _).trans (norms_k0_t5 Variants.none c none i arg1 harg1 arg2 harg2 arg3 harg3 arg4 harg4 arg5 harg5 arg6 harg6 arg7 harg7 arg8 harg8 arg9 harg9 arg10 harg10 arg11 harg11 arg12 harg12 arg13 harg13 30720#32 X5 X8 G13)) b l
  refine dist_store arg6 f6 _ _ 28672 (by omega) _ _ rfl _ (fun b l => ?_) (fun y hy => ?_) y hy
  · rw [pay666_eq]
    exact combine_loads arg2 X2 arg9 X9 _ _ 28672 (by omega) _
      ((View.readAt_full arg10.view _ _).trans h10) _ ((View.readAt_full arg12.view _ _).trans h12) b l
  exact h6 y (by rw [e2]; omega) e10 e12

/-- The body at the first grid point, for any continuation: the operands come back as they were, the block of
    distances, the lookup result, the table and the squared lengths hold what the operands make them. -/
theorem kernelRunFirst (c : Dev nD) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (d1 : S8x128.Idx → Elt Ideal .bf16) (d2 : S8x384.Idx → Elt Ideal .bf16) (d3 : S64x16.Idx → Elt Ideal .f32) (d4 : S2x2x64x128.Idx → Elt Ideal .f32) (d5 : S64x32768.Idx → Elt Ideal .i8) (hi : k0_cond1 i = 1#1) (Q : PUnit → sProp 𝕄) :
    iprop(owns (c : Thread nD τ) arg1 fullShare d1
        ∗ owns (c : Thread nD τ) arg2 fullShare d2
        ∗ owns (c : Thread nD τ) arg3 fullShare d3
        ∗ owns (c : Thread nD τ) arg4 fullShare d4
        ∗ owns (c : Thread nD τ) arg5 fullShare d5
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg1 fullShare d1
        ∗ owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare (DIST (TAB d4) d5 d2 (XX d1))
        ∗ owns (c : Thread nD τ) arg7 fullShare (LUT d3 d4)
        ∗ owns (c : Thread nD τ) arg8 fullShare (TAB d4)
        ∗ owns (c : Thread nD τ) arg9 fullShare (XX d1)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)) -∗ Q ⟨⟩))
      ⊢ wp frame (wpE (defs₀ (F := Ideal)) Variants.none (c : Thread nD τ) none) Set.univ
          (cc0_pq_adc_l2 (F := Ideal) i arg1 harg1 arg2 harg2 arg3 harg3 arg4 harg4 arg5 harg5 arg6 harg6 arg7 harg7 arg8 harg8 arg9 harg9 arg10 harg10 arg11 harg11 arg12 harg12 arg13 harg13) Q := by
  unfold owns
  iintro ⟨⟨%f_arg1, %h_arg1, Harg1⟩, ⟨%f_arg2, %h_arg2, Harg2⟩, ⟨%f_arg3, %h_arg3, Harg3⟩, ⟨%f_arg4, %h_arg4, Harg4⟩, ⟨%f_arg5, %h_arg5, Harg5⟩, ⟨%d_arg6, %f_arg6, -, Harg6⟩, ⟨%d_arg7, %f_arg7, -, Harg7⟩, ⟨%d_arg8, %f_arg8, -, Harg8⟩, ⟨%d_arg9, %f_arg9, -, Harg9⟩, ⟨%d_arg10, %f_arg10, -, Harg10⟩, ⟨%d_arg11, %f_arg11, -, Harg11⟩, ⟨%d_arg12, %f_arg12, -, Harg12⟩, ⟨%d_arg13, %f_arg13, -, Harg13⟩, Hk⟩
  simp only [cc0_pq_adc_l2_eq_skeleton]; unfold cc0_pq_adc_l2_skel
  sl_exec
  sl_step
  iapply Hk
  isplitl [Harg1]
  · iexists _; isplitr; swap; · iexact Harg1
    ipureintro; exact h_arg1
  isplitl [Harg2]
  · iexists _; isplitr; swap; · iexact Harg2
    ipureintro; exact h_arg2
  isplitl [Harg3]
  · iexists _; isplitr; swap; · iexact Harg3
    ipureintro; exact h_arg3
  isplitl [Harg4]
  · iexists _; isplitr; swap; · iexact Harg4
    ipureintro; exact h_arg4
  isplitl [Harg5]
  · iexists _; isplitr; swap; · iexact Harg5
    ipureintro; exact h_arg5
  isplitl [Harg6]
  · iexists _; isplitr; swap; · iexact Harg6
    ipureintro
    rw [← h_arg1, ← h_arg2, ← h_arg4, ← h_arg5, ← tab_read arg4 f_arg4 arg8 arg8.view.junk, ← xx_read arg1 f_arg1 arg9 arg9.view.junk]
    exact tail_dist c i arg1 harg1 arg2 harg2 arg3 harg3 arg4 harg4 arg5 harg5 arg6 harg6 arg7 harg7 arg8 harg8 arg9 harg9 arg10 harg10 arg11 harg11 arg12 harg12 arg13 harg13 _ _ _ _ _ _ _ _ _ _ _ (by assumption) (by assumption) (by assumption)
  isplitl [Harg7]
  · iexists _; isplitr; swap; · iexact Harg7
    ipureintro; rw [← h_arg3, ← h_arg4]; exact lut_read arg3 f_arg3 arg4 f_arg4 arg7 _
  isplitl [Harg8]
  · iexists _; isplitr; swap; · iexact Harg8
    ipureintro; rw [← h_arg4]; exact tab_read arg4 f_arg4 arg8 _
  isplitl [Harg9]
  · iexists _; isplitr; swap; · iexact Harg9
    ipureintro; rw [← h_arg1]; exact xx_read arg1 f_arg1 arg9 _
  isplitl [Harg10]
  · iexists _, _; isplitr; swap; · iexact Harg10
    ipureintro; rfl
  isplitl [Harg11]
  · iexists _, _; isplitr; swap; · iexact Harg11
    ipureintro; rfl
  isplitl [Harg12]
  · iexists _, _; isplitr; swap; · iexact Harg12
    ipureintro; rfl
  iexists _, _; isplitr; swap; · iexact Harg13
  ipureintro; rfl

/-- The body at any later grid point, for any continuation: the operands, the lookup result, the table and the squared
    lengths come back as they were, the block of distances holds what they make it. -/
theorem kernelRunNext (c : Dev nD) (i : grid0.Coords)
    (arg1 : Memref sig .tc .vmem S8x128 .bf16) (harg1 : arg1.IsWhole)
    (arg2 : Memref sig .tc .vmem S8x384 .bf16) (harg2 : arg2.IsWhole)
    (arg3 : Memref sig .tc .vmem S64x16 .f32) (harg3 : arg3.IsWhole)
    (arg4 : Memref sig .tc .vmem S2x2x64x128 .f32) (harg4 : arg4.IsWhole)
    (arg5 : Memref sig .tc .vmem S64x32768 .i8) (harg5 : arg5.IsWhole)
    (arg6 : Memref sig .tc .vmem S8x32768 .bf16) (harg6 : arg6.IsWhole)
    (arg7 : Memref sig .tc .vmem S8x64x256 .f32) (harg7 : arg7.IsWhole)
    (arg8 : Memref sig .tc .vmem S8x4x8x128 .f32) (harg8 : arg8.IsWhole)
    (arg9 : Memref sig .tc .vmem S8x128 .f32) (harg9 : arg9.IsWhole)
    (arg10 : Memref sig .tc .vmem S192x2x2048 .bf16) (harg10 : arg10.IsWhole)
    (arg11 : Memref sig .tc .vmem S192x2x2048 .bf16) (harg11 : arg11.IsWhole)
    (arg12 : Memref sig .tc .vmem S8x2048 .f32) (harg12 : arg12.IsWhole)
    (arg13 : Memref sig .tc .vmem S8x2048 .f32) (harg13 : arg13.IsWhole)
    (d1 : S8x128.Idx → Elt Ideal .bf16) (d2 : S8x384.Idx → Elt Ideal .bf16) (d3 : S64x16.Idx → Elt Ideal .f32) (d4 : S2x2x64x128.Idx → Elt Ideal .f32) (d5 : S64x32768.Idx → Elt Ideal .i8) (d7 : S8x64x256.Idx → Elt Ideal .f32) (d8 : S8x4x8x128.Idx → Elt Ideal .f32) (d9 : S8x128.Idx → Elt Ideal .f32) (hi : ¬k0_cond1 i = 1#1) (Q : PUnit → sProp 𝕄) :
    iprop(owns (c : Thread nD τ) arg1 fullShare d1
        ∗ owns (c : Thread nD τ) arg2 fullShare d2
        ∗ owns (c : Thread nD τ) arg3 fullShare d3
        ∗ owns (c : Thread nD τ) arg4 fullShare d4
        ∗ owns (c : Thread nD τ) arg5 fullShare d5
        ∗ (∃ d, owns (c : Thread nD τ) arg6 fullShare d)
        ∗ owns (c : Thread nD τ) arg7 fullShare d7
        ∗ owns (c : Thread nD τ) arg8 fullShare d8
        ∗ owns (c : Thread nD τ) arg9 fullShare d9
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg1 fullShare d1
        ∗ owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare (DIST d8 d5 d2 d9)
        ∗ owns (c : Thread nD τ) arg7 fullShare d7
        ∗ owns (c : Thread nD τ) arg8 fullShare d8
        ∗ owns (c : Thread nD τ) arg9 fullShare d9
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)) -∗ Q ⟨⟩))
      ⊢ wp frame (wpE (defs₀ (F := Ideal)) Variants.none (c : Thread nD τ) none) Set.univ
          (cc0_pq_adc_l2 (F := Ideal) i arg1 harg1 arg2 harg2 arg3 harg3 arg4 harg4 arg5 harg5 arg6 harg6 arg7 harg7 arg8 harg8 arg9 harg9 arg10 harg10 arg11 harg11 arg12 harg12 arg13 harg13) Q := by
  unfold owns
  iintro ⟨⟨%f_arg1, %h_arg1, Harg1⟩, ⟨%f_arg2, %h_arg2, Harg2⟩, ⟨%f_arg3, %h_arg3, Harg3⟩, ⟨%f_arg4, %h_arg4, Harg4⟩, ⟨%f_arg5, %h_arg5, Harg5⟩, ⟨%d_arg6, %f_arg6, -, Harg6⟩, ⟨%f_arg7, %h_arg7, Harg7⟩, ⟨%f_arg8, %h_arg8, Harg8⟩, ⟨%f_arg9, %h_arg9, Harg9⟩, ⟨%d_arg10, %f_arg10, -, Harg10⟩, ⟨%d_arg11, %f_arg11, -, Harg11⟩, ⟨%d_arg12, %f_arg12, -, Harg12⟩, ⟨%d_arg13, %f_arg13, -, Harg13⟩, Hk⟩
  simp only [cc0_pq_adc_l2_eq_skeleton]; unfold cc0_pq_adc_l2_skel
  sl_exec
  sl_step
  iapply Hk
  isplitl [Harg1]
  · iexists _; isplitr; swap; · iexact Harg1
    ipureintro; exact h_arg1
  isplitl [Harg2]
  · iexists _; isplitr; swap; · iexact Harg2
    ipureintro; exact h_arg2
  isplitl [Harg3]
  · iexists _; isplitr; swap; · iexact Harg3
    ipureintro; exact h_arg3
  isplitl [Harg4]
  · iexists _; isplitr; swap; · iexact Harg4
    ipureintro; exact h_arg4
  isplitl [Harg5]
  · iexists _; isplitr; swap; · iexact Harg5
    ipureintro; exact h_arg5
  isplitl [Harg6]
  · iexists _; isplitr; swap; · iexact Harg6
    ipureintro
    rw [← h_arg2, ← h_arg5, ← h_arg8, ← h_arg9]
    exact tail_dist c i arg1 harg1 arg2 harg2 arg3 harg3 arg4 harg4 arg5 harg5 arg6 harg6 arg7 harg7 arg8 harg8 arg9 harg9 arg10 harg10 arg11 harg11 arg12 harg12 arg13 harg13 _ _ _ _ _ _ _ _ _ _ _ (by assumption) (by assumption) (by assumption)
  isplitl [Harg7]
  · iexists _; isplitr; swap; · iexact Harg7
    ipureintro; exact h_arg7
  isplitl [Harg8]
  · iexists _; isplitr; swap; · iexact Harg8
    ipureintro; exact h_arg8
  isplitl [Harg9]
  · iexists _; isplitr; swap; · iexact Harg9
    ipureintro; exact h_arg9
  isplitl [Harg10]
  · iexists _, _; isplitr; swap; · iexact Harg10
    ipureintro; rfl
  isplitl [Harg11]
  · iexists _, _; isplitr; swap; · iexact Harg11
    ipureintro; rfl
  isplitl [Harg12]
  · iexists _, _; isplitr; swap; · iexact Harg12
    ipureintro; rfl
  iexists _, _; isplitr; swap; · iexact Harg13
  ipureintro; rfl

end Cert.Proof.KernelIdeal

end
-- ==== Proof.RunValue.lean ====
module

public import proofs.«01_k».proof.Proof.BodyValue
public import proofs.«01_k».proof.Proof.KernelIdealRun
public import Idealize.ShloMosaic.Lib.Pipeline.ValueKit

@[expose] public section

set_option maxRecDepth 16384

noncomputable section

namespace Cert.Proof.KernelIdealTracked

open Cert.KernelIdeal Cert.KernelIdeal.Gen
open Cert.Proof.KernelIdeal (PhiA_eq defs₀_row TAB XX LUT DIST kernelRunFirst kernelRunNext)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The grid's first point is the only one whose prologue runs. -/
theorem first_iff : ∀ t : Fin grid0.N, k0_cond1 (grid0.coords t) = 1#1 ↔ t.val = 0 := by decide +kernel

/-- The grid's first point. -/
def t₀ : Fin cfg0.N := ⟨0, by decide⟩

/-- The table of all codewords, laid out for the lookup, in the kernel's scratch from the first point on. -/
def tab (c : Dev nD) : S8x4x8x128.Idx → Elt Ideal .f32 := TAB (iblk m c 3 t₀)
/-- The squared norms of the queries, in the kernel's scratch from the first point on. -/
def xx (c : Dev nD) : S8x128.Idx → Elt Ideal .f32 := XX (iblk m c 0 t₀)
/-- The squared distances of every subquery to every codeword, the kernel's second result. -/
def lut (c : Dev nD) : S8x64x256.Idx → Elt Ideal .f32 := LUT (iblk m c 2 t₀) (iblk m c 3 t₀)
/-- The distances of the columns of point `t`, the kernel's first result there. -/
def dist (c : Dev nD) (t : Fin cfg0.N) : S8x32768.Idx → Elt Ideal .bf16 :=
  DIST (tab m c) (iblk m c 4 t) (iblk m c 1 t) (xx m c)

/-- What the body holds between two points, from the first on: the codeword table and the query norms in their scratch
    buffers, the other scratch buffers at some contents, the generator register at some state. -/
def Kept (c : Dev nD) : sProp 𝕄 :=
  iprop(iprop(owns (c : Thread nD τ) (Memref.whole cc0_scratch0) fullShare (tab m c) ∗ owns (c : Thread nD τ) (Memref.whole cc0_scratch1) fullShare (xx m c) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r)

/-- The proof data of the pipeline, the outputs named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dist m c t
    | ⟨6, _⟩ => lut m c
  Φ t := if t.val = 0 then Pipeline.ΦA spec0 c else Kept m c
  q _ := fullShare
  owed _ := 0

/-- The array of a window, as the pipeline finds it. -/
theorem A_eq (c : Dev nD) (w : Fin cfg0.W) : (dats m 0 c).A w = V m c (Pipeline.arrRef spec0 w) := by dsimp only [dats]
/-- Window 0 after a point: its block, as it was. -/
theorem after_0 (c : Dev nD) (t : Fin cfg0.N) : (dats m 0 c).after 0 t = iblk m c 0 t := rfl
/-- Window 0 before a point: its block. -/
theorem before_0 (c : Dev nD) (t : Fin cfg0.N) (d) : (dats m 0 c).before 0 t d = iblk m c 0 t :=
  before0_0_of m (dats m 0 c) (A_eq m c 0) (after_0 m c) t d
/-- Window 1 after a point: its block, as it was. -/
theorem after_1 (c : Dev nD) (t : Fin cfg0.N) : (dats m 0 c).after 1 t = iblk m c 1 t := rfl
/-- Window 1 before a point: its block. -/
theorem before_1 (c : Dev nD) (t : Fin cfg0.N) (d) : (dats m 0 c).before 1 t d = iblk m c 1 t :=
  before0_1_of m (dats m 0 c) (A_eq m c 1) (after_1 m c) t d
/-- Window 2 after a point: its block, as it was. -/
theorem after_2 (c : Dev nD) (t : Fin cfg0.N) : (dats m 0 c).after 2 t = iblk m c 2 t := rfl
/-- Window 2 before a point: its block. -/
theorem before_2 (c : Dev nD) (t : Fin cfg0.N) (d) : (dats m 0 c).before 2 t d = iblk m c 2 t :=
  before0_2_of m (dats m 0 c) (A_eq m c 2) (after_2 m c) t d
/-- Window 3 after a point: its block, as it was. -/
theorem after_3 (c : Dev nD) (t : Fin cfg0.N) : (dats m 0 c).after 3 t = iblk m c 3 t := rfl
/-- Window 3 before a point: its block. -/
theorem before_3 (c : Dev nD) (t : Fin cfg0.N) (d) : (dats m 0 c).before 3 t d = iblk m c 3 t :=
  before0_3_of m (dats m 0 c) (A_eq m c 3) (after_3 m c) t d
/-- Window 4 after a point: its block, as it was. -/
theorem after_4 (c : Dev nD) (t : Fin cfg0.N) : (dats m 0 c).after 4 t = iblk m c 4 t := rfl
/-- Window 4 before a point: its block. -/
theorem before_4 (c : Dev nD) (t : Fin cfg0.N) (d) : (dats m 0 c).before 4 t d = iblk m c 4 t :=
  before0_4_of m (dats m 0 c) (A_eq m c 4) (after_4 m c) t d
/-- Window 5, the first result, after a point: the distances of its columns. -/
theorem after_5 (c : Dev nD) (t : Fin cfg0.N) : (dats m 0 c).after 5 t = dist m c t := rfl
/-- Window 6, the second result, after a point: the lookup table. -/
theorem after_6 (c : Dev nD) (t : Fin cfg0.N) : (dats m 0 c).after 6 t = lut m c := rfl

/-- The second result is stored at the first point only. -/
theorem idle_6 (t : Fin cfg0.N) : cfg0.idle 6 (cfg0.grid.coords t) = !decide (t.val = 0) := by
  show (!(k0_cond1 (grid0.coords t) == 1#1)) = _
  congr 1
  by_cases h : t.val = 0
  · rw [decide_eq_true h, (first_iff t).mpr h]; rfl
  · rw [decide_eq_false h]
    exact beq_eq_false_iff_ne.mpr fun e => h ((first_iff t).mp e)

/-- What the first point leaves in the second result's buffer. -/
theorem kept_6 (c : Dev nD) (t : Fin cfg0.N) (d) : (dats m 0 c).kept 6 t d = lut m c := by
  unfold Dat.kept
  rw [Pipeline.fill_of_clip_none 6 _ (fun _ => rfl) d ((dats m 0 c).after 6 _), Pipeline.Window.fill_cut]
  exact after_6 m c t

/-- After the first point the second result's buffer still holds what the first point left in it. -/
theorem before_6 (c : Dev nD) : ∀ (n : ℕ) (t : Fin cfg0.N), t.val = n + 1 → ∀ d, (dats m 0 c).before 6 t d = lut m c
  | n, t, ht, d => by
    have hN : cfg0.N = 32 := rfl
    have hfl : (cfg0.win 6).flush ⟨t.val - 1, Nat.lt_of_le_of_lt (Nat.sub_le _ _) t.isLt⟩ = false := by
      have h : ¬ (cfg0.win 6).flush ⟨t.val - 1, Nat.lt_of_le_of_lt (Nat.sub_le _ _) t.isLt⟩ = true := by
        rw [flush0_6]
        have := t.isLt
        dsimp only; omega
      simpa using h
    rw [(dats m 0 c).before_of_pos 6 t (by omega) ((cfg0.win 6).fetch_out rfl t), hfl, if_neg Bool.false_ne_true]
    unfold Dat.left
    rw [idle_6]
    cases n with
    | zero =>
      rw [decide_eq_true (by dsimp only; omega)]
      exact kept_6 m c _ d
    | succ k =>
      rw [decide_eq_false (by dsimp only; omega)]
      exact before_6 c k ⟨t.val - 1, _⟩ (by dsimp only; omega) d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

/-- What is held before the first point: the scratch buffers at some contents. -/
theorem Phi_zero (c : Dev nD) (t : Fin cfg0.N) (ht : t.val = 0) :
    (dats m 0 c).Φ t.castSucc = Pipeline.ΦA spec0 c := by
  dsimp only [dats]; exact if_pos ht
/-- What is held before any other point: table and norms in scratch. -/
theorem Phi_pos (c : Dev nD) (t : Fin cfg0.N) (ht : t.val ≠ 0) : (dats m 0 c).Φ t.castSucc = Kept m c := by
  dsimp only [dats]; exact if_neg ht
/-- What is held after a point: table and norms in scratch. -/
theorem Phi_succ (c : Dev nD) (t : Fin cfg0.N) : (dats m 0 c).Φ t.succ = Kept m c := by
  dsimp only [dats]; exact if_neg (Nat.succ_ne_zero _)

/-- The first point's body: it fills the scratch and the second result. -/
theorem sound_first (c : Dev nD) (t : Fin cfg0.N) (ht : t.val = 0) :
    bodyPre m c t ⊢ wp frame (wpE (defs₀ (F := Ideal)) Variants.none c none) Set.univ (bodyAt0 t) (fun _ => bodyPost m c t) := by
  unfold bodyPre bodyPost bodyAt0
  rw [Phi_zero m c t ht, Phi_succ,
    show (dats m 0 c).owesAt () t.succ = (dats m 0 c).owesAt () t.castSucc from rfl, PhiA_eq]
  unfold Kept
  simp only [before_0, before_1, before_2, before_3, before_4, after_0, after_1, after_2, after_3, after_4, after_5, after_6]
  obtain rfl : t = t₀ := Fin.ext ht
  iintro ⟨⟨⟨HS0, HS1, HS2, HS3, HS4, HS5⟩, Hg⟩, HO, ⟨%d0, H0⟩, ⟨%d1, H1⟩, ⟨%d2, H2⟩, ⟨%d3, H3⟩, ⟨%d4, H4⟩, ⟨%d5, H5⟩, ⟨%d6, H6⟩⟩
  iapply (kernelRunFirst c (grid0.coords t₀) _ _ _ _ _ _ _ _ _ _ _ _ _ _ _ _ _ _ _ _ _ _ _ _ _ _ (iblk m c 0 t₀) (iblk m c 1 t₀) (iblk m c 2 t₀) (iblk m c 3 t₀) (iblk m c 4 t₀) ((first_iff _).mpr rfl) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitr [Hg]; swap; · iexact Hg
    isplitl [HS0]; · iexact HS0
    isplitl [HS1]; · iexact HS1
    isplitl [HS2]; · iexact HS2
    isplitl [HS3]; · iexact HS3
    isplitl [HS4]; · iexact HS4
    iexact HS5
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- Any later point's body: it keeps the scratch and the second result. -/
theorem sound_next (c : Dev nD) (t : Fin cfg0.N) (ht : t.val ≠ 0) :
    bodyPre m c t ⊢ wp frame (wpE (defs₀ (F := Ideal)) Variants.none c none) Set.univ (bodyAt0 t) (fun _ => bodyPost m c t) := by
  unfold bodyPre bodyPost bodyAt0
  rw [Phi_pos m c t ht, Phi_succ,
    show (dats m 0 c).owesAt () t.succ = (dats m 0 c).owesAt () t.castSucc from rfl]
  unfold Kept
  simp only [before_0, before_1, before_2, before_3, before_4, before_6 m c (t.val - 1) t (by omega), after_0, after_1, after_2, after_3, after_4, after_5, after_6]
  iintro ⟨⟨⟨HS0, HS1, HS2, HS3, HS4, HS5⟩, Hg⟩, HO, ⟨%d0, H0⟩, ⟨%d1, H1⟩, ⟨%d2, H2⟩, ⟨%d3, H3⟩, ⟨%d4, H4⟩, ⟨%d5, H5⟩, ⟨%d6, H6⟩⟩
  iapply (kernelRunNext c (grid0.coords t) _ _ _ _ _ _ _ _ _ _ _ _ _ _ _ _ _ _ _ _ _ _ _ _ _ _ (iblk m c 0 t) (iblk m c 1 t) (iblk m c 2 t) (iblk m c 3 t) (iblk m c 4 t) (lut m c) (tab m c) (xx m c) (fun h => ht ((first_iff t).mp h)) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitr [Hg]; swap; · iexact Hg
    isplitl [HS0]; · iexact HS0
    isplitl [HS1]; · iexact HS1
    isplitl [HS2]; · iexact HS2
    isplitl [HS3]; · iexact HS3
    isplitl [HS4]; · iexact HS4
    iexact HS5
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body's post with the second result's buffer untouched. -/
theorem post_next (c : Dev nD) (t : Fin cfg0.N) (ht : t.val ≠ 0) :
    bodyPost m c t ⊢ (iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ ∃ d, owns (c : Thread nD τ) (win0_6.stage (cfg0.slots t 6)) fullShare ((dats m 0 c).before 6 t d)) : sProp 𝕄) := by
  unfold bodyPost
  simp only [after_6, before_6 m c (t.val - 1) t (by omega)]
  iintro ⟨HP, HO, H0, H1, H2, H3, H4, H5, H6⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  iexists (lut m c); iexact H6

/-- The body obligation of the pipeline, the outputs named. -/
theorem body_obligation (c : Dev nD) :
    BodyObligation (dats m 0 c) (defs₀ (F := Ideal)) Variants.none () Set.univ := fun t => by
  rw [bigSep_W0, bigSep_W0, defs₀_row, idle_6]
  by_cases ht : t.val = 0
  · rw [decide_eq_true ht]
    exact triple_restated (sound_first m c t ht) rfl .rfl fun _ => .rfl
  · rw [decide_eq_false ht]
    cases hf : (cfg0.win 6).flush t with
    | true => exact triple_restated (sound_next m c t ht) rfl .rfl fun _ => .rfl
    | false => exact triple_restated (sound_next m c t ht) rfl .rfl fun _ => post_next m c t ht

/-- At the end the body holds its scratch buffers at some contents. -/
theorem hout (c : Dev nD) : (dats m 0 c).Φ (Fin.last cfg0.N) ⊢ Pipeline.ΦA spec0 c := by
  have h : (dats m 0 c).Φ (Fin.last cfg0.N) = Kept m c := by
    dsimp only [dats]; exact if_neg (by decide)
  rw [h, PhiA_eq]
  unfold Kept
  iintro ⟨⟨HS0, HS1, HS2, HS3, HS4, HS5⟩, Hg⟩
  isplitr [Hg]; swap; · iexact Hg
  isplitl [HS0]; · iexists _; iexact HS0
  isplitl [HS1]; · iexists _; iexact HS1
  isplitl [HS2]; · iexact HS2
  isplitl [HS3]; · iexact HS3
  isplitl [HS4]; · iexact HS4
  iexact HS5

set_option backward.isDefEq.respectTransparency.types false in
/-- The program runs to its end, and at the end every window's array is what the pipeline's proof data says. -/
theorem run_main :
    θ_run defs (onTc (τ := τ) (main (F := Ideal))) (s₀ m ρ)
      (fun r => Pipeline.FramePost cfgs (dats m) (0 : Fin 1) (V m) r) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := hout m)
    (hQ' := fun _ h => h.1)

end Cert.Proof.KernelIdealTracked

end
-- ==== Proof.HostValue.lean ====
module

public import proofs.«01_k».proof.Proof.Gen.KernelIdeal.Frame
public import Idealize.ShloMosaic.Lib.StableHlo.ReadAt
public import Idealize.ShloMosaic.Lib.Pointwise

@[expose] public section

set_option maxRecDepth 16384

noncomputable section

namespace Cert.Proof.KernelIdealTracked

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The transposed codes. -/
theorem V_codes (c : Dev nD) (s : Fin 64) (n : Fin 1048576) :
    V m c main_v15 (ix2 s n) = m ((c : Thread nD τ).loc main_arg2) (ix2 n s) := by
  unfold V
  after_reads_at

/-- The codebooks by half, lane block, subspace and lane. -/
theorem V_cb (c : Dev nD) (d h : Fin 2) (s : Fin 64) (l : Fin 128) :
    V m c main_v1 (ix4 d h s l)
      = m ((c : Thread nD τ).loc main_arg1) (ix3 s ⟨h.val * 128 + l.val, by omega⟩ d) := by
  unfold V
  after_reads_at

/-- The queries by subspace, half and query. -/
theorem V_xt (c : Dev nD) (s : Fin 64) (k : Fin 16) :
    V m c main_v5 (ix2 s k)
      = m ((c : Thread nD τ).loc main_arg0) (ix2 ⟨k.val % 8, by omega⟩ ⟨s.val * 2 + k.val / 8, by omega⟩) := by
  unfold V
  after_reads_at

/-- The query column a column of the weight matrix is made of. -/
def xcol (k : Fin 384) : Fin 128 :=
  ⟨k.val % 128 / 64 * 64 + k.val % 128 / 2 % 8 * 8 + k.val % 128 / 16 % 4 * 2 + k.val % 128 % 2, by omega⟩

/-- The f32 pattern `0xC0000000` is the real −2. -/
theorem ofBits_neg_two_f32 : Ideal.ofBits .f32 3221225472#32 = ((-2 : ℝ) : EReal) := by
  simp [Ideal.ofBits, Ideal.ieee, -EReal.coe_mul, -EReal.coe_neg]; norm_num

/-- The weight matrix: the queries times −2, permuted, three times side by side. -/
theorem V_xw (c : Dev nD) (b : Fin 8) (k : Fin 384) :
    V m c main_v14 (ix2 b k) = ((-2 : ℝ) : EReal) * m ((c : Thread nD τ).loc main_arg0) (ix2 b (xcol k)) := by
  unfold V
  after_reads_at
  exact congrArg (· * m ((c : Thread nD τ).loc main_arg0) (ix2 b (xcol k))) ofBits_neg_two_f32

end Cert.Proof.KernelIdealTracked

end
-- ==== Proof.BlockValue.lean ====
module

public import proofs.«01_k».proof.Proof.RunValue
public import proofs.«01_k».proof.Proof.HostValue
public import Idealize.ShloMosaic.Lib.Pipeline.ValueKit

@[expose] public section

set_option maxRecDepth 16384

noncomputable section

namespace Cert.Proof.KernelIdealTracked

open Cert.KernelIdeal Cert.KernelIdeal.Gen
open Cert.Proof.KernelIdeal (TAB XX LUT DIST subOf cell partE sqE normC partC colOf)
open Idealize.ShloMosaic Idealize.ShloMosaic.TcCoe Idealize.ShloMosaic.Tactic
open Idealize.SL Idealize.SL.Sem

variable (m : (ℓ : Loc nD τ sig) → Buf (Elt Ideal) ℓ)

/-- Where the block of queries lies at a point. -/
theorem idx_0 : ∀ t : Fin cfg0.N, win0_0.index t = ![0, 0] := by decide +kernel
/-- Where the block of weights lies at a point. -/
theorem idx_1 : ∀ t : Fin cfg0.N, win0_1.index t = ![0, 0] := by decide +kernel
/-- Where the block of transposed queries lies at a point. -/
theorem idx_2 : ∀ t : Fin cfg0.N, win0_2.index t = ![0, 0] := by decide +kernel
/-- Where the block of codebooks lies at a point. -/
theorem idx_3 : ∀ t : Fin cfg0.N, win0_3.index t = ![0, 0, 0, 0] := by decide +kernel
/-- Where the block of codes lies at a point. -/
theorem idx_4 : ∀ t : Fin cfg0.N, win0_4.index t = ![0, t.val] := by decide +kernel
/-- Where the block of distances lies at a point. -/
theorem idx_5 : ∀ t : Fin cfg0.N, win0_5.index t = ![0, t.val] := by decide +kernel
/-- Where the block of lookup table lies at a point. -/
theorem idx_6 : ∀ t : Fin cfg0.N, win0_6.index t = ![0, 0, 0] := by decide +kernel

/-- The block of queries is the queries. -/
theorem iblk_0 (c : Dev nD) (t : Fin cfg0.N) (b : Fin 8) (k : Fin 128) :
    iblk m c 0 t (ix2 b k) = m ((c : Thread nD τ).loc main_arg0) (ix2 b k) := by
  have h := idx_0 t
  blk_ext [iblk, V, h]

/-- The block of weights is the queries times −2, permuted. -/
theorem iblk_1 (c : Dev nD) (t : Fin cfg0.N) (b : Fin 8) (k : Fin 384) :
    iblk m c 1 t (ix2 b k) = ((-2 : ℝ) : EReal) * m ((c : Thread nD τ).loc main_arg0) (ix2 b (xcol k)) := by
  have h := idx_1 t
  refine Eq.trans (?_ : _ = V m c main_v14 (ix2 b k)) (V_xw m c b k)
  blk_ext [iblk, h]

/-- The block of transposed queries is the queries by subspace, half and query. -/
theorem iblk_2 (c : Dev nD) (t : Fin cfg0.N) (s : Fin 64) (k : Fin 16) :
    iblk m c 2 t (ix2 s k)
      = m ((c : Thread nD τ).loc main_arg0) (ix2 ⟨k.val % 8, by omega⟩ ⟨s.val * 2 + k.val / 8, by omega⟩) := by
  have h := idx_2 t
  refine Eq.trans (?_ : _ = V m c main_v5 (ix2 s k)) (V_xt m c s k)
  blk_ext [iblk, h]

/-- The block of codebooks is the codebooks by half, lane block, subspace and lane. -/
theorem iblk_3 (c : Dev nD) (t : Fin cfg0.N) (d h : Fin 2) (s : Fin 64) (l : Fin 128) :
    iblk m c 3 t (ix4 d h s l)
      = m ((c : Thread nD τ).loc main_arg1) (ix3 s ⟨h.val * 128 + l.val, by omega⟩ d) := by
  have h' := idx_3 t
  refine Eq.trans (?_ : _ = V m c main_v1 (ix4 d h s l)) (V_cb m c d h s l)
  blk_ext [iblk, h']

/-- Column `j` of the codes of point `t` is the row `32768 t + j` of the codes. -/
theorem iblk_4 (c : Dev nD) (t : Fin cfg0.N) (s : Fin 64) (j : Fin 32768) :
    iblk m c 4 t (ix2 s j)
      = m ((c : Thread nD τ).loc main_arg2) (ix2 ⟨t.val * 32768 + j.val, by have : t.val < 32 := t.isLt; omega⟩ s) := by
  have h := idx_4 t
  refine Eq.trans (?_ : _ = V m c main_v15 (ix2 s ⟨t.val * 32768 + j.val, by have : t.val < 32 := t.isLt; omega⟩)) (V_codes m c s _)
  blk_ext [iblk, h]

/-- A cell of the codeword table is the coordinate of the codeword the code names. -/
theorem cell_tab (c : Dev nD) (g : Fin 8) (d : Fin 2) (r : Fin 8) (w : BitVec 8) :
    cell (tab m c) g d r w = m ((c : Thread nD τ).loc main_arg1) (ix3 (subOf g r) ⟨w.toNat, w.isLt⟩ d) := by
  have hw : w.toNat < 256 := w.isLt
  unfold cell tab TAB
  split
  · refine (iblk_3 m c t₀ _ _ _ _).trans ?_
    refine congrArg _ (congrArg₂ (ix3 (subOf g r)) (Fin.ext ?_) (Fin.ext ?_))
    · show (2 * d.val + 1) % 2 * 128 + w.toNat % 128 = w.toNat; omega
    · show (2 * d.val + 1) / 2 = d.val; omega
  · refine (iblk_3 m c t₀ _ _ _ _).trans ?_
    refine congrArg _ (congrArg₂ (ix3 (subOf g r)) (Fin.ext ?_) (Fin.ext ?_))
    · show (2 * d.val) % 2 * 128 + w.toNat % 128 = w.toNat; omega
    · show (2 * d.val) / 2 = d.val; omega

/-- What the kernel computes for query `b` and row `n` of the codes, out of the arguments: the norms of the codewords found,
    plus the weights times the parts of the codewords found, plus the query's norm. -/
def KD (X : S8x128.Idx → EReal) (C : S64x256x2.Idx → EReal) (W : S1048576x64.Idx → BitVec 8) (b : Fin 8) (n : Fin 1048576) : EReal :=
  ((∑ r : Fin 8, ∑ g : Fin 8,
      (C (ix3 (subOf g r) ⟨(W (ix2 n (subOf g r))).toNat, (W (ix2 n (subOf g r))).isLt⟩ 0)
          * C (ix3 (subOf g r) ⟨(W (ix2 n (subOf g r))).toNat, (W (ix2 n (subOf g r))).isLt⟩ 0)
        + C (ix3 (subOf g r) ⟨(W (ix2 n (subOf g r))).toNat, (W (ix2 n (subOf g r))).isLt⟩ 1)
          * C (ix3 (subOf g r) ⟨(W (ix2 n (subOf g r))).toNat, (W (ix2 n (subOf g r))).isLt⟩ 1)))
    + ∑ k : Fin 384, (((-2 : ℝ) : EReal) * X (ix2 b (xcol k)))
        * partE (k.val / 2 / 64) (C (ix3 (subOf ⟨k.val / 2 % 64 / 8, by omega⟩ ⟨k.val / 2 % 8, by omega⟩)
            ⟨(W (ix2 n (subOf ⟨k.val / 2 % 64 / 8, by omega⟩ ⟨k.val / 2 % 8, by omega⟩))).toNat, (W (ix2 n (subOf ⟨k.val / 2 % 64 / 8, by omega⟩ ⟨k.val / 2 % 8, by omega⟩))).isLt⟩
            ⟨k.val % 2, by omega⟩)))
    + ∑ k : Fin 128, X (ix2 b k) * X (ix2 b k)

/-- The code the decode of column `j` of point `t` reads is the row's. -/
theorem code_at (c : Dev nD) (t : Fin cfg0.N) (s : Fin 64) (j : Fin 32768) :
    iblk m c 4 t (ix2 s (colOf j.val))
      = m ((c : Thread nD τ).loc main_arg2) (ix2 ⟨t.val * 32768 + j.val, by have : t.val < 32 := t.isLt; omega⟩ s) := by
  have h : colOf j.val = j := Fin.ext (Nat.mod_eq_of_lt j.isLt)
  rw [h]
  exact iblk_4 m c t s j

/-- The distances of a block, where the table holds the codewords, the block of codes is a row of the codes, the weights are
    the queries times −2 and the squared lengths are the queries'. -/
theorem DIST_eq (tb : S8x4x8x128.Idx → EReal) (cd : S64x32768.Idx → BitVec 8) (xw : S8x384.Idx → EReal) (xq : S8x128.Idx → EReal)
    (X : S8x128.Idx → EReal) (C : S64x256x2.Idx → EReal) (W : S1048576x64.Idx → BitVec 8) (b : Fin 8) (j : Fin 32768) (n : Fin 1048576)
    (hcell : ∀ g d r w, cell tb g d r w = C (ix3 (subOf g r) ⟨w.toNat, w.isLt⟩ d))
    (hcode : ∀ s, cd (ix2 s (colOf j.val)) = W (ix2 n s))
    (hxw : ∀ k, xw (ix2 b k) = ((-2 : ℝ) : EReal) * X (ix2 b (xcol k)))
    (hxx : xq (ix2 b 0) = ∑ k : Fin 128, X (ix2 b k) * X (ix2 b k)) :
    DIST tb cd xw xq (ix2 b j) = KD X C W b n := by
  unfold KD
  show (normC tb cd j.val + ∑ k : Fin 384, xw (ix2 b k) * partC tb cd j.val k) + xq (ix2 b 0) = _
  refine congrArg₂ (· + ·) (congrArg₂ (· + ·) ?_ ?_) hxx
  · unfold normC
    refine Finset.sum_congr rfl fun r _ => Finset.sum_congr rfl fun g _ => ?_
    unfold sqE
    rw [hcell, hcell, hcode]
  · refine Finset.sum_congr rfl fun k _ => ?_
    unfold partC
    rw [hcell, hcode, hxw]

/-- The distances a point leaves, out of the arguments. -/
theorem dist_apply (c : Dev nD) (t : Fin cfg0.N) (b : Fin 8) (j : Fin 32768) :
    dist m c t (ix2 b j) = KD (m ((c : Thread nD τ).loc main_arg0)) (m ((c : Thread nD τ).loc main_arg1)) (m ((c : Thread nD τ).loc main_arg2))
      b ⟨t.val * 32768 + j.val, by have : t.val < 32 := t.isLt; omega⟩ := by
  unfold dist
  refine DIST_eq _ _ _ _ _ _ _ b j _ (cell_tab m c) (fun s => code_at m c t s j) (iblk_1 m c t b) ?_
  unfold xx XX
  refine Finset.sum_congr rfl fun k _ => ?_
  rw [← iblk_0 m c t₀ b k]
  rfl

/-- The squared distances of query `b`'s subvector `s` to codeword `k` of subspace `s`. -/
def SQ (X : S8x128.Idx → EReal) (C : S64x256x2.Idx → EReal) (b : Fin 8) (s : Fin 64) (k : Fin 256) : EReal :=
  ∑ d : Fin 2, (X (ix2 b ⟨s.val * 2 + d.val, by omega⟩) - C (ix3 s k d)) * (X (ix2 b ⟨s.val * 2 + d.val, by omega⟩) - C (ix3 s k d))

/-- The lookup table, where the block of queries and the block of codebooks hold the arguments. -/
theorem LUT_eq (xt : S64x16.Idx → EReal) (cb : S2x2x64x128.Idx → EReal) (X : S8x128.Idx → EReal) (C : S64x256x2.Idx → EReal)
    (b : Fin 8) (s : Fin 64) (k : Fin 256)
    (hx : ∀ i : Fin 16, xt (ix2 s i) = X (ix2 ⟨i.val % 8, by omega⟩ ⟨s.val * 2 + i.val / 8, by omega⟩))
    (hc : ∀ (d h : Fin 2) (l : Fin 128), cb (ix4 d h s l) = C (ix3 s ⟨h.val * 128 + l.val, by omega⟩ d)) :
    LUT xt cb (ix3 b s k) = SQ X C b s k := by
  unfold SQ
  rw [Fin.sum_univ_two]
  have h0 : xt (ix2 s ⟨b.val, by omega⟩) = X (ix2 b ⟨s.val * 2 + (0 : Fin 2).val, by omega⟩) := by
    refine (hx _).trans (congrArg _ (congrArg₂ ix2 (Fin.ext ?_) (Fin.ext ?_)))
    · show b.val % 8 = b.val; omega
    · show s.val * 2 + b.val / 8 = s.val * 2 + 0; omega
  have h1 : xt (ix2 s ⟨8 + b.val, by omega⟩) = X (ix2 b ⟨s.val * 2 + (1 : Fin 2).val, by omega⟩) := by
    refine (hx _).trans (congrArg _ (congrArg₂ ix2 (Fin.ext ?_) (Fin.ext ?_)))
    · show (8 + b.val) % 8 = b.val; omega
    · show s.val * 2 + (8 + b.val) / 8 = s.val * 2 + 1; omega
  have hk (d : Fin 2) : cb (ix4 d ⟨k.val / 128, by omega⟩ s ⟨k.val % 128, by omega⟩) = C (ix3 s k d) := by
    refine (hc d _ _).trans (congrArg _ (congrArg (fun z => ix3 s z d) (Fin.ext ?_)))
    show k.val / 128 * 128 + k.val % 128 = k.val; omega
  show (xt (ix2 s ⟨b.val, _⟩) - cb (ix4 0 ⟨k.val / 128, _⟩ s ⟨k.val % 128, _⟩))
      * (xt (ix2 s ⟨b.val, _⟩) - cb (ix4 0 ⟨k.val / 128, _⟩ s ⟨k.val % 128, _⟩))
    + (xt (ix2 s ⟨8 + b.val, _⟩) - cb (ix4 1 ⟨k.val / 128, _⟩ s ⟨k.val % 128, _⟩))
      * (xt (ix2 s ⟨8 + b.val, _⟩) - cb (ix4 1 ⟨k.val / 128, _⟩ s ⟨k.val % 128, _⟩)) = _
  rw [h0, h1, hk 0, hk 1]

/-- The lookup table the kernel leaves, out of the arguments. -/
theorem lut_apply (c : Dev nD) (b : Fin 8) (s : Fin 64) (k : Fin 256) :
    lut m c (ix3 b s k) = SQ (m ((c : Thread nD τ).loc main_arg0)) (m ((c : Thread nD τ).loc main_arg1)) b s k := by
  unfold lut
  exact LUT_eq _ _ _ _ b s k (iblk_2 m c t₀ s) (fun d h l => iblk_3 m c t₀ d h s l)

/-- The first result after the run, for any function agreeing with what the points leave. -/
theorem arr_5 (c : Dev nD) (G : S8x1048576.Idx → EReal)
    (hG : ∀ (b : Fin 8) (n : Fin 1048576), G (ix2 b n) = KD (m ((c : Thread nD τ).loc main_arg0)) (m ((c : Thread nD τ).loc main_arg1)) (m ((c : Thread nD τ).loc main_arg2)) b n) :
    (dats m 0 c).arrAt 5 cfg0.N = G := by
  refine (dats m 0 c).arrAt_eq_of_covers 5 _ (by decide +kernel) fun t hf y => ?_
  have h := idx_5 t
  rw [after_5]
  obtain ⟨b, j, rfl⟩ : ∃ (b : Fin 8) (j : Fin 32768), y = ix2 b j := ⟨y 0, y 1, by funext a; match a with | ⟨0, _⟩ => rfl | ⟨1, _⟩ => rfl⟩
  refine (dist_apply m c t b j).trans ((hG b _).symm.trans ?_)
  blk_ext [h]

/-- The second result after the run, for any function agreeing with the squared distances. -/
theorem arr_6 (c : Dev nD) (G : S8x64x256.Idx → EReal)
    (hG : ∀ (b : Fin 8) (s : Fin 64) (k : Fin 256), G (ix3 b s k) = SQ (m ((c : Thread nD τ).loc main_arg0)) (m ((c : Thread nD τ).loc main_arg1)) b s k) :
    (dats m 0 c).arrAt 6 cfg0.N = G := by
  refine (dats m 0 c).arrAt_eq_of_covers 6 _ (by decide +kernel) fun t hf y => ?_
  have h := idx_6 t
  rw [after_6]
  obtain ⟨b, s, k, rfl⟩ : ∃ (b : Fin 8) (s : Fin 64) (k : Fin 256), y = ix3 b s k :=
    ⟨y 0, y 1, y 2, by funext a; match a with | ⟨0, _⟩ => rfl | ⟨1, _⟩ => rfl | ⟨2, _⟩ => rfl⟩
  refine (lut_apply m c b s k).trans ((hG b s k).symm.trans ?_)
  blk_ext [h]

end Cert.Proof.KernelIdealTracked

end
-- ==== Proof.Algebra.lean ====
module

public import proofs.«01_k».proof.Proof.BlockValue

@[expose] public section

set_option maxRecDepth 16384

noncomputable section

namespace Cert.Proof.KernelIdealTracked

open Cert.KernelIdeal
open Cert.Proof.KernelIdeal (subOf partE)
open Idealize.ShloMosaic Idealize.ShloMosaic.TcCoe

/-- The reals' finite sums are the extended reals'. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The parts of a real: the first is the number, the others are zero. -/
theorem partE_coe (p : ℕ) (y : ℝ) : partE p (y : EReal) = ((if p = 0 then y else 0 : ℝ) : EReal) := by
  unfold partE
  by_cases h : p = 0
  · rw [if_pos h, if_pos h]
  · rw [if_neg h, if_neg h]
    by_cases h1 : p = 1
    · rw [if_pos h1, ← EReal.coe_sub, sub_self]
    · rw [if_neg h1, ← EReal.coe_sub, sub_self, ← EReal.coe_sub, sub_self]

/-- A sum over groups and rows is the sum over the subspaces. -/
theorem sum_groups (Q : Fin 64 → ℝ) : ∑ r : Fin 8, ∑ g : Fin 8, Q (subOf g r) = ∑ s : Fin 64, Q s := by
  have hb : Function.Bijective (fun p : Fin 8 × Fin 8 => subOf p.2 p.1) := by
    refine (Fintype.bijective_iff_injective_and_card _).mpr ⟨?_, by simp⟩
    rintro ⟨r, g⟩ ⟨r', g'⟩ h
    have h : 32 * (g.val / 4) + 4 * r.val + g.val % 4 = 32 * (g'.val / 4) + 4 * r'.val + g'.val % 4 := congrArg Fin.val h
    have := r.isLt; have := g.isLt; have := r'.isLt; have := g'.isLt
    refine Prod.ext (Fin.ext ?_) (Fin.ext ?_)
    · show r.val = r'.val; omega
    · show g.val = g'.val; omega
  rw [← Fintype.sum_prod_type' (fun (r g : Fin 8) => Q (subOf g r))]
  exact hb.sum_comp Q

/-- A sum over the columns of the queries is the sum over the subspaces and their two coordinates. -/
theorem sum_cols (H : Fin 128 → ℝ) : ∑ k : Fin 128, H k = ∑ s : Fin 64, ∑ d : Fin 2, H ⟨s.val * 2 + d.val, by omega⟩ := by
  have hb : Function.Bijective (fun p : Fin 64 × Fin 2 => (⟨p.1.val * 2 + p.2.val, by omega⟩ : Fin 128)) := by
    refine (Fintype.bijective_iff_injective_and_card _).mpr ⟨?_, by simp⟩
    rintro ⟨s, d⟩ ⟨s', d'⟩ h
    have h : s.val * 2 + d.val = s'.val * 2 + d'.val := congrArg Fin.val h
    have := d.isLt; have := d'.isLt
    refine Prod.ext (Fin.ext ?_) (Fin.ext ?_)
    · show s.val = s'.val; omega
    · show d.val = d'.val; omega
  rw [← Fintype.sum_prod_type' (fun (s : Fin 64) (d : Fin 2) => H ⟨s.val * 2 + d.val, by omega⟩)]
  exact (hb.sum_comp H).symm

/-- No two of the first 128 columns of the weights are made of the same column of the queries. -/
theorem xcol_inj : ∀ k k' : Fin 128, xcol ⟨k.val, by omega⟩ = xcol ⟨k'.val, by omega⟩ → k = k' := by decide +kernel

/-- The weights' column order is a permutation of the queries' columns. -/
theorem sum_perm (H : Fin 128 → ℝ) : ∑ k : Fin 128, H (xcol ⟨k.val, by omega⟩) = ∑ k : Fin 128, H k := by
  have hb : Function.Bijective (fun k : Fin 128 => xcol ⟨k.val, by omega⟩) := by
    exact (Fintype.bijective_iff_injective_and_card _).mpr ⟨fun k k' h => xcol_inj k k' h, rfl⟩
  exact hb.sum_comp H

/-- The kernel's products of weights and parts add up to the products over the columns: of the three times 128 rows only the
    first 128 count. -/
theorem sum_parts (x : Fin 128 → ℝ) (y : Fin 64 → Fin 2 → ℝ) :
    ∑ k : Fin 384, (-2 * x (xcol k)) * (if k.val / 2 / 64 = 0 then
        y (subOf ⟨k.val / 2 % 64 / 8, by omega⟩ ⟨k.val / 2 % 8, by omega⟩) ⟨k.val % 2, by omega⟩ else 0)
      = ∑ s : Fin 64, ∑ d : Fin 2, (-2 * x ⟨s.val * 2 + d.val, by omega⟩) * y s d := by
  rw [show (∑ k : Fin 384, (-2 * x (xcol k)) * (if k.val / 2 / 64 = 0 then
        y (subOf ⟨k.val / 2 % 64 / 8, by omega⟩ ⟨k.val / 2 % 8, by omega⟩) ⟨k.val % 2, by omega⟩ else 0))
      = ∑ k : Fin (128 + 256), (-2 * x (xcol k)) * (if k.val / 2 / 64 = 0 then
        y (subOf ⟨k.val / 2 % 64 / 8, by omega⟩ ⟨k.val / 2 % 8, by omega⟩) ⟨k.val % 2, by omega⟩ else 0) from rfl, Fin.sum_univ_add]
  have h2 : ∑ i : Fin 256, (-2 * x (xcol (Fin.natAdd 128 i))) * (if (Fin.natAdd 128 i).val / 2 / 64 = 0 then
        y (subOf ⟨(Fin.natAdd 128 i).val / 2 % 64 / 8, by omega⟩ ⟨(Fin.natAdd 128 i).val / 2 % 8, by omega⟩) ⟨(Fin.natAdd 128 i).val % 2, by omega⟩ else 0) = 0 := by
    refine Finset.sum_eq_zero fun i _ => ?_
    rw [if_neg (by show ¬ (128 + i.val) / 2 / 64 = 0; omega), mul_zero]
  have h1 : ∑ i : Fin 128, (-2 * x (xcol (Fin.castAdd 256 i))) * (if (Fin.castAdd 256 i).val / 2 / 64 = 0 then
        y (subOf ⟨(Fin.castAdd 256 i).val / 2 % 64 / 8, by omega⟩ ⟨(Fin.castAdd 256 i).val / 2 % 8, by omega⟩) ⟨(Fin.castAdd 256 i).val % 2, by omega⟩ else 0)
      = ∑ i : Fin 128, (fun k : Fin 128 => (-2 * x k) * y ⟨k.val / 2, by omega⟩ ⟨k.val % 2, by omega⟩) (xcol ⟨i.val, by omega⟩) := by
    refine Finset.sum_congr rfl fun i _ => ?_
    have hi := i.isLt
    rw [if_pos (by show i.val / 2 / 64 = 0; omega)]
    refine congrArg₂ (· * ·) rfl (congrArg₂ y (Fin.ext ?_) (Fin.ext ?_))
    · show 32 * (i.val / 2 % 64 / 8 / 4) + 4 * (i.val / 2 % 8) + i.val / 2 % 64 / 8 % 4
        = (i.val % 128 / 64 * 64 + i.val % 128 / 2 % 8 * 8 + i.val % 128 / 16 % 4 * 2 + i.val % 128 % 2) / 2
      omega
    · show i.val % 2 = (i.val % 128 / 64 * 64 + i.val % 128 / 2 % 8 * 8 + i.val % 128 / 16 % 4 * 2 + i.val % 128 % 2) % 2
      omega
  refine (congrArg₂ (· + ·) h1 h2).trans ?_
  rw [add_zero]
  refine (sum_perm (fun k : Fin 128 => (-2 * x k) * y ⟨k.val / 2, by omega⟩ ⟨k.val % 2, by omega⟩)).trans ((sum_cols _).trans ?_)
  refine Finset.sum_congr rfl fun s _ => Finset.sum_congr rfl fun d _ => ?_
  refine congrArg₂ (· * ·) rfl (congrArg₂ y (Fin.ext ?_) (Fin.ext ?_))
  · show (s.val * 2 + d.val) / 2 = s.val; omega
  · show (s.val * 2 + d.val) % 2 = d.val; omega

/-- Over the reals: norms, products with −2 and the query's norm are the squared distances. -/
theorem real_eq (x : Fin 128 → ℝ) (y : Fin 64 → Fin 2 → ℝ) :
    ((∑ r : Fin 8, ∑ g : Fin 8, (y (subOf g r) 0 * y (subOf g r) 0 + y (subOf g r) 1 * y (subOf g r) 1))
      + ∑ k : Fin 384, (-2 * x (xcol k)) * (if k.val / 2 / 64 = 0 then
          y (subOf ⟨k.val / 2 % 64 / 8, by omega⟩ ⟨k.val / 2 % 8, by omega⟩) ⟨k.val % 2, by omega⟩ else 0))
      + ∑ k : Fin 128, x k * x k
      = ∑ s : Fin 64, ∑ d : Fin 2, (x ⟨s.val * 2 + d.val, by omega⟩ - y s d) * (x ⟨s.val * 2 + d.val, by omega⟩ - y s d) := by
  rw [sum_parts, sum_groups (fun s => y s 0 * y s 0 + y s 1 * y s 1), sum_cols (fun k => x k * x k),
    ← Finset.sum_add_distrib, ← Finset.sum_add_distrib]
  refine Finset.sum_congr rfl fun s _ => ?_
  simp only [Fin.sum_univ_two]
  ring

/-- Where queries and codebooks are finite, what the kernel computes is the sum over the subspaces of the squared distances to
    the codewords the codes name. -/
theorem KD_eq (X : S8x128.Idx → EReal) (C : S64x256x2.Idx → EReal) (W : S1048576x64.Idx → BitVec 8)
    (hX : ∀ i, ∃ r : ℝ, X i = (r : EReal)) (hC : ∀ i, ∃ r : ℝ, C i = (r : EReal)) (b : Fin 8) (n : Fin 1048576) :
    KD X C W b n = ∑ s : Fin 64, SQ X C b s ⟨(W (ix2 n s)).toNat, (W (ix2 n s)).isLt⟩ := by
  choose x hx using hX
  choose y hy using hC
  have h := congrArg (Real.toEReal) (real_eq (fun k => x (ix2 b k)) (fun s d => y (ix3 s ⟨(W (ix2 n s)).toNat, (W (ix2 n s)).isLt⟩ d)))
  unfold KD SQ
  simp only [hx, hy, partE_coe]
  simp only [EReal.coe_add, coe_sum, EReal.coe_mul, EReal.coe_sub] at h
  exact h

end Cert.Proof.KernelIdealTracked

end
-- ==== Proof.Finite.lean ====
module

public import proofs.«01_k».proof.Pre_finite
public import Idealize.ShloMosaic.Lib.Pointwise

@[expose] public section

noncomputable section

namespace Cert.Proof.Finite

open Cert.Pre_finite
open Idealize.ShloMosaic

/-- The side conditions the predicate states. -/
theorem facts : Cert.Pre_finite.Facts where
  bcast_S_S8x128 := by decide
  bcast_S_S64x256x2 := by decide

/-- An extended real whose absolute value is below infinity is a real. -/
theorem real_of_lt (x : EReal) (h : Ideal.cmp .olt (max x (-x)) ⊤ = 1#1) : ∃ r : ℝ, x = (r : EReal) := by
  have hlt : max x (-x) < ⊤ := by
    by_contra hn
    simp [Ideal.cmp, hn] at h
  have h1 : x < ⊤ := lt_of_le_of_lt (le_max_left _ _) hlt
  have h2 : -x < ⊤ := lt_of_le_of_lt (le_max_right _ _) hlt
  refine ⟨x.toReal, (EReal.coe_toReal (ne_of_lt h1) ?_).symm⟩
  rintro rfl
  simp at h2

/-- The predicate says that the queries are reals, -/
theorem finite_fst [Cert.Pre_finite.Facts] (X : FVec Ideal S8x128 .bf16) (C : FVec Ideal S64x256x2 .f32) (W : IVec S1048576x64 8)
    (h : (fn (F := Ideal) X C W).1 = fun _ => 1#1) (i : S8x128.Idx) : ∃ r : ℝ, X i = (r : EReal) := by
  have htop : Ideal.ofBits .bf16 0x7F80#16 = ⊤ := by simp [Ideal.ofBits, Ideal.ieee]
  have hi : Ideal.cmp .olt (max (X i : EReal) (-(X i : EReal))) (Ideal.ofBits .bf16 0x7F80#16) = 1#1 := congrFun h i
  rw [htop] at hi
  exact real_of_lt _ hi

/-- and that the codebooks are. -/
theorem finite_snd [Cert.Pre_finite.Facts] (X : FVec Ideal S8x128 .bf16) (C : FVec Ideal S64x256x2 .f32) (W : IVec S1048576x64 8)
    (h : (fn (F := Ideal) X C W).2 = fun _ => 1#1) (i : S64x256x2.Idx) : ∃ r : ℝ, C i = (r : EReal) := by
  have htop : Ideal.ofBits .f32 0x7F800000#32 = ⊤ := by simp [Ideal.ofBits, Ideal.ieee]
  have hi : Ideal.cmp .olt (max (C i : EReal) (-(C i : EReal))) (Ideal.ofBits .f32 0x7F800000#32) = 1#1 := congrFun h i
  rw [htop] at hi
  exact real_of_lt _ hi

end Cert.Proof.Finite

end
-- ==== Proof.RefValue.lean ====
module

public import proofs.«01_k».proof.Proof.Gen.ReferenceIdeal.Run
public import Idealize.ShloMosaic.Lib.Pointwise
public import Idealize.ShloMosaic.Lib.Tactic.WordOmega

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic
open Idealize.SL Idealize.SL.Sem

/-- The reference's second result as its composed term: the squared distances of subqueries to codewords. -/
def rlut (X : FVec Ideal S8x128 .bf16) (C : FVec Ideal S64x256x2 .f32) : FVec Ideal S8x64x256 .f32 :=
  Host.reduceAdd (mulf (subf (broadcastInDim S8x64x256x2 ![0, 1, 2, 3] bcast_S8x64x1x2_S8x64x256x2_0_1_2_3 (broadcastInDim S8x64x1x2 ![0, 1, 3] bcast_S8x64x2_S8x64x1x2_0_1_3 (shapeCast _ (extf .f32 X bitsLt_bf16_f32) shapeCasts_S8x128_S8x64x2))) (broadcastInDim S8x64x256x2 ![0, 1, 2, 3] bcast_S1x64x256x2_S8x64x256x2_0_1_2_3 (broadcastInDim S1x64x256x2 ![1, 2, 3] bcast_S64x256x2_S1x64x256x2_1_2_3 C))) (subf (broadcastInDim S8x64x256x2 ![0, 1, 2, 3] bcast_S8x64x1x2_S8x64x256x2_0_1_2_3 (broadcastInDim S8x64x1x2 ![0, 1, 3] bcast_S8x64x2_S8x64x1x2_0_1_3 (shapeCast _ (extf .f32 X bitsLt_bf16_f32) shapeCasts_S8x128_S8x64x2))) (broadcastInDim S8x64x256x2 ![0, 1, 2, 3] bcast_S1x64x256x2_S8x64x256x2_0_1_2_3 (broadcastInDim S1x64x256x2 ![1, 2, 3] bcast_S64x256x2_S1x64x256x2_1_2_3 C)))) (constant S_ .f32 0x00000000#32) reducesTo_S8x64x256x2_S8x64x256_d3 h_S_

/-- The reference's lookup indices as their composed term: for a code, its subspace and its word. -/
def ridx (W : IVec S1048576x64 8) : IVec S1048576x64x2 32 :=
  (concatenate S1048576x64x2 2 [⟨S1048576x64x1, (broadcastInDim S1048576x64x1 ![0, 1] bcast_S1048576x64_S1048576x64x1_0_1 (broadcastInDim S1048576x64 ![0, 1] bcast_S1x64_S1048576x64_0_1 (select (cmpi .slt (broadcastInDim S1x64 ![1] bcast_S64_S1x64_1 (iotaInDim S64 32 0)) (broadcastInDim S1x64 ![] bcast_S_S1x64 (constantI S_ 32 0#32))) (addi (broadcastInDim S1x64 ![1] bcast_S64_S1x64_1 (iotaInDim S64 32 0)) (broadcastInDim S1x64 ![] bcast_S_S1x64 (constantI S_ 32 64#32))) (broadcastInDim S1x64 ![1] bcast_S64_S1x64_1 (iotaInDim S64 32 0)))))⟩, ⟨S1048576x64x1, (broadcastInDim S1048576x64x1 ![0, 1] bcast_S1048576x64_S1048576x64x1_0_1 (select (cmpi .slt (extui 32 W natLt_8_32) (broadcastInDim S1048576x64 ![] bcast_S_S1048576x64 (constantI S_ 32 0#32))) (addi (extui 32 W natLt_8_32) (broadcastInDim S1048576x64 ![] bcast_S_S1048576x64 (constantI S_ 32 256#32))) (extui 32 W natLt_8_32)))⟩] concatenates_S1048576x64x1_S1048576x64x1_S1048576x64x2_d2)

/-- The reference's first result as its composed term: the looked up entries added over the subspaces. -/
def rdist (X : FVec Ideal S8x128 .bf16) (C : FVec Ideal S64x256x2 .f32) (W : IVec S1048576x64 8) : FVec Ideal S8x1048576 .bf16 :=
  truncf .bf16 (Host.reduceAdd (Host.gather gather_S8x64x256_S1048576x64x2_S8x1048576x64_0_12_n_n_12_2_811 (rlut X C) (ridx W)) (constant S_ .f32 0x00000000#32) reducesTo_S8x1048576x64_S8x1048576_d2 h_S_) bitsLt_bf16_f32

/-- The reference runs and leaves `rdist` and `rlut` of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = rdist (m ((c.tc : Thread nD τ).loc main_arg0)) (m ((c.tc : Thread nD τ).loc main_arg1)) (m ((c.tc : Thread nD τ).loc main_arg2))
      ∧ r.2.mem ((c.tc : Thread nD τ).loc main_v8) = rlut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

/-- The squared distance of query `q`'s subvector `s` to codeword `k` of subspace `s`. -/
def sq (X : FVec Ideal S8x128 .bf16) (C : FVec Ideal S64x256x2 .f32) (q : Fin 8) (s : Fin 64) (k : Fin 256) : EReal :=
  ∑ d : Fin 2, (X (ix2 q ⟨s.val * 2 + d.val, by omega⟩) - C (ix3 s k d)) * (X (ix2 q ⟨s.val * 2 + d.val, by omega⟩) - C (ix3 s k d))

/-- An entry of the second result. -/
theorem rlut_apply (X : FVec Ideal S8x128 .bf16) (C : FVec Ideal S64x256x2 .f32) (q : Fin 8) (s : Fin 64) (k : Fin 256) :
    rlut X C (ix3 q s k) = sq X C q s k := by
  unfold sq
  pointwise [rlut]

/-- Below half the range a word is not negative, so wrapping a negative word leaves it. -/
theorem wrap_eq (v k : BitVec 32) (h : v.toNat < 2147483648) :
    (Scalar.select (IntOp.cmpi CmpIPredicate.slt v 0#32) (IntOp.addi v k) v).toInt.toNat = v.toNat := by
  have hs : IntOp.cmpi CmpIPredicate.slt v 0#32 = 0#1 := by
    have : v.slt 0#32 = false := by
      rw [BitVec.slt_eq_decide, decide_eq_false_iff_not, BitVec.toInt_eq_toNat_of_lt (by omega)]
      simp
    simp [IntOp.cmpi, this]
  rw [hs]
  show v.toInt.toNat = _
  rw [BitVec.toInt_eq_toNat_of_lt (by omega)]
  rfl

/-- The lookup's start index names the subspace, -/
theorem ridx_zero (W : IVec S1048576x64 8) (n : Fin 1048576) (s : Fin 64) :
    (ridx W (ix3 n s 0)).toInt.toNat = s.val := by
  have h : (BitVec.ofNat 32 s.val).toNat = s.val := by
    rw [BitVec.toNat_ofNat]; exact Nat.mod_eq_of_lt (by omega)
  pointwise [ridx]
  rw [wrap_eq _ _ (by rw [h]; omega), h]

/-- and the code. -/
theorem ridx_one (W : IVec S1048576x64 8) (n : Fin 1048576) (s : Fin 64) :
    (ridx W (ix3 n s 1)).toInt.toNat = (W (ix2 n s)).toNat := by
  have h : (BitVec.setWidth 32 (W (ix2 n s))).toNat = (W (ix2 n s)).toNat := by
    have := (W (ix2 n s)).isLt
    rw [BitVec.toNat_setWidth]; exact Nat.mod_eq_of_lt (by omega)
  have hl := (W (ix2 n s)).isLt
  pointwise [ridx]
  rw [wrap_eq _ _ (by rw [h]; omega), h]

/-- The lookup's dimension numbers: the operand's last two axes are looked up, its first is kept. -/
abbrev pairDims (wf : GatherDims.WF S8x64x256 S1048576x64x2 S8x1048576x64 [0] [1, 2] [] [1, 2] [] 2 ![8, 1, 1]) :
    GatherDims S8x64x256 S1048576x64x2 S8x1048576x64 where
  offsetDims := [0]
  collapsedSliceDims := [1, 2]
  operandBatchingDims := []
  startIndicesBatchingDims := []
  startIndexMap := [1, 2]
  indexVectorDim := 2
  sliceSizes := ![8, 1, 1]
  wf := wf

/-- The lookup at an index: the operand at the start index's two words, clamped. -/
theorem gather_pair_apply (wf : GatherDims.WF S8x64x256 S1048576x64x2 S8x1048576x64 [0] [1, 2] [] [1, 2] [] 2 ![8, 1, 1])
    (x : FVec Ideal S8x64x256 .f32) (idx : IVec S1048576x64x2 32) (q : Fin 8) (n : Fin 1048576) (s : Fin 64) :
    Host.gather (pairDims wf) x idx (ix3 q n s)
      = x (ix3 q ⟨min (idx (ix3 n s 0)).toInt.toNat 63, by omega⟩ ⟨min (idx (ix3 n s 1)).toInt.toNat 255, by omega⟩) := by
  have n0 : ¬ (0 : Fin 3) ∈ ([1, 2] : List (Fin 3)) := by decide
  have m1 : (1 : Fin 3) ∈ ([1, 2] : List (Fin 3)) := by decide
  have m2 : (2 : Fin 3) ∈ ([1, 2] : List (Fin 3)) := by decide
  unfold Host.gather
  refine congrArg x ?_
  funext a
  refine Fin.ext ?_
  show (pairDims wf).start (ix3 q n s) idx a + (pairDims wf).batchCoord (ix3 q n s) a
      + (pairDims wf).offCoord (ix3 q n s) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start GatherDims.offCoord
    rw [dif_neg (show ¬ (0 : Fin 3) ∈ (pairDims wf).startIndexMap from n0),
      dif_pos (show (0 : Fin 3) ∈ (pairDims wf).sKept from
        (GatherDims.mem_sKept (pairDims wf) 0).mpr ⟨n0, List.not_mem_nil⟩)]
    simp only [Nat.zero_add]
    rfl
  · rw [GatherDims.offCoord_eq_zero _ _ _ (fun h => ((GatherDims.mem_sKept _ _).mp h).1 m1)]
    simp only [Nat.add_zero]
    unfold GatherDims.start
    rw [dif_pos (show (1 : Fin 3) ∈ (pairDims wf).startIndexMap from m1)]
    have hsi : (pairDims wf).siIdx (ix3 q n s) ⟨List.idxOf (1 : Fin 3) (pairDims wf).startIndexMap,
        List.idxOf_lt_length_iff.2 m1⟩ = ix3 n s 0 := by
      funext b; refine Fin.ext ?_
      match b with
      | ⟨0, _⟩ => rfl
      | ⟨1, _⟩ => rfl
      | ⟨2, _⟩ => rfl
    rw [hsi]
    rfl
  · rw [GatherDims.offCoord_eq_zero _ _ _ (fun h => ((GatherDims.mem_sKept _ _).mp h).1 m2)]
    simp only [Nat.add_zero]
    unfold GatherDims.start
    rw [dif_pos (show (2 : Fin 3) ∈ (pairDims wf).startIndexMap from m2)]
    have hsi : (pairDims wf).siIdx (ix3 q n s) ⟨List.idxOf (2 : Fin 3) (pairDims wf).startIndexMap,
        List.idxOf_lt_length_iff.2 m2⟩ = ix3 n s 1 := by
      funext b; refine Fin.ext ?_
      match b with
      | ⟨0, _⟩ => rfl
      | ⟨1, _⟩ => rfl
      | ⟨2, _⟩ => rfl
    rw [hsi]
    rfl

/-- The same of the program's own record. -/
theorem gather_apply (x : FVec Ideal S8x64x256 .f32) (idx : IVec S1048576x64x2 32) (q : Fin 8) (n : Fin 1048576) (s : Fin 64) :
    Host.gather gather_S8x64x256_S1048576x64x2_S8x1048576x64_0_12_n_n_12_2_811 x idx (ix3 q n s)
      = x (ix3 q ⟨min (idx (ix3 n s 0)).toInt.toNat 63, by omega⟩ ⟨min (idx (ix3 n s 1)).toInt.toNat 255, by omega⟩) :=
  gather_pair_apply _ x idx q n s

/-- An entry of the first result: the squared distances to the codewords named by the codes, added up. -/
theorem rdist_apply (X : FVec Ideal S8x128 .bf16) (C : FVec Ideal S64x256x2 .f32) (W : IVec S1048576x64 8)
    (q : Fin 8) (n : Fin 1048576) :
    rdist X C W (ix2 q n) = ∑ s : Fin 64, sq X C q s ⟨(W (ix2 n s)).toNat, (W (ix2 n s)).isLt⟩ := by
  pointwise [rdist]
  refine Finset.sum_congr rfl fun s _ => ?_
  rw [gather_apply, rlut_apply]
  have hl := (W (ix2 n s)).isLt
  refine congrArg₂ (sq X C q) (Fin.ext ?_) (Fin.ext ?_)
  · show min _ _ = _
    rw [ridx_zero]; exact Nat.min_eq_left (by omega)
  · show min _ _ = _
    rw [ridx_one]; exact Nat.min_eq_left (by omega)

end Cert.Proof.ReferenceIdeal

end
-- ==== Proof.Algebraic.lean ====
module

public import proofs.«01_k».proof.Defs
public import proofs.«01_k».proof.Proof.Algebra
public import proofs.«01_k».proof.Proof.Finite
public import proofs.«01_k».proof.Proof.RefValue

@[expose] public section

noncomputable section

namespace Cert.Proof.KernelIdealTracked

open Cert.KernelIdeal Cert.KernelIdeal.Gen
open Idealize.ShloMosaic Idealize.ShloMosaic.TcCoe
open Idealize.SL Idealize.SL.Sem

/-- The idealized kernel's run, for any functions agreeing with the distances and with the squared distances: the results are
    these functions and the arguments end unchanged. -/
theorem run_value (m : (ℓ : Loc nD τ sig) → Buf (Elt Ideal) ℓ) (ρ : Dev nD → PrngReg)
    (G0 : Dev nD → S8x1048576.Idx → EReal) (G1 : Dev nD → S8x64x256.Idx → EReal)
    (h0 : ∀ c b n, G0 c (ix2 b n) = KD (m ((c : Thread nD τ).loc main_arg0)) (m ((c : Thread nD τ).loc main_arg1)) (m ((c : Thread nD τ).loc main_arg2)) b n)
    (h1 : ∀ c b s k, G1 c (ix3 b s k) = SQ (m ((c : Thread nD τ).loc main_arg0)) (m ((c : Thread nD τ).loc main_arg1)) b s k) :
    θ_run defs (onTc (τ := τ) (main (F := Ideal))) ⟨m, fun _ => 0, ρ⟩ (fun r => ∀ c : Dev nD,
      r.2.mem ((c.tc : Thread nD τ).loc main_v16_0) = G0 c
      ∧ r.2.mem ((c.tc : Thread nD τ).loc main_v16_1) = G1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(Pipeline.FramePost.out_eq h c 5).trans (arr_5 m c (G0 c) (h0 c)),
      (Pipeline.FramePost.out_eq h c 6).trans (arr_6 m c (G1 c) (h1 c)),
      (Pipeline.FramePost.in_eq h c 0 rfl).trans ((A_eq m c 0).trans (V_main_arg0 m c)),
      (Pipeline.FramePost.rest_eq h c main_arg1 (Pipeline.mem_restRefs_of main_arg1 (by decide) (by decide))).trans (V_main_arg1 m c),
      (Pipeline.FramePost.rest_eq h c main_arg2 (Pipeline.mem_restRefs_of main_arg2 (by decide) (by decide))).trans (V_main_arg2 m c)⟩)
    (run_main m ρ)

end Cert.Proof.KernelIdealTracked

namespace Cert.Proof

open Idealize.ShloMosaic Idealize.ShloMosaic.TcCoe
open Idealize.SL Idealize.SL.Sem

/-- From memories agreeing on the arguments, queries and codebooks finite, the idealized kernel and the idealized reference
    both run and end with equal results, over the extended reals, and unchanged arguments. -/
theorem algebraic : Cert.algebraic_KernelIdeal_ReferenceIdeal_pre_finite (hKernelIdeal := Cert.KernelIdeal.Gen.facts)
    (hReferenceIdeal := Cert.ReferenceIdeal.Gen.facts) (hPre_finite := Cert.Proof.Finite.facts) := by
  intro m g m' g' hpre hargs
  refine ⟨fun c => ReferenceIdeal.rdist (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => ReferenceIdeal.rlut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine KernelIdealTracked.run_value m g _ _ (fun c b n => ?_) (fun c b s k => ?_)
    · refine (ReferenceIdeal.rdist_apply _ _ _ b n).trans ?_
      exact (KernelIdealTracked.KD_eq _ _ _
        (@Finite.finite_fst Cert.Proof.Finite.facts _ _ _ (hpre c).1) (@Finite.finite_snd Cert.Proof.Finite.facts _ _ _ (hpre c).2) b n).symm
    · exact ReferenceIdeal.rlut_apply _ _ b s k
  · refine (θ_run _ _ _).mono (fun r h c => ?_) (ReferenceIdeal.run m' g')
    obtain ⟨e0, e1, e2⟩ := hargs c
    obtain ⟨r0, r1, r2⟩ := h c
    rw [e0, e1, e2] at r0
    rw [e0, e1] at r1
    exact ⟨r0, r1, r2⟩

end Cert.Proof

end
-- ==== Proof.lean ====
module

public import proofs.«01_k».proof.Defs
public import proofs.«01_k».proof.Proof.Claims
public import proofs.«01_k».proof.Proof.Algebraic

@[expose] public section

noncomputable section

namespace Cert.Proof

/-- The claims, under the facts the generated modules prove and the predicate's: a frame needs no precondition. -/
theorem claim : Cert.Claim := ⟨Cert.Kernel.Gen.facts, Cert.KernelIdeal.Gen.facts, Cert.ReferenceIdeal.Gen.facts, Finite.facts,
  frameKernel, frameKernelIdeal, fun m g _ => frameKernelIdeal m g trivial,
  frameReferenceIdeal, fun m g _ => frameReferenceIdeal m g trivial, preserves, algebraic⟩

end Cert.Proof

end
